-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_over_temp" .f32 0x4003E74F#32 (((Real.log 2)⁻¹ * (7 / 10)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S64x1x1024 : Shape := ⟨3, ![64, 1, 1024]⟩
abbrev S1024x32000 : Shape := ⟨2, ![1024, 32000]⟩
abbrev S32000 : Shape := ⟨1, ![32000]⟩
abbrev S64x1024 : Shape := ⟨2, ![64, 1024]⟩
abbrev S_ : Shape := ⟨0, ![]⟩
abbrev S64 : Shape := ⟨1, ![64]⟩
abbrev S64x1 : Shape := ⟨2, ![64, 1]⟩

class Facts : Prop where
  shapeCasts_S64x1x1024_S64x1024 : S64x1x1024.ShapeCasts S64x1024
  bitsLt_bf16_f32 : FTy.bits .bf16 < FTy.bits .f32
  reducesTo_S64x1024_S64_d1 : S64x1024.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S_S64x1024 : S_.BroadcastsInDim S64x1024 (![] : Fin 0 → Fin S64x1024.rank)
  bcast_S64x1_S64x1024_0_1 : S64x1.BroadcastsInDim S64x1024 (![0, 1] : Fin 2 → Fin S64x1024.rank)

variable [Facts]

def fn {F : FTy → Type} [FloatOps F] (main_arg0 : FVec F S64x1x1024 .bf16) (main_arg1 : FVec F S1024x32000 .fp8e4m3) (main_arg2 : FVec F S32000 .f32) : IVec S64x1024 1 :=
  let main_v0 : FVec F S64x1024 .bf16 := shapeCast S64x1024 main_arg0 shapeCasts_S64x1x1024_S64x1024
  let main_v1 : FVec F S64x1024 .f32 := (extf .f32 · bitsLt_bf16_f32) main_v0
  let main_v2 : FVec F S64x1024 .f32 := Host.absf main_v1
  let main_cst : FVec F S_ .f32 := constant S_ .f32 0xFF800000#32
  let main_v3 : FVec F S64 .f32 := (fun x v => Host.reduce FloatOps.maximumf x v reducesTo_S64x1024_S64_d1 h_S_) main_v2 main_cst
  let main_v4 : FVec F S64x1 .f32 := broadcastInDim S64x1 ![0] bcast_S64_S64x1_0 main_v3
  let main_cst_0 : FVec F S_ .f32 := constant S_ .f32 0x3B124925#32
  let main_v5 : FVec F S64x1 .f32 := broadcastInDim S64x1 ![] bcast_S_S64x1 main_cst_0
  let main_v6 : FVec F S64x1 .f32 := mulf main_v4 main_v5
  let main_cst_1 : FVec F S_ .f32 := constant S_ .f32 0x7F7F0000#32
  let main_v7 : FVec F S64x1024 .f32 := broadcastInDim S64x1024 ![] bcast_S_S64x1024 main_cst_1
  let main_v8 : IVec S64x1024 1 := cmpf .ole main_v2 main_v7
  let main_cst_2 : FVec F S_ .f32 := constant S_ .f32 0x00000000#32
  let main_v9 : FVec F S64x1 .f32 := broadcastInDim S64x1 ![] bcast_S_S64x1 main_cst_2
  let main_v10 : IVec S64x1 1 := cmpf .oeq main_v6 main_v9
  let main_cst_3 : FVec F S_ .f32 := constant S_ .f32 0x00800000#32
  let main_v11 : FVec F S64x1 .f32 := broadcastInDim S64x1 ![] bcast_S_S64x1 main_cst_3
  let main_v12 : IVec S64x1 1 := cmpf .oge main_v6 main_v11
  let main_v13 : IVec S64x1 1 := ori main_v10 main_v12
  let main_v14 : IVec S64x1024 1 := broadcastInDim S64x1024 ![0, 1] bcast_S64x1_S64x1024_0_1 main_v13
  let main_v15 : IVec S64x1024 1 := andi main_v8 main_v14
  main_v15
-- ==== Kernel.lean ====
abbrev S64x1x1024 : Shape := ⟨3, ![64, 1, 1024]⟩
abbrev S1024x32000 : Shape := ⟨2, ![1024, 32000]⟩
abbrev S32000 : Shape := ⟨1, ![32000]⟩
abbrev S64x1024 : Shape := ⟨2, ![64, 1024]⟩
abbrev S250x128 : Shape := ⟨2, ![250, 128]⟩
abbrev S64x32000 : Shape := ⟨2, ![64, 32000]⟩
abbrev S1x64 : Shape := ⟨2, ![1, 64]⟩
abbrev S8x1024x1280 : Shape := ⟨3, ![8, 1024, 1280]⟩
abbrev S25x64x128 : Shape := ⟨3, ![25, 64, 128]⟩
abbrev S64x128 : Shape := ⟨2, ![64, 128]⟩
abbrev S6 : Shape := ⟨1, ![6]⟩
abbrev S8 : Shape := ⟨1, ![8]⟩
abbrev S8x128 : Shape := ⟨2, ![8, 128]⟩
abbrev S1 : Shape := ⟨1, ![1]⟩
abbrev S_ : Shape := ⟨0, ![]⟩
abbrev S1x1024x1280 : Shape := ⟨3, ![1, 1024, 1280]⟩
abbrev S1024x1280 : Shape := ⟨2, ![1024, 1280]⟩
abbrev S8x1024 : Shape := ⟨2, ![8, 1024]⟩
abbrev S8x1 : Shape := ⟨2, ![8, 1]⟩
abbrev S128 : Shape := ⟨1, ![128]⟩
abbrev S1x128 : Shape := ⟨2, ![1, 128]⟩
abbrev S64x1280 : Shape := ⟨2, ![64, 1280]⟩
abbrev S1x8x128 : Shape := ⟨3, ![1, 8, 128]⟩
abbrev S8x32000 : Shape := ⟨2, ![8, 32000]⟩

abbrev nBuf : Space → Nat
  | .hbm => 8
  | .vmem => 10
  | .smem => 0
  | _ => 0

abbrev bufTy : (tb : Table) → Fin (tcTables nBuf tb) → BufTy
  | .hbm, ⟨0, _⟩ => ⟨S64x1x1024, .bf16⟩
  | .hbm, ⟨1, _⟩ => ⟨S1024x32000, .fp8e4m3⟩
  | .hbm, ⟨2, _⟩ => ⟨S32000, .f32⟩
  | .hbm, ⟨3, _⟩ => ⟨S64x1024, .bf16⟩
  | .hbm, ⟨4, _⟩ => ⟨S250x128, .f32⟩
  | .hbm, ⟨5, _⟩ => ⟨S64x32000, .f32⟩
  | .hbm, ⟨6, _⟩ => ⟨S64x1024, .fp8e4m3⟩
  | .hbm, ⟨7, _⟩ => ⟨S1x64, .f32⟩
  | .local _ .vmem, ⟨0, _⟩ => ⟨S64x1024, .bf16⟩
  | .local _ .vmem, ⟨1, _⟩ => ⟨S64x1024, .fp8e4m3⟩
  | .local _ .vmem, ⟨2, _⟩ => ⟨S8x1024x1280, .fp8e4m3⟩
  | .local _ .vmem, ⟨3, _⟩ => ⟨S250x128, .f32⟩
  | .local _ .vmem, ⟨4, _⟩ => ⟨S64x32000, .f32⟩
  | .local _ .vmem, ⟨5, _⟩ => ⟨S25x64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x64, .f32⟩
  | _, _ => ⟨S64x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c1280_i32 : BitVec 32 := 1280#32
  c1280_i32
def k0_mult3 : BitVec 32 :=
  let c2560_i32 : BitVec 32 := 2560#32
  c2560_i32
def k0_mult4 : BitVec 32 :=
  let c3840_i32 : BitVec 32 := 3840#32
  c3840_i32
def k0_mult5 : BitVec 32 :=
  let c5120_i32 : BitVec 32 := 5120#32
  c5120_i32
def k0_mult6 : BitVec 32 :=
  let c6400_i32 : BitVec 32 := 6400#32
  c6400_i32
def k0_mult7 : BitVec 32 :=
  let c7680_i32 : BitVec 32 := 7680#32
  c7680_i32
def k0_mult8 : BitVec 32 :=
  let c8960_i32 : BitVec 32 := 8960#32
  c8960_i32
@[reducible] def k0_t1_loop : Scf.Loop 32 :=
  let c0_i32_397 : BitVec 32 := 0#32
  let c25_i32 : BitVec 32 := 25#32
  let v1028 : BitVec 32 := Scalar.addi c0_i32_397 c25_i32
  let c1_i32_398 : BitVec 32 := 1#32
  ⟨c0_i32_397, v1028, c1_i32_398⟩
def k0_mult9 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_560 : BitVec 32 := 1280#32
  let v1271 : BitVec 32 := Scalar.muli v1269 c1280_i32_560
  v1271
def k0_off1 (k0_t1 : Fin k0_t1_loop.trips) : Fin 1 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.remsi v1269 c8_i32_559
  ![v1270.toNat]
def k0_off2 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.remsi v1269 c8_i32_559
  let c0_i32_561 : BitVec 32 := 0#32
  let c0_i32_562 : BitVec 32 := 0#32
  ![v1270.toNat, 0, 0]
def k0_off3 (k0_t1 : Fin k0_t1_loop.trips) : Fin 2 → Nat :=
  let c0_i32_563 : BitVec 32 := 0#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_560 : BitVec 32 := 1280#32
  let v1271 : BitVec 32 := Scalar.muli v1269 c1280_i32_560
  let v1272 : BitVec 32 := v1271
  ![0, v1272.toNat]
def k0_off4 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.remsi v1269 c8_i32_559
  let v1279 : Index := Scalar.indexCast v1270
  let c0_566 : Index := 0#32
  let c0_567 : Index := 0#32
  ![v1279.toNat, 0, 0]
def k0_off5 (k0_t1 : Fin k0_t1_loop.trips) (c0_i32_570 : BitVec 32) : Fin 2 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c10_i32 : BitVec 32 := 10#32
  let v1284 : BitVec 32 := Scalar.muli v1269 c10_i32
  let v1285 : BitVec 32 := Scalar.addi v1284 c0_i32_570
  let v1286 : Index := Scalar.indexCast v1285
  let c0_571 : Index := 0#32
  ![v1286.toNat, 0]
def k0_mult10 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_612 : BitVec 32 := 0#32
  let v1398 : BitVec 32 := Scalar.addi v1283 c0_i32_612
  v1398
def k0_off6 (k0_t1 : Fin k0_t1_loop.trips) (c0_i32_612 : BitVec 32) : Fin 2 → Nat :=
  let c0_613 : Index := 0#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v1398 : BitVec 32 := Scalar.addi v1283 c0_i32_612
  let v1399 : BitVec 32 := v1398
  let v1400 : Index := Scalar.indexCast v1399
  ![0, v1400.toNat]
def k0_mult11 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_614 : BitVec 32 := 128#32
  let v1406 : BitVec 32 := Scalar.addi v1283 c128_i32_614
  v1406
def k0_mult12 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32 : BitVec 32 := 256#32
  let v1414 : BitVec 32 := Scalar.addi v1283 c256_i32
  v1414
def k0_mult13 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32 : BitVec 32 := 384#32
  let v1422 : BitVec 32 := Scalar.addi v1283 c384_i32
  v1422
def k0_mult14 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32 : BitVec 32 := 512#32
  let v1430 : BitVec 32 := Scalar.addi v1283 c512_i32
  v1430
def k0_mult15 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32 : BitVec 32 := 640#32
  let v1438 : BitVec 32 := Scalar.addi v1283 c640_i32
  v1438
def k0_mult16 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32 : BitVec 32 := 768#32
  let v1446 : BitVec 32 := Scalar.addi v1283 c768_i32
  v1446
def k0_mult17 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32 : BitVec 32 := 896#32
  let v1454 : BitVec 32 := Scalar.addi v1283 c896_i32
  v1454
def k0_mult18 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32 : BitVec 32 := 1024#32
  let v1462 : BitVec 32 := Scalar.addi v1283 c1024_i32
  v1462
def k0_mult19 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32 : BitVec 32 := 1152#32
  let v1470 : BitVec 32 := Scalar.addi v1283 c1152_i32
  v1470
def k0_off7 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v1496 : Index := Scalar.indexCast v1269
  let c0_630 : Index := 0#32
  let c0_631 : Index := 0#32
  ![v1496.toNat, 0, 0]
def k0_mult20 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_636 : BitVec 32 := 0#32
  let v1554 : BitVec 32 := Scalar.addi v1283 c0_i32_636
  v1554
def k0_off8 (k0_t1 : Fin k0_t1_loop.trips) (c0_i32_636 : BitVec 32) : Fin 2 → Nat :=
  let c8_637 : Index := 8#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v1554 : BitVec 32 := Scalar.addi v1283 c0_i32_636
  let v1555 : BitVec 32 := v1554
  let v1556 : Index := Scalar.indexCast v1555
  ![8, v1556.toNat]
def k0_mult21 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_638 : BitVec 32 := 128#32
  let v1562 : BitVec 32 := Scalar.addi v1283 c128_i32_638
  v1562
def k0_mult22 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_640 : BitVec 32 := 256#32
  let v1570 : BitVec 32 := Scalar.addi v1283 c256_i32_640
  v1570
def k0_mult23 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_642 : BitVec 32 := 384#32
  let v1578 : BitVec 32 := Scalar.addi v1283 c384_i32_642
  v1578
def k0_mult24 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_644 : BitVec 32 := 512#32
  let v1586 : BitVec 32 := Scalar.addi v1283 c512_i32_644
  v1586
def k0_mult25 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_646 : BitVec 32 := 640#32
  let v1594 : BitVec 32 := Scalar.addi v1283 c640_i32_646
  v1594
def k0_mult26 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_648 : BitVec 32 := 768#32
  let v1602 : BitVec 32 := Scalar.addi v1283 c768_i32_648
  v1602
def k0_mult27 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_650 : BitVec 32 := 896#32
  let v1610 : BitVec 32 := Scalar.addi v1283 c896_i32_650
  v1610
def k0_mult28 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_652 : BitVec 32 := 1024#32
  let v1618 : BitVec 32 := Scalar.addi v1283 c1024_i32_652
  v1618
def k0_mult29 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_654 : BitVec 32 := 1152#32
  let v1626 : BitVec 32 := Scalar.addi v1283 c1152_i32_654
  v1626
def k0_off9 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v1652 : Index := Scalar.indexCast v1269
  let c8_662 : Index := 8#32
  let c0_663 : Index := 0#32
  ![v1652.toNat, 8, 0]
def k0_mult30 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_668 : BitVec 32 := 0#32
  let v1710 : BitVec 32 := Scalar.addi v1283 c0_i32_668
  v1710
def k0_off10 (k0_t1 : Fin k0_t1_loop.trips) (c0_i32_668 : BitVec 32) : Fin 2 → Nat :=
  let c16_669 : Index := 16#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v1710 : BitVec 32 := Scalar.addi v1283 c0_i32_668
  let v1711 : BitVec 32 := v1710
  let v1712 : Index := Scalar.indexCast v1711
  ![16, v1712.toNat]
def k0_mult31 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_670 : BitVec 32 := 128#32
  let v1718 : BitVec 32 := Scalar.addi v1283 c128_i32_670
  v1718
def k0_mult32 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_672 : BitVec 32 := 256#32
  let v1726 : BitVec 32 := Scalar.addi v1283 c256_i32_672
  v1726
def k0_mult33 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_674 : BitVec 32 := 384#32
  let v1734 : BitVec 32 := Scalar.addi v1283 c384_i32_674
  v1734
def k0_mult34 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_676 : BitVec 32 := 512#32
  let v1742 : BitVec 32 := Scalar.addi v1283 c512_i32_676
  v1742
def k0_mult35 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_678 : BitVec 32 := 640#32
  let v1750 : BitVec 32 := Scalar.addi v1283 c640_i32_678
  v1750
def k0_mult36 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_680 : BitVec 32 := 768#32
  let v1758 : BitVec 32 := Scalar.addi v1283 c768_i32_680
  v1758
def k0_mult37 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_682 : BitVec 32 := 896#32
  let v1766 : BitVec 32 := Scalar.addi v1283 c896_i32_682
  v1766
def k0_mult38 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_684 : BitVec 32 := 1024#32
  let v1774 : BitVec 32 := Scalar.addi v1283 c1024_i32_684
  v1774
def k0_mult39 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_686 : BitVec 32 := 1152#32
  let v1782 : BitVec 32 := Scalar.addi v1283 c1152_i32_686
  v1782
def k0_off11 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v1808 : Index := Scalar.indexCast v1269
  let c16_694 : Index := 16#32
  let c0_695 : Index := 0#32
  ![v1808.toNat, 16, 0]
def k0_mult40 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_700 : BitVec 32 := 0#32
  let v1866 : BitVec 32 := Scalar.addi v1283 c0_i32_700
  v1866
def k0_off12 (k0_t1 : Fin k0_t1_loop.trips) (c0_i32_700 : BitVec 32) : Fin 2 → Nat :=
  let c24_701 : Index := 24#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v1866 : BitVec 32 := Scalar.addi v1283 c0_i32_700
  let v1867 : BitVec 32 := v1866
  let v1868 : Index := Scalar.indexCast v1867
  ![24, v1868.toNat]
def k0_mult41 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_702 : BitVec 32 := 128#32
  let v1874 : BitVec 32 := Scalar.addi v1283 c128_i32_702
  v1874
def k0_mult42 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_704 : BitVec 32 := 256#32
  let v1882 : BitVec 32 := Scalar.addi v1283 c256_i32_704
  v1882
def k0_mult43 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_706 : BitVec 32 := 384#32
  let v1890 : BitVec 32 := Scalar.addi v1283 c384_i32_706
  v1890
def k0_mult44 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_708 : BitVec 32 := 512#32
  let v1898 : BitVec 32 := Scalar.addi v1283 c512_i32_708
  v1898
def k0_mult45 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_710 : BitVec 32 := 640#32
  let v1906 : BitVec 32 := Scalar.addi v1283 c640_i32_710
  v1906
def k0_mult46 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_712 : BitVec 32 := 768#32
  let v1914 : BitVec 32 := Scalar.addi v1283 c768_i32_712
  v1914
def k0_mult47 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_714 : BitVec 32 := 896#32
  let v1922 : BitVec 32 := Scalar.addi v1283 c896_i32_714
  v1922
def k0_mult48 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_716 : BitVec 32 := 1024#32
  let v1930 : BitVec 32 := Scalar.addi v1283 c1024_i32_716
  v1930
def k0_mult49 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_718 : BitVec 32 := 1152#32
  let v1938 : BitVec 32 := Scalar.addi v1283 c1152_i32_718
  v1938
def k0_off13 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v1964 : Index := Scalar.indexCast v1269
  let c24_726 : Index := 24#32
  let c0_727 : Index := 0#32
  ![v1964.toNat, 24, 0]
def k0_mult50 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_732 : BitVec 32 := 0#32
  let v2022 : BitVec 32 := Scalar.addi v1283 c0_i32_732
  v2022
def k0_off14 (k0_t1 : Fin k0_t1_loop.trips) (c0_i32_732 : BitVec 32) : Fin 2 → Nat :=
  let c32_733 : Index := 32#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v2022 : BitVec 32 := Scalar.addi v1283 c0_i32_732
  let v2023 : BitVec 32 := v2022
  let v2024 : Index := Scalar.indexCast v2023
  ![32, v2024.toNat]
def k0_mult51 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_734 : BitVec 32 := 128#32
  let v2030 : BitVec 32 := Scalar.addi v1283 c128_i32_734
  v2030
def k0_mult52 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_736 : BitVec 32 := 256#32
  let v2038 : BitVec 32 := Scalar.addi v1283 c256_i32_736
  v2038
def k0_mult53 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_738 : BitVec 32 := 384#32
  let v2046 : BitVec 32 := Scalar.addi v1283 c384_i32_738
  v2046
def k0_mult54 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_740 : BitVec 32 := 512#32
  let v2054 : BitVec 32 := Scalar.addi v1283 c512_i32_740
  v2054
def k0_mult55 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_742 : BitVec 32 := 640#32
  let v2062 : BitVec 32 := Scalar.addi v1283 c640_i32_742
  v2062
def k0_mult56 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_744 : BitVec 32 := 768#32
  let v2070 : BitVec 32 := Scalar.addi v1283 c768_i32_744
  v2070
def k0_mult57 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_746 : BitVec 32 := 896#32
  let v2078 : BitVec 32 := Scalar.addi v1283 c896_i32_746
  v2078
def k0_mult58 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_748 : BitVec 32 := 1024#32
  let v2086 : BitVec 32 := Scalar.addi v1283 c1024_i32_748
  v2086
def k0_mult59 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_750 : BitVec 32 := 1152#32
  let v2094 : BitVec 32 := Scalar.addi v1283 c1152_i32_750
  v2094
def k0_off15 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v2120 : Index := Scalar.indexCast v1269
  let c32_758 : Index := 32#32
  let c0_759 : Index := 0#32
  ![v2120.toNat, 32, 0]
def k0_mult60 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_764 : BitVec 32 := 0#32
  let v2178 : BitVec 32 := Scalar.addi v1283 c0_i32_764
  v2178
def k0_off16 (k0_t1 : Fin k0_t1_loop.trips) (c0_i32_764 : BitVec 32) : Fin 2 → Nat :=
  let c40_765 : Index := 40#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v2178 : BitVec 32 := Scalar.addi v1283 c0_i32_764
  let v2179 : BitVec 32 := v2178
  let v2180 : Index := Scalar.indexCast v2179
  ![40, v2180.toNat]
def k0_mult61 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_766 : BitVec 32 := 128#32
  let v2186 : BitVec 32 := Scalar.addi v1283 c128_i32_766
  v2186
def k0_mult62 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_768 : BitVec 32 := 256#32
  let v2194 : BitVec 32 := Scalar.addi v1283 c256_i32_768
  v2194
def k0_mult63 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_770 : BitVec 32 := 384#32
  let v2202 : BitVec 32 := Scalar.addi v1283 c384_i32_770
  v2202
def k0_mult64 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_772 : BitVec 32 := 512#32
  let v2210 : BitVec 32 := Scalar.addi v1283 c512_i32_772
  v2210
def k0_mult65 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_774 : BitVec 32 := 640#32
  let v2218 : BitVec 32 := Scalar.addi v1283 c640_i32_774
  v2218
def k0_mult66 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_776 : BitVec 32 := 768#32
  let v2226 : BitVec 32 := Scalar.addi v1283 c768_i32_776
  v2226
def k0_mult67 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_778 : BitVec 32 := 896#32
  let v2234 : BitVec 32 := Scalar.addi v1283 c896_i32_778
  v2234
def k0_mult68 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_780 : BitVec 32 := 1024#32
  let v2242 : BitVec 32 := Scalar.addi v1283 c1024_i32_780
  v2242
def k0_mult69 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_782 : BitVec 32 := 1152#32
  let v2250 : BitVec 32 := Scalar.addi v1283 c1152_i32_782
  v2250
def k0_off17 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v2276 : Index := Scalar.indexCast v1269
  let c40_790 : Index := 40#32
  let c0_791 : Index := 0#32
  ![v2276.toNat, 40, 0]
def k0_mult70 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_796 : BitVec 32 := 0#32
  let v2334 : BitVec 32 := Scalar.addi v1283 c0_i32_796
  v2334
def k0_off18 (k0_t1 : Fin k0_t1_loop.trips) (c0_i32_796 : BitVec 32) : Fin 2 → Nat :=
  let c48_797 : Index := 48#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v2334 : BitVec 32 := Scalar.addi v1283 c0_i32_796
  let v2335 : BitVec 32 := v2334
  let v2336 : Index := Scalar.indexCast v2335
  ![48, v2336.toNat]
def k0_mult71 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_798 : BitVec 32 := 128#32
  let v2342 : BitVec 32 := Scalar.addi v1283 c128_i32_798
  v2342
def k0_mult72 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_800 : BitVec 32 := 256#32
  let v2350 : BitVec 32 := Scalar.addi v1283 c256_i32_800
  v2350
def k0_mult73 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_802 : BitVec 32 := 384#32
  let v2358 : BitVec 32 := Scalar.addi v1283 c384_i32_802
  v2358
def k0_mult74 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_804 : BitVec 32 := 512#32
  let v2366 : BitVec 32 := Scalar.addi v1283 c512_i32_804
  v2366
def k0_mult75 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_806 : BitVec 32 := 640#32
  let v2374 : BitVec 32 := Scalar.addi v1283 c640_i32_806
  v2374
def k0_mult76 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_808 : BitVec 32 := 768#32
  let v2382 : BitVec 32 := Scalar.addi v1283 c768_i32_808
  v2382
def k0_mult77 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_810 : BitVec 32 := 896#32
  let v2390 : BitVec 32 := Scalar.addi v1283 c896_i32_810
  v2390
def k0_mult78 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_812 : BitVec 32 := 1024#32
  let v2398 : BitVec 32 := Scalar.addi v1283 c1024_i32_812
  v2398
def k0_mult79 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_814 : BitVec 32 := 1152#32
  let v2406 : BitVec 32 := Scalar.addi v1283 c1152_i32_814
  v2406
def k0_off19 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v2432 : Index := Scalar.indexCast v1269
  let c48_822 : Index := 48#32
  let c0_823 : Index := 0#32
  ![v2432.toNat, 48, 0]
def k0_mult80 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c0_i32_828 : BitVec 32 := 0#32
  let v2490 : BitVec 32 := Scalar.addi v1283 c0_i32_828
  v2490
def k0_off20 (k0_t1 : Fin k0_t1_loop.trips) (c0_i32_828 : BitVec 32) : Fin 2 → Nat :=
  let c56_829 : Index := 56#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let v2490 : BitVec 32 := Scalar.addi v1283 c0_i32_828
  let v2491 : BitVec 32 := v2490
  let v2492 : Index := Scalar.indexCast v2491
  ![56, v2492.toNat]
def k0_mult81 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c128_i32_830 : BitVec 32 := 128#32
  let v2498 : BitVec 32 := Scalar.addi v1283 c128_i32_830
  v2498
def k0_mult82 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c256_i32_832 : BitVec 32 := 256#32
  let v2506 : BitVec 32 := Scalar.addi v1283 c256_i32_832
  v2506
def k0_mult83 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c384_i32_834 : BitVec 32 := 384#32
  let v2514 : BitVec 32 := Scalar.addi v1283 c384_i32_834
  v2514
def k0_mult84 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c512_i32_836 : BitVec 32 := 512#32
  let v2522 : BitVec 32 := Scalar.addi v1283 c512_i32_836
  v2522
def k0_mult85 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c640_i32_838 : BitVec 32 := 640#32
  let v2530 : BitVec 32 := Scalar.addi v1283 c640_i32_838
  v2530
def k0_mult86 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c768_i32_840 : BitVec 32 := 768#32
  let v2538 : BitVec 32 := Scalar.addi v1283 c768_i32_840
  v2538
def k0_mult87 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c896_i32_842 : BitVec 32 := 896#32
  let v2546 : BitVec 32 := Scalar.addi v1283 c896_i32_842
  v2546
def k0_mult88 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1024_i32_844 : BitVec 32 := 1024#32
  let v2554 : BitVec 32 := Scalar.addi v1283 c1024_i32_844
  v2554
def k0_mult89 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c1280_i32_569 : BitVec 32 := 1280#32
  let v1283 : BitVec 32 := Scalar.muli v1269 c1280_i32_569
  let c1152_i32_846 : BitVec 32 := 1152#32
  let v2562 : BitVec 32 := Scalar.addi v1283 c1152_i32_846
  v2562
def k0_off21 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let v2588 : Index := Scalar.indexCast v1269
  let c56_854 : Index := 56#32
  let c0_855 : Index := 0#32
  ![v2588.toNat, 56, 0]
def k0_cond1 (k0_t1 : Fin k0_t1_loop.trips) : BitVec 1 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_856 : BitVec 32 := 8#32
  let v2592 : BitVec 32 := Scalar.addi v1269 c8_i32_856
  let c25_i32_857 : BitVec 32 := 25#32
  let v2593 : BitVec 1 := Scalar.cmpi .slt v2592 c25_i32_857
  let v2594 : BitVec 32 := Scalar.extui v2593
  let c0_i32_858 : BitVec 32 := 0#32
  let v2595 : BitVec 1 := Scalar.cmpi .ne v2594 c0_i32_858
  v2595

def k0_mult90 (k0_t1 : Fin k0_t1_loop.trips) : BitVec 32 :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_859 : BitVec 32 := 8#32
  let v2596 : BitVec 32 := Scalar.addi v1269 c8_i32_859
  let c1280_i32_861 : BitVec 32 := 1280#32
  let v2598 : BitVec 32 := Scalar.muli v2596 c1280_i32_861
  v2598
def k0_off22 (k0_t1 : Fin k0_t1_loop.trips) : Fin 1 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_860 : BitVec 32 := 8#32
  let v2597 : BitVec 32 := Scalar.remsi v1269 c8_i32_860
  ![v2597.toNat]
def k0_off23 (k0_t1 : Fin k0_t1_loop.trips) : Fin 3 → Nat :=
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_860 : BitVec 32 := 8#32
  let v2597 : BitVec 32 := Scalar.remsi v1269 c8_i32_860
  let c0_i32_862 : BitVec 32 := 0#32
  let c0_i32_863 : BitVec 32 := 0#32
  ![v2597.toNat, 0, 0]
def k0_off24 (k0_t1 : Fin k0_t1_loop.trips) : Fin 2 → Nat :=
  let c0_i32_864 : BitVec 32 := 0#32
  let c0_i32_558 : BitVec 32 := 0#32
  let c0_i32_397 : BitVec 32 := 0#32
  let c1_i32_398 : BitVec 32 := 1#32
  let arg19 : BitVec 32 := Scf.iv c0_i32_397 c1_i32_398 k0_t1
  let c1_i32_557 : BitVec 32 := 1#32
  let v1268 : BitVec 32 := Scalar.muli arg19 c1_i32_557
  let v1269 : BitVec 32 := Scalar.addi c0_i32_558 v1268
  let c8_i32_859 : BitVec 32 := 8#32
  let v2596 : BitVec 32 := Scalar.addi v1269 c8_i32_859
  let c1280_i32_861 : BitVec 32 := 1280#32
  let v2598 : BitVec 32 := Scalar.muli v2596 c1280_i32_861
  let v2599 : BitVec 32 := v2598
  ![0, v2599.toNat]
@[reducible] def k0_t2_loop : Scf.Loop 32 :=
  let c0_i32_504 : BitVec 32 := 0#32
  let c8_i32_505 : BitVec 32 := 8#32
  let v1205 : BitVec 32 := Scalar.addi c0_i32_504 c8_i32_505
  let c1_i32_506 : BitVec 32 := 1#32
  ⟨c0_i32_504, v1205, c1_i32_506⟩
def k0_mult91 (k0_t2 : Fin k0_t2_loop.trips) : BitVec 32 :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  v1270
def k0_off25 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1272 : Index := Scalar.indexCast v1271
  let c0_560 : Index := 0#32
  ![v1272.toNat, 0]
def k0_off26 (k0_t2 : Fin k0_t2_loop.trips) : Fin 3 → Nat :=
  let c0_562 : Index := 0#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1276 : Index := Scalar.indexCast v1271
  let c0_563 : Index := 0#32
  ![0, v1276.toNat, 0]
def k0_off27 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1282 : Index := Scalar.indexCast v1271
  let c0_564 : Index := 0#32
  ![v1282.toNat, 0]
def k0_off28 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1289 : Index := Scalar.indexCast v1271
  let c128 : Index := 128#32
  ![v1289.toNat, 128]
def k0_off29 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1296 : Index := Scalar.indexCast v1271
  let c256 : Index := 256#32
  ![v1296.toNat, 256]
def k0_off30 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1303 : Index := Scalar.indexCast v1271
  let c384 : Index := 384#32
  ![v1303.toNat, 384]
def k0_off31 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1310 : Index := Scalar.indexCast v1271
  let c512 : Index := 512#32
  ![v1310.toNat, 512]
def k0_off32 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1317 : Index := Scalar.indexCast v1271
  let c640 : Index := 640#32
  ![v1317.toNat, 640]
def k0_off33 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1324 : Index := Scalar.indexCast v1271
  let c768 : Index := 768#32
  ![v1324.toNat, 768]
def k0_off34 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1331 : Index := Scalar.indexCast v1271
  let c896 : Index := 896#32
  ![v1331.toNat, 896]
def k0_off35 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1338 : Index := Scalar.indexCast v1271
  let c1024 : Index := 1024#32
  ![v1338.toNat, 1024]
def k0_off36 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1345 : Index := Scalar.indexCast v1271
  let c1152 : Index := 1152#32
  ![v1345.toNat, 1152]
def k0_off37 (k0_t2 : Fin k0_t2_loop.trips) : Fin 3 → Nat :=
  let c1 : Index := 1#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1352 : Index := Scalar.indexCast v1271
  let c0_575 : Index := 0#32
  ![1, v1352.toNat, 0]
def k0_off38 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1358 : Index := Scalar.indexCast v1271
  let c1280 : Index := 1280#32
  ![v1358.toNat, 1280]
def k0_off39 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1365 : Index := Scalar.indexCast v1271
  let c1408 : Index := 1408#32
  ![v1365.toNat, 1408]
def k0_off40 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1372 : Index := Scalar.indexCast v1271
  let c1536 : Index := 1536#32
  ![v1372.toNat, 1536]
def k0_off41 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1379 : Index := Scalar.indexCast v1271
  let c1664 : Index := 1664#32
  ![v1379.toNat, 1664]
def k0_off42 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1386 : Index := Scalar.indexCast v1271
  let c1792 : Index := 1792#32
  ![v1386.toNat, 1792]
def k0_off43 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1393 : Index := Scalar.indexCast v1271
  let c1920 : Index := 1920#32
  ![v1393.toNat, 1920]
def k0_off44 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1400 : Index := Scalar.indexCast v1271
  let c2048 : Index := 2048#32
  ![v1400.toNat, 2048]
def k0_off45 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1407 : Index := Scalar.indexCast v1271
  let c2176 : Index := 2176#32
  ![v1407.toNat, 2176]
def k0_off46 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1414 : Index := Scalar.indexCast v1271
  let c2304 : Index := 2304#32
  ![v1414.toNat, 2304]
def k0_off47 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1421 : Index := Scalar.indexCast v1271
  let c2432 : Index := 2432#32
  ![v1421.toNat, 2432]
def k0_off48 (k0_t2 : Fin k0_t2_loop.trips) : Fin 3 → Nat :=
  let c2 : Index := 2#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1428 : Index := Scalar.indexCast v1271
  let c0_586 : Index := 0#32
  ![2, v1428.toNat, 0]
def k0_off49 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1434 : Index := Scalar.indexCast v1271
  let c2560 : Index := 2560#32
  ![v1434.toNat, 2560]
def k0_off50 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1441 : Index := Scalar.indexCast v1271
  let c2688 : Index := 2688#32
  ![v1441.toNat, 2688]
def k0_off51 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1448 : Index := Scalar.indexCast v1271
  let c2816 : Index := 2816#32
  ![v1448.toNat, 2816]
def k0_off52 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1455 : Index := Scalar.indexCast v1271
  let c2944 : Index := 2944#32
  ![v1455.toNat, 2944]
def k0_off53 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1462 : Index := Scalar.indexCast v1271
  let c3072 : Index := 3072#32
  ![v1462.toNat, 3072]
def k0_off54 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1469 : Index := Scalar.indexCast v1271
  let c3200 : Index := 3200#32
  ![v1469.toNat, 3200]
def k0_off55 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1476 : Index := Scalar.indexCast v1271
  let c3328 : Index := 3328#32
  ![v1476.toNat, 3328]
def k0_off56 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1483 : Index := Scalar.indexCast v1271
  let c3456 : Index := 3456#32
  ![v1483.toNat, 3456]
def k0_off57 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1490 : Index := Scalar.indexCast v1271
  let c3584 : Index := 3584#32
  ![v1490.toNat, 3584]
def k0_off58 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1497 : Index := Scalar.indexCast v1271
  let c3712 : Index := 3712#32
  ![v1497.toNat, 3712]
def k0_off59 (k0_t2 : Fin k0_t2_loop.trips) : Fin 3 → Nat :=
  let c3 : Index := 3#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1504 : Index := Scalar.indexCast v1271
  let c0_597 : Index := 0#32
  ![3, v1504.toNat, 0]
def k0_off60 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1510 : Index := Scalar.indexCast v1271
  let c3840 : Index := 3840#32
  ![v1510.toNat, 3840]
def k0_off61 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1517 : Index := Scalar.indexCast v1271
  let c3968 : Index := 3968#32
  ![v1517.toNat, 3968]
def k0_off62 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1524 : Index := Scalar.indexCast v1271
  let c4096 : Index := 4096#32
  ![v1524.toNat, 4096]
def k0_off63 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1531 : Index := Scalar.indexCast v1271
  let c4224 : Index := 4224#32
  ![v1531.toNat, 4224]
def k0_off64 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1538 : Index := Scalar.indexCast v1271
  let c4352 : Index := 4352#32
  ![v1538.toNat, 4352]
def k0_off65 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1545 : Index := Scalar.indexCast v1271
  let c4480 : Index := 4480#32
  ![v1545.toNat, 4480]
def k0_off66 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1552 : Index := Scalar.indexCast v1271
  let c4608 : Index := 4608#32
  ![v1552.toNat, 4608]
def k0_off67 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1559 : Index := Scalar.indexCast v1271
  let c4736 : Index := 4736#32
  ![v1559.toNat, 4736]
def k0_off68 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1566 : Index := Scalar.indexCast v1271
  let c4864 : Index := 4864#32
  ![v1566.toNat, 4864]
def k0_off69 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1573 : Index := Scalar.indexCast v1271
  let c4992 : Index := 4992#32
  ![v1573.toNat, 4992]
def k0_off70 (k0_t2 : Fin k0_t2_loop.trips) : Fin 3 → Nat :=
  let c4 : Index := 4#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1580 : Index := Scalar.indexCast v1271
  let c0_608 : Index := 0#32
  ![4, v1580.toNat, 0]
def k0_off71 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1586 : Index := Scalar.indexCast v1271
  let c5120 : Index := 5120#32
  ![v1586.toNat, 5120]
def k0_off72 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1593 : Index := Scalar.indexCast v1271
  let c5248 : Index := 5248#32
  ![v1593.toNat, 5248]
def k0_off73 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1600 : Index := Scalar.indexCast v1271
  let c5376 : Index := 5376#32
  ![v1600.toNat, 5376]
def k0_off74 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1607 : Index := Scalar.indexCast v1271
  let c5504 : Index := 5504#32
  ![v1607.toNat, 5504]
def k0_off75 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1614 : Index := Scalar.indexCast v1271
  let c5632 : Index := 5632#32
  ![v1614.toNat, 5632]
def k0_off76 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1621 : Index := Scalar.indexCast v1271
  let c5760 : Index := 5760#32
  ![v1621.toNat, 5760]
def k0_off77 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1628 : Index := Scalar.indexCast v1271
  let c5888 : Index := 5888#32
  ![v1628.toNat, 5888]
def k0_off78 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1635 : Index := Scalar.indexCast v1271
  let c6016 : Index := 6016#32
  ![v1635.toNat, 6016]
def k0_off79 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1642 : Index := Scalar.indexCast v1271
  let c6144 : Index := 6144#32
  ![v1642.toNat, 6144]
def k0_off80 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1649 : Index := Scalar.indexCast v1271
  let c6272 : Index := 6272#32
  ![v1649.toNat, 6272]
def k0_off81 (k0_t2 : Fin k0_t2_loop.trips) : Fin 3 → Nat :=
  let c5 : Index := 5#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1656 : Index := Scalar.indexCast v1271
  let c0_619 : Index := 0#32
  ![5, v1656.toNat, 0]
def k0_off82 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1662 : Index := Scalar.indexCast v1271
  let c6400 : Index := 6400#32
  ![v1662.toNat, 6400]
def k0_off83 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1669 : Index := Scalar.indexCast v1271
  let c6528 : Index := 6528#32
  ![v1669.toNat, 6528]
def k0_off84 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1676 : Index := Scalar.indexCast v1271
  let c6656 : Index := 6656#32
  ![v1676.toNat, 6656]
def k0_off85 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1683 : Index := Scalar.indexCast v1271
  let c6784 : Index := 6784#32
  ![v1683.toNat, 6784]
def k0_off86 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1690 : Index := Scalar.indexCast v1271
  let c6912 : Index := 6912#32
  ![v1690.toNat, 6912]
def k0_off87 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1697 : Index := Scalar.indexCast v1271
  let c7040 : Index := 7040#32
  ![v1697.toNat, 7040]
def k0_off88 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1704 : Index := Scalar.indexCast v1271
  let c7168 : Index := 7168#32
  ![v1704.toNat, 7168]
def k0_off89 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1711 : Index := Scalar.indexCast v1271
  let c7296 : Index := 7296#32
  ![v1711.toNat, 7296]
def k0_off90 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1718 : Index := Scalar.indexCast v1271
  let c7424 : Index := 7424#32
  ![v1718.toNat, 7424]
def k0_off91 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1725 : Index := Scalar.indexCast v1271
  let c7552 : Index := 7552#32
  ![v1725.toNat, 7552]
def k0_off92 (k0_t2 : Fin k0_t2_loop.trips) : Fin 3 → Nat :=
  let c6 : Index := 6#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1732 : Index := Scalar.indexCast v1271
  let c0_630 : Index := 0#32
  ![6, v1732.toNat, 0]
def k0_off93 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1738 : Index := Scalar.indexCast v1271
  let c7680 : Index := 7680#32
  ![v1738.toNat, 7680]
def k0_off94 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1745 : Index := Scalar.indexCast v1271
  let c7808 : Index := 7808#32
  ![v1745.toNat, 7808]
def k0_off95 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1752 : Index := Scalar.indexCast v1271
  let c7936 : Index := 7936#32
  ![v1752.toNat, 7936]
def k0_off96 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1759 : Index := Scalar.indexCast v1271
  let c8064 : Index := 8064#32
  ![v1759.toNat, 8064]
def k0_off97 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1766 : Index := Scalar.indexCast v1271
  let c8192 : Index := 8192#32
  ![v1766.toNat, 8192]
def k0_off98 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1773 : Index := Scalar.indexCast v1271
  let c8320 : Index := 8320#32
  ![v1773.toNat, 8320]
def k0_off99 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1780 : Index := Scalar.indexCast v1271
  let c8448 : Index := 8448#32
  ![v1780.toNat, 8448]
def k0_off100 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1787 : Index := Scalar.indexCast v1271
  let c8576 : Index := 8576#32
  ![v1787.toNat, 8576]
def k0_off101 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1794 : Index := Scalar.indexCast v1271
  let c8704 : Index := 8704#32
  ![v1794.toNat, 8704]
def k0_off102 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1801 : Index := Scalar.indexCast v1271
  let c8832 : Index := 8832#32
  ![v1801.toNat, 8832]
def k0_off103 (k0_t2 : Fin k0_t2_loop.trips) : Fin 3 → Nat :=
  let c7 : Index := 7#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1808 : Index := Scalar.indexCast v1271
  let c0_641 : Index := 0#32
  ![7, v1808.toNat, 0]
def k0_off104 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1814 : Index := Scalar.indexCast v1271
  let c8960 : Index := 8960#32
  ![v1814.toNat, 8960]
def k0_off105 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1821 : Index := Scalar.indexCast v1271
  let c9088 : Index := 9088#32
  ![v1821.toNat, 9088]
def k0_off106 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1828 : Index := Scalar.indexCast v1271
  let c9216 : Index := 9216#32
  ![v1828.toNat, 9216]
def k0_off107 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1835 : Index := Scalar.indexCast v1271
  let c9344 : Index := 9344#32
  ![v1835.toNat, 9344]
def k0_off108 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1842 : Index := Scalar.indexCast v1271
  let c9472 : Index := 9472#32
  ![v1842.toNat, 9472]
def k0_off109 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1849 : Index := Scalar.indexCast v1271
  let c9600 : Index := 9600#32
  ![v1849.toNat, 9600]
def k0_off110 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1856 : Index := Scalar.indexCast v1271
  let c9728 : Index := 9728#32
  ![v1856.toNat, 9728]
def k0_off111 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1863 : Index := Scalar.indexCast v1271
  let c9856 : Index := 9856#32
  ![v1863.toNat, 9856]
def k0_off112 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1870 : Index := Scalar.indexCast v1271
  let c9984 : Index := 9984#32
  ![v1870.toNat, 9984]
def k0_off113 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1877 : Index := Scalar.indexCast v1271
  let c10112 : Index := 10112#32
  ![v1877.toNat, 10112]
def k0_off114 (k0_t2 : Fin k0_t2_loop.trips) : Fin 3 → Nat :=
  let c8_652 : Index := 8#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1884 : Index := Scalar.indexCast v1271
  let c0_653 : Index := 0#32
  ![8, v1884.toNat, 0]
def k0_off115 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1890 : Index := Scalar.indexCast v1271
  let c10240 : Index := 10240#32
  ![v1890.toNat, 10240]
def k0_off116 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1897 : Index := Scalar.indexCast v1271
  let c10368 : Index := 10368#32
  ![v1897.toNat, 10368]
def k0_off117 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1904 : Index := Scalar.indexCast v1271
  let c10496 : Index := 10496#32
  ![v1904.toNat, 10496]
def k0_off118 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1911 : Index := Scalar.indexCast v1271
  let c10624 : Index := 10624#32
  ![v1911.toNat, 10624]
def k0_off119 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1918 : Index := Scalar.indexCast v1271
  let c10752 : Index := 10752#32
  ![v1918.toNat, 10752]
def k0_off120 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1925 : Index := Scalar.indexCast v1271
  let c10880 : Index := 10880#32
  ![v1925.toNat, 10880]
def k0_off121 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1932 : Index := Scalar.indexCast v1271
  let c11008 : Index := 11008#32
  ![v1932.toNat, 11008]
def k0_off122 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1939 : Index := Scalar.indexCast v1271
  let c11136 : Index := 11136#32
  ![v1939.toNat, 11136]
def k0_off123 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1946 : Index := Scalar.indexCast v1271
  let c11264 : Index := 11264#32
  ![v1946.toNat, 11264]
def k0_off124 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1953 : Index := Scalar.indexCast v1271
  let c11392 : Index := 11392#32
  ![v1953.toNat, 11392]
def k0_off125 (k0_t2 : Fin k0_t2_loop.trips) : Fin 3 → Nat :=
  let c9 : Index := 9#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1960 : Index := Scalar.indexCast v1271
  let c0_664 : Index := 0#32
  ![9, v1960.toNat, 0]
def k0_off126 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1966 : Index := Scalar.indexCast v1271
  let c11520 : Index := 11520#32
  ![v1966.toNat, 11520]
def k0_off127 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1973 : Index := Scalar.indexCast v1271
  let c11648 : Index := 11648#32
  ![v1973.toNat, 11648]
def k0_off128 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1980 : Index := Scalar.indexCast v1271
  let c11776 : Index := 11776#32
  ![v1980.toNat, 11776]
def k0_off129 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1987 : Index := Scalar.indexCast v1271
  let c11904 : Index := 11904#32
  ![v1987.toNat, 11904]
def k0_off130 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v1994 : Index := Scalar.indexCast v1271
  let c12032 : Index := 12032#32
  ![v1994.toNat, 12032]
def k0_off131 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2001 : Index := Scalar.indexCast v1271
  let c12160 : Index := 12160#32
  ![v2001.toNat, 12160]
def k0_off132 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2008 : Index := Scalar.indexCast v1271
  let c12288 : Index := 12288#32
  ![v2008.toNat, 12288]
def k0_off133 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2015 : Index := Scalar.indexCast v1271
  let c12416 : Index := 12416#32
  ![v2015.toNat, 12416]
def k0_off134 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2022 : Index := Scalar.indexCast v1271
  let c12544 : Index := 12544#32
  ![v2022.toNat, 12544]
def k0_off135 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2029 : Index := Scalar.indexCast v1271
  let c12672 : Index := 12672#32
  ![v2029.toNat, 12672]
def k0_off136 (k0_t2 : Fin k0_t2_loop.trips) : Fin 3 → Nat :=
  let c10 : Index := 10#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2036 : Index := Scalar.indexCast v1271
  let c0_675 : Index := 0#32
  ![10, v2036.toNat, 0]
def k0_off137 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2042 : Index := Scalar.indexCast v1271
  let c12800 : Index := 12800#32
  ![v2042.toNat, 12800]
def k0_off138 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2049 : Index := Scalar.indexCast v1271
  let c12928 : Index := 12928#32
  ![v2049.toNat, 12928]
def k0_off139 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2056 : Index := Scalar.indexCast v1271
  let c13056 : Index := 13056#32
  ![v2056.toNat, 13056]
def k0_off140 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2063 : Index := Scalar.indexCast v1271
  let c13184 : Index := 13184#32
  ![v2063.toNat, 13184]
def k0_off141 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2070 : Index := Scalar.indexCast v1271
  let c13312 : Index := 13312#32
  ![v2070.toNat, 13312]
def k0_off142 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2077 : Index := Scalar.indexCast v1271
  let c13440 : Index := 13440#32
  ![v2077.toNat, 13440]
def k0_off143 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2084 : Index := Scalar.indexCast v1271
  let c13568 : Index := 13568#32
  ![v2084.toNat, 13568]
def k0_off144 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2091 : Index := Scalar.indexCast v1271
  let c13696 : Index := 13696#32
  ![v2091.toNat, 13696]
def k0_off145 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2098 : Index := Scalar.indexCast v1271
  let c13824 : Index := 13824#32
  ![v2098.toNat, 13824]
def k0_off146 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2105 : Index := Scalar.indexCast v1271
  let c13952 : Index := 13952#32
  ![v2105.toNat, 13952]
def k0_off147 (k0_t2 : Fin k0_t2_loop.trips) : Fin 3 → Nat :=
  let c11 : Index := 11#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2112 : Index := Scalar.indexCast v1271
  let c0_686 : Index := 0#32
  ![11, v2112.toNat, 0]
def k0_off148 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2118 : Index := Scalar.indexCast v1271
  let c14080 : Index := 14080#32
  ![v2118.toNat, 14080]
def k0_off149 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2125 : Index := Scalar.indexCast v1271
  let c14208 : Index := 14208#32
  ![v2125.toNat, 14208]
def k0_off150 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2132 : Index := Scalar.indexCast v1271
  let c14336 : Index := 14336#32
  ![v2132.toNat, 14336]
def k0_off151 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2139 : Index := Scalar.indexCast v1271
  let c14464 : Index := 14464#32
  ![v2139.toNat, 14464]
def k0_off152 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2146 : Index := Scalar.indexCast v1271
  let c14592 : Index := 14592#32
  ![v2146.toNat, 14592]
def k0_off153 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2153 : Index := Scalar.indexCast v1271
  let c14720 : Index := 14720#32
  ![v2153.toNat, 14720]
def k0_off154 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2160 : Index := Scalar.indexCast v1271
  let c14848 : Index := 14848#32
  ![v2160.toNat, 14848]
def k0_off155 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2167 : Index := Scalar.indexCast v1271
  let c14976 : Index := 14976#32
  ![v2167.toNat, 14976]
def k0_off156 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2174 : Index := Scalar.indexCast v1271
  let c15104 : Index := 15104#32
  ![v2174.toNat, 15104]
def k0_off157 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2181 : Index := Scalar.indexCast v1271
  let c15232 : Index := 15232#32
  ![v2181.toNat, 15232]
def k0_off158 (k0_t2 : Fin k0_t2_loop.trips) : Fin 3 → Nat :=
  let c12 : Index := 12#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2188 : Index := Scalar.indexCast v1271
  let c0_697 : Index := 0#32
  ![12, v2188.toNat, 0]
def k0_off159 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2194 : Index := Scalar.indexCast v1271
  let c15360 : Index := 15360#32
  ![v2194.toNat, 15360]
def k0_off160 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2201 : Index := Scalar.indexCast v1271
  let c15488 : Index := 15488#32
  ![v2201.toNat, 15488]
def k0_off161 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2208 : Index := Scalar.indexCast v1271
  let c15616 : Index := 15616#32
  ![v2208.toNat, 15616]
def k0_off162 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2215 : Index := Scalar.indexCast v1271
  let c15744 : Index := 15744#32
  ![v2215.toNat, 15744]
def k0_off163 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2222 : Index := Scalar.indexCast v1271
  let c15872 : Index := 15872#32
  ![v2222.toNat, 15872]
def k0_off164 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2229 : Index := Scalar.indexCast v1271
  let c16000 : Index := 16000#32
  ![v2229.toNat, 16000]
def k0_off165 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2236 : Index := Scalar.indexCast v1271
  let c16128 : Index := 16128#32
  ![v2236.toNat, 16128]
def k0_off166 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2243 : Index := Scalar.indexCast v1271
  let c16256 : Index := 16256#32
  ![v2243.toNat, 16256]
def k0_off167 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2250 : Index := Scalar.indexCast v1271
  let c16384 : Index := 16384#32
  ![v2250.toNat, 16384]
def k0_off168 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2257 : Index := Scalar.indexCast v1271
  let c16512 : Index := 16512#32
  ![v2257.toNat, 16512]
def k0_off169 (k0_t2 : Fin k0_t2_loop.trips) : Fin 3 → Nat :=
  let c13 : Index := 13#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2264 : Index := Scalar.indexCast v1271
  let c0_708 : Index := 0#32
  ![13, v2264.toNat, 0]
def k0_off170 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2270 : Index := Scalar.indexCast v1271
  let c16640 : Index := 16640#32
  ![v2270.toNat, 16640]
def k0_off171 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2277 : Index := Scalar.indexCast v1271
  let c16768 : Index := 16768#32
  ![v2277.toNat, 16768]
def k0_off172 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2284 : Index := Scalar.indexCast v1271
  let c16896 : Index := 16896#32
  ![v2284.toNat, 16896]
def k0_off173 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2291 : Index := Scalar.indexCast v1271
  let c17024 : Index := 17024#32
  ![v2291.toNat, 17024]
def k0_off174 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2298 : Index := Scalar.indexCast v1271
  let c17152 : Index := 17152#32
  ![v2298.toNat, 17152]
def k0_off175 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2305 : Index := Scalar.indexCast v1271
  let c17280 : Index := 17280#32
  ![v2305.toNat, 17280]
def k0_off176 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2312 : Index := Scalar.indexCast v1271
  let c17408 : Index := 17408#32
  ![v2312.toNat, 17408]
def k0_off177 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2319 : Index := Scalar.indexCast v1271
  let c17536 : Index := 17536#32
  ![v2319.toNat, 17536]
def k0_off178 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2326 : Index := Scalar.indexCast v1271
  let c17664 : Index := 17664#32
  ![v2326.toNat, 17664]
def k0_off179 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2333 : Index := Scalar.indexCast v1271
  let c17792 : Index := 17792#32
  ![v2333.toNat, 17792]
def k0_off180 (k0_t2 : Fin k0_t2_loop.trips) : Fin 3 → Nat :=
  let c14 : Index := 14#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2340 : Index := Scalar.indexCast v1271
  let c0_719 : Index := 0#32
  ![14, v2340.toNat, 0]
def k0_off181 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2346 : Index := Scalar.indexCast v1271
  let c17920 : Index := 17920#32
  ![v2346.toNat, 17920]
def k0_off182 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2353 : Index := Scalar.indexCast v1271
  let c18048 : Index := 18048#32
  ![v2353.toNat, 18048]
def k0_off183 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2360 : Index := Scalar.indexCast v1271
  let c18176 : Index := 18176#32
  ![v2360.toNat, 18176]
def k0_off184 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2367 : Index := Scalar.indexCast v1271
  let c18304 : Index := 18304#32
  ![v2367.toNat, 18304]
def k0_off185 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2374 : Index := Scalar.indexCast v1271
  let c18432 : Index := 18432#32
  ![v2374.toNat, 18432]
def k0_off186 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2381 : Index := Scalar.indexCast v1271
  let c18560 : Index := 18560#32
  ![v2381.toNat, 18560]
def k0_off187 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2388 : Index := Scalar.indexCast v1271
  let c18688 : Index := 18688#32
  ![v2388.toNat, 18688]
def k0_off188 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2395 : Index := Scalar.indexCast v1271
  let c18816 : Index := 18816#32
  ![v2395.toNat, 18816]
def k0_off189 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2402 : Index := Scalar.indexCast v1271
  let c18944 : Index := 18944#32
  ![v2402.toNat, 18944]
def k0_off190 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2409 : Index := Scalar.indexCast v1271
  let c19072 : Index := 19072#32
  ![v2409.toNat, 19072]
def k0_off191 (k0_t2 : Fin k0_t2_loop.trips) : Fin 3 → Nat :=
  let c15 : Index := 15#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2416 : Index := Scalar.indexCast v1271
  let c0_730 : Index := 0#32
  ![15, v2416.toNat, 0]
def k0_off192 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2422 : Index := Scalar.indexCast v1271
  let c19200 : Index := 19200#32
  ![v2422.toNat, 19200]
def k0_off193 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2429 : Index := Scalar.indexCast v1271
  let c19328 : Index := 19328#32
  ![v2429.toNat, 19328]
def k0_off194 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2436 : Index := Scalar.indexCast v1271
  let c19456 : Index := 19456#32
  ![v2436.toNat, 19456]
def k0_off195 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2443 : Index := Scalar.indexCast v1271
  let c19584 : Index := 19584#32
  ![v2443.toNat, 19584]
def k0_off196 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2450 : Index := Scalar.indexCast v1271
  let c19712 : Index := 19712#32
  ![v2450.toNat, 19712]
def k0_off197 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2457 : Index := Scalar.indexCast v1271
  let c19840 : Index := 19840#32
  ![v2457.toNat, 19840]
def k0_off198 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2464 : Index := Scalar.indexCast v1271
  let c19968 : Index := 19968#32
  ![v2464.toNat, 19968]
def k0_off199 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2471 : Index := Scalar.indexCast v1271
  let c20096 : Index := 20096#32
  ![v2471.toNat, 20096]
def k0_off200 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2478 : Index := Scalar.indexCast v1271
  let c20224 : Index := 20224#32
  ![v2478.toNat, 20224]
def k0_off201 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2485 : Index := Scalar.indexCast v1271
  let c20352 : Index := 20352#32
  ![v2485.toNat, 20352]
def k0_off202 (k0_t2 : Fin k0_t2_loop.trips) : Fin 3 → Nat :=
  let c16_741 : Index := 16#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2492 : Index := Scalar.indexCast v1271
  let c0_742 : Index := 0#32
  ![16, v2492.toNat, 0]
def k0_off203 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2498 : Index := Scalar.indexCast v1271
  let c20480 : Index := 20480#32
  ![v2498.toNat, 20480]
def k0_off204 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2505 : Index := Scalar.indexCast v1271
  let c20608 : Index := 20608#32
  ![v2505.toNat, 20608]
def k0_off205 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2512 : Index := Scalar.indexCast v1271
  let c20736 : Index := 20736#32
  ![v2512.toNat, 20736]
def k0_off206 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2519 : Index := Scalar.indexCast v1271
  let c20864 : Index := 20864#32
  ![v2519.toNat, 20864]
def k0_off207 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2526 : Index := Scalar.indexCast v1271
  let c20992 : Index := 20992#32
  ![v2526.toNat, 20992]
def k0_off208 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2533 : Index := Scalar.indexCast v1271
  let c21120 : Index := 21120#32
  ![v2533.toNat, 21120]
def k0_off209 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2540 : Index := Scalar.indexCast v1271
  let c21248 : Index := 21248#32
  ![v2540.toNat, 21248]
def k0_off210 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2547 : Index := Scalar.indexCast v1271
  let c21376 : Index := 21376#32
  ![v2547.toNat, 21376]
def k0_off211 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2554 : Index := Scalar.indexCast v1271
  let c21504 : Index := 21504#32
  ![v2554.toNat, 21504]
def k0_off212 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2561 : Index := Scalar.indexCast v1271
  let c21632 : Index := 21632#32
  ![v2561.toNat, 21632]
def k0_off213 (k0_t2 : Fin k0_t2_loop.trips) : Fin 3 → Nat :=
  let c17 : Index := 17#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2568 : Index := Scalar.indexCast v1271
  let c0_753 : Index := 0#32
  ![17, v2568.toNat, 0]
def k0_off214 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2574 : Index := Scalar.indexCast v1271
  let c21760 : Index := 21760#32
  ![v2574.toNat, 21760]
def k0_off215 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2581 : Index := Scalar.indexCast v1271
  let c21888 : Index := 21888#32
  ![v2581.toNat, 21888]
def k0_off216 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2588 : Index := Scalar.indexCast v1271
  let c22016 : Index := 22016#32
  ![v2588.toNat, 22016]
def k0_off217 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2595 : Index := Scalar.indexCast v1271
  let c22144 : Index := 22144#32
  ![v2595.toNat, 22144]
def k0_off218 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2602 : Index := Scalar.indexCast v1271
  let c22272 : Index := 22272#32
  ![v2602.toNat, 22272]
def k0_off219 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2609 : Index := Scalar.indexCast v1271
  let c22400 : Index := 22400#32
  ![v2609.toNat, 22400]
def k0_off220 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2616 : Index := Scalar.indexCast v1271
  let c22528 : Index := 22528#32
  ![v2616.toNat, 22528]
def k0_off221 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2623 : Index := Scalar.indexCast v1271
  let c22656 : Index := 22656#32
  ![v2623.toNat, 22656]
def k0_off222 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2630 : Index := Scalar.indexCast v1271
  let c22784 : Index := 22784#32
  ![v2630.toNat, 22784]
def k0_off223 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2637 : Index := Scalar.indexCast v1271
  let c22912 : Index := 22912#32
  ![v2637.toNat, 22912]
def k0_off224 (k0_t2 : Fin k0_t2_loop.trips) : Fin 3 → Nat :=
  let c18 : Index := 18#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2644 : Index := Scalar.indexCast v1271
  let c0_764 : Index := 0#32
  ![18, v2644.toNat, 0]
def k0_off225 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2650 : Index := Scalar.indexCast v1271
  let c23040 : Index := 23040#32
  ![v2650.toNat, 23040]
def k0_off226 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2657 : Index := Scalar.indexCast v1271
  let c23168 : Index := 23168#32
  ![v2657.toNat, 23168]
def k0_off227 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2664 : Index := Scalar.indexCast v1271
  let c23296 : Index := 23296#32
  ![v2664.toNat, 23296]
def k0_off228 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2671 : Index := Scalar.indexCast v1271
  let c23424 : Index := 23424#32
  ![v2671.toNat, 23424]
def k0_off229 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2678 : Index := Scalar.indexCast v1271
  let c23552 : Index := 23552#32
  ![v2678.toNat, 23552]
def k0_off230 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2685 : Index := Scalar.indexCast v1271
  let c23680 : Index := 23680#32
  ![v2685.toNat, 23680]
def k0_off231 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2692 : Index := Scalar.indexCast v1271
  let c23808 : Index := 23808#32
  ![v2692.toNat, 23808]
def k0_off232 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2699 : Index := Scalar.indexCast v1271
  let c23936 : Index := 23936#32
  ![v2699.toNat, 23936]
def k0_off233 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2706 : Index := Scalar.indexCast v1271
  let c24064 : Index := 24064#32
  ![v2706.toNat, 24064]
def k0_off234 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2713 : Index := Scalar.indexCast v1271
  let c24192 : Index := 24192#32
  ![v2713.toNat, 24192]
def k0_off235 (k0_t2 : Fin k0_t2_loop.trips) : Fin 3 → Nat :=
  let c19 : Index := 19#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2720 : Index := Scalar.indexCast v1271
  let c0_775 : Index := 0#32
  ![19, v2720.toNat, 0]
def k0_off236 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2726 : Index := Scalar.indexCast v1271
  let c24320 : Index := 24320#32
  ![v2726.toNat, 24320]
def k0_off237 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2733 : Index := Scalar.indexCast v1271
  let c24448 : Index := 24448#32
  ![v2733.toNat, 24448]
def k0_off238 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2740 : Index := Scalar.indexCast v1271
  let c24576 : Index := 24576#32
  ![v2740.toNat, 24576]
def k0_off239 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2747 : Index := Scalar.indexCast v1271
  let c24704 : Index := 24704#32
  ![v2747.toNat, 24704]
def k0_off240 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2754 : Index := Scalar.indexCast v1271
  let c24832 : Index := 24832#32
  ![v2754.toNat, 24832]
def k0_off241 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2761 : Index := Scalar.indexCast v1271
  let c24960 : Index := 24960#32
  ![v2761.toNat, 24960]
def k0_off242 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2768 : Index := Scalar.indexCast v1271
  let c25088 : Index := 25088#32
  ![v2768.toNat, 25088]
def k0_off243 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2775 : Index := Scalar.indexCast v1271
  let c25216 : Index := 25216#32
  ![v2775.toNat, 25216]
def k0_off244 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2782 : Index := Scalar.indexCast v1271
  let c25344 : Index := 25344#32
  ![v2782.toNat, 25344]
def k0_off245 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2789 : Index := Scalar.indexCast v1271
  let c25472 : Index := 25472#32
  ![v2789.toNat, 25472]
def k0_off246 (k0_t2 : Fin k0_t2_loop.trips) : Fin 3 → Nat :=
  let c20 : Index := 20#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2796 : Index := Scalar.indexCast v1271
  let c0_786 : Index := 0#32
  ![20, v2796.toNat, 0]
def k0_off247 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2802 : Index := Scalar.indexCast v1271
  let c25600 : Index := 25600#32
  ![v2802.toNat, 25600]
def k0_off248 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2809 : Index := Scalar.indexCast v1271
  let c25728 : Index := 25728#32
  ![v2809.toNat, 25728]
def k0_off249 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2816 : Index := Scalar.indexCast v1271
  let c25856 : Index := 25856#32
  ![v2816.toNat, 25856]
def k0_off250 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2823 : Index := Scalar.indexCast v1271
  let c25984 : Index := 25984#32
  ![v2823.toNat, 25984]
def k0_off251 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2830 : Index := Scalar.indexCast v1271
  let c26112 : Index := 26112#32
  ![v2830.toNat, 26112]
def k0_off252 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2837 : Index := Scalar.indexCast v1271
  let c26240 : Index := 26240#32
  ![v2837.toNat, 26240]
def k0_off253 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2844 : Index := Scalar.indexCast v1271
  let c26368 : Index := 26368#32
  ![v2844.toNat, 26368]
def k0_off254 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2851 : Index := Scalar.indexCast v1271
  let c26496 : Index := 26496#32
  ![v2851.toNat, 26496]
def k0_off255 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2858 : Index := Scalar.indexCast v1271
  let c26624 : Index := 26624#32
  ![v2858.toNat, 26624]
def k0_off256 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2865 : Index := Scalar.indexCast v1271
  let c26752 : Index := 26752#32
  ![v2865.toNat, 26752]
def k0_off257 (k0_t2 : Fin k0_t2_loop.trips) : Fin 3 → Nat :=
  let c21 : Index := 21#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2872 : Index := Scalar.indexCast v1271
  let c0_797 : Index := 0#32
  ![21, v2872.toNat, 0]
def k0_off258 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2878 : Index := Scalar.indexCast v1271
  let c26880 : Index := 26880#32
  ![v2878.toNat, 26880]
def k0_off259 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2885 : Index := Scalar.indexCast v1271
  let c27008 : Index := 27008#32
  ![v2885.toNat, 27008]
def k0_off260 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2892 : Index := Scalar.indexCast v1271
  let c27136 : Index := 27136#32
  ![v2892.toNat, 27136]
def k0_off261 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2899 : Index := Scalar.indexCast v1271
  let c27264 : Index := 27264#32
  ![v2899.toNat, 27264]
def k0_off262 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2906 : Index := Scalar.indexCast v1271
  let c27392 : Index := 27392#32
  ![v2906.toNat, 27392]
def k0_off263 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2913 : Index := Scalar.indexCast v1271
  let c27520 : Index := 27520#32
  ![v2913.toNat, 27520]
def k0_off264 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2920 : Index := Scalar.indexCast v1271
  let c27648 : Index := 27648#32
  ![v2920.toNat, 27648]
def k0_off265 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2927 : Index := Scalar.indexCast v1271
  let c27776 : Index := 27776#32
  ![v2927.toNat, 27776]
def k0_off266 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2934 : Index := Scalar.indexCast v1271
  let c27904 : Index := 27904#32
  ![v2934.toNat, 27904]
def k0_off267 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2941 : Index := Scalar.indexCast v1271
  let c28032 : Index := 28032#32
  ![v2941.toNat, 28032]
def k0_off268 (k0_t2 : Fin k0_t2_loop.trips) : Fin 3 → Nat :=
  let c22 : Index := 22#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2948 : Index := Scalar.indexCast v1271
  let c0_808 : Index := 0#32
  ![22, v2948.toNat, 0]
def k0_off269 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2954 : Index := Scalar.indexCast v1271
  let c28160 : Index := 28160#32
  ![v2954.toNat, 28160]
def k0_off270 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2961 : Index := Scalar.indexCast v1271
  let c28288 : Index := 28288#32
  ![v2961.toNat, 28288]
def k0_off271 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2968 : Index := Scalar.indexCast v1271
  let c28416 : Index := 28416#32
  ![v2968.toNat, 28416]
def k0_off272 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2975 : Index := Scalar.indexCast v1271
  let c28544 : Index := 28544#32
  ![v2975.toNat, 28544]
def k0_off273 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2982 : Index := Scalar.indexCast v1271
  let c28672 : Index := 28672#32
  ![v2982.toNat, 28672]
def k0_off274 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2989 : Index := Scalar.indexCast v1271
  let c28800 : Index := 28800#32
  ![v2989.toNat, 28800]
def k0_off275 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v2996 : Index := Scalar.indexCast v1271
  let c28928 : Index := 28928#32
  ![v2996.toNat, 28928]
def k0_off276 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3003 : Index := Scalar.indexCast v1271
  let c29056 : Index := 29056#32
  ![v3003.toNat, 29056]
def k0_off277 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3010 : Index := Scalar.indexCast v1271
  let c29184 : Index := 29184#32
  ![v3010.toNat, 29184]
def k0_off278 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3017 : Index := Scalar.indexCast v1271
  let c29312 : Index := 29312#32
  ![v3017.toNat, 29312]
def k0_off279 (k0_t2 : Fin k0_t2_loop.trips) : Fin 3 → Nat :=
  let c23 : Index := 23#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3024 : Index := Scalar.indexCast v1271
  let c0_819 : Index := 0#32
  ![23, v3024.toNat, 0]
def k0_off280 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3030 : Index := Scalar.indexCast v1271
  let c29440 : Index := 29440#32
  ![v3030.toNat, 29440]
def k0_off281 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3037 : Index := Scalar.indexCast v1271
  let c29568 : Index := 29568#32
  ![v3037.toNat, 29568]
def k0_off282 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3044 : Index := Scalar.indexCast v1271
  let c29696 : Index := 29696#32
  ![v3044.toNat, 29696]
def k0_off283 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3051 : Index := Scalar.indexCast v1271
  let c29824 : Index := 29824#32
  ![v3051.toNat, 29824]
def k0_off284 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3058 : Index := Scalar.indexCast v1271
  let c29952 : Index := 29952#32
  ![v3058.toNat, 29952]
def k0_off285 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3065 : Index := Scalar.indexCast v1271
  let c30080 : Index := 30080#32
  ![v3065.toNat, 30080]
def k0_off286 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3072 : Index := Scalar.indexCast v1271
  let c30208 : Index := 30208#32
  ![v3072.toNat, 30208]
def k0_off287 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3079 : Index := Scalar.indexCast v1271
  let c30336 : Index := 30336#32
  ![v3079.toNat, 30336]
def k0_off288 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3086 : Index := Scalar.indexCast v1271
  let c30464 : Index := 30464#32
  ![v3086.toNat, 30464]
def k0_off289 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3093 : Index := Scalar.indexCast v1271
  let c30592 : Index := 30592#32
  ![v3093.toNat, 30592]
def k0_off290 (k0_t2 : Fin k0_t2_loop.trips) : Fin 3 → Nat :=
  let c24_830 : Index := 24#32
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3100 : Index := Scalar.indexCast v1271
  let c0_831 : Index := 0#32
  ![24, v3100.toNat, 0]
def k0_off291 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3106 : Index := Scalar.indexCast v1271
  let c30720 : Index := 30720#32
  ![v3106.toNat, 30720]
def k0_off292 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3113 : Index := Scalar.indexCast v1271
  let c30848 : Index := 30848#32
  ![v3113.toNat, 30848]
def k0_off293 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3120 : Index := Scalar.indexCast v1271
  let c30976 : Index := 30976#32
  ![v3120.toNat, 30976]
def k0_off294 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3127 : Index := Scalar.indexCast v1271
  let c31104 : Index := 31104#32
  ![v3127.toNat, 31104]
def k0_off295 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3134 : Index := Scalar.indexCast v1271
  let c31232 : Index := 31232#32
  ![v3134.toNat, 31232]
def k0_off296 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3141 : Index := Scalar.indexCast v1271
  let c31360 : Index := 31360#32
  ![v3141.toNat, 31360]
def k0_off297 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3148 : Index := Scalar.indexCast v1271
  let c31488 : Index := 31488#32
  ![v3148.toNat, 31488]
def k0_off298 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3155 : Index := Scalar.indexCast v1271
  let c31616 : Index := 31616#32
  ![v3155.toNat, 31616]
def k0_off299 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3162 : Index := Scalar.indexCast v1271
  let c31744 : Index := 31744#32
  ![v3162.toNat, 31744]
def k0_off300 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c8_i32_559 : BitVec 32 := 8#32
  let v1270 : BitVec 32 := Scalar.muli v1269 c8_i32_559
  let v1271 : BitVec 32 := v1270
  let v3169 : Index := Scalar.indexCast v1271
  let c31872 : Index := 31872#32
  ![v3169.toNat, 31872]
def k0_cond2 (k0_t2 : Fin k0_t2_loop.trips) : BitVec 1 :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c0_i32_842 : BitVec 32 := 0#32
  let v3176 : BitVec 1 := Scalar.cmpi .sgt v1269 c0_i32_842
  let v3177 : BitVec 32 := Scalar.extui v3176
  let c0_i32_843 : BitVec 32 := 0#32
  let v3178 : BitVec 1 := Scalar.cmpi .ne v3177 c0_i32_843
  v3178

def k0_mult92 (k0_t2 : Fin k0_t2_loop.trips) : BitVec 32 :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c1_i32_844 : BitVec 32 := 1#32
  let v3179 : BitVec 32 := Scalar.subi v1269 c1_i32_844
  let c8_i32_845 : BitVec 32 := 8#32
  let v3180 : BitVec 32 := Scalar.muli v3179 c8_i32_845
  v3180
def k0_mult93 (k0_t2 : Fin k0_t2_loop.trips) : BitVec 32 :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c1_i32_844 : BitVec 32 := 1#32
  let v3179 : BitVec 32 := Scalar.subi v1269 c1_i32_844
  let c8_i32_846 : BitVec 32 := 8#32
  let v3182 : BitVec 32 := Scalar.muli v3179 c8_i32_846
  v3182
def k0_off301 (k0_t2 : Fin k0_t2_loop.trips) : Fin 2 → Nat :=
  let c0_i32_558 : BitVec 32 := 0#32
  let c0_i32_504 : BitVec 32 := 0#32
  let c1_i32_506 : BitVec 32 := 1#32
  let arg19 : BitVec 32 := Scf.iv c0_i32_504 c1_i32_506 k0_t2
  let c1_i32_557 : BitVec 32 := 1#32
  let v1268 : BitVec 32 := Scalar.muli arg19 c1_i32_557
  let v1269 : BitVec 32 := Scalar.addi c0_i32_558 v1268
  let c1_i32_844 : BitVec 32 := 1#32
  let v3179 : BitVec 32 := Scalar.subi v1269 c1_i32_844
  let c8_i32_846 : BitVec 32 := 8#32
  let v3182 : BitVec 32 := Scalar.muli v3179 c8_i32_846
  let v3183 : BitVec 32 := v3182
  let c0_i32_848 : BitVec 32 := 0#32
  ![v3183.toNat, 0]
def k0_mult94 : BitVec 32 :=
  let c56_i32_508 : BitVec 32 := 56#32
  c56_i32_508
def k0_mult95 : BitVec 32 :=
  let c56_i32_509 : BitVec 32 := 56#32
  c56_i32_509
def k0_mult96 : BitVec 32 :=
  let c0_i32_517 : BitVec 32 := 0#32
  c0_i32_517
def k0_mult97 : BitVec 32 :=
  let c0_i32_518 : BitVec 32 := 0#32
  c0_i32_518
def k0_mult98 : BitVec 32 :=
  let c8_i32_522 : BitVec 32 := 8#32
  c8_i32_522
def k0_mult99 : BitVec 32 :=
  let c8_i32_523 : BitVec 32 := 8#32
  c8_i32_523
def k0_mult100 : BitVec 32 :=
  let c16_i32_527 : BitVec 32 := 16#32
  c16_i32_527
def k0_mult101 : BitVec 32 :=
  let c16_i32_528 : BitVec 32 := 16#32
  c16_i32_528
def k0_mult102 : BitVec 32 :=
  let c24_i32_532 : BitVec 32 := 24#32
  c24_i32_532
def k0_mult103 : BitVec 32 :=
  let c24_i32_533 : BitVec 32 := 24#32
  c24_i32_533
def k0_mult104 : BitVec 32 :=
  let c32_i32_537 : BitVec 32 := 32#32
  c32_i32_537
def k0_mult105 : BitVec 32 :=
  let c32_i32_538 : BitVec 32 := 32#32
  c32_i32_538
def k0_mult106 : BitVec 32 :=
  let c40_i32_542 : BitVec 32 := 40#32
  c40_i32_542
def k0_mult107 : BitVec 32 :=
  let c40_i32_543 : BitVec 32 := 40#32
  c40_i32_543
def k0_mult108 : BitVec 32 :=
  let c48_i32_547 : BitVec 32 := 48#32
  c48_i32_547
def k0_mult109 : BitVec 32 :=
  let c48_i32_548 : BitVec 32 := 48#32
  c48_i32_548
def k0_mult110 : BitVec 32 :=
  let c56_i32_552 : BitVec 32 := 56#32
  c56_i32_552
def k0_mult111 : BitVec 32 :=
  let c56_i32_553 : BitVec 32 := 56#32
  c56_i32_553
-- ==== KernelIdeal.lean ====
variable {F : FTy → Type} [FloatOps F] [Named F]
def κ : String → Option EReal := fun
  | "log2e_over_temp" => some (((Real.log 2)⁻¹ * (7 / 10)⁻¹ : ℝ) : EReal)
  | _ => none
-- ==== ReferenceIdeal.lean ====
abbrev S64x1x1024 : Shape := ⟨3, ![64, 1, 1024]⟩
abbrev S1024x32000 : Shape := ⟨2, ![1024, 32000]⟩
abbrev S32000 : Shape := ⟨1, ![32000]⟩
abbrev S64x1024 : Shape := ⟨2, ![64, 1024]⟩
abbrev S1x32000 : Shape := ⟨2, ![1, 32000]⟩
abbrev S64x32000 : Shape := ⟨2, ![64, 32000]⟩
abbrev S1x64 : Shape := ⟨2, ![1, 64]⟩
abbrev S64 : Shape := ⟨1, ![64]⟩
abbrev S64x1 : Shape := ⟨2, ![64, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x1x1024, .bf16⟩
  | .hbm, ⟨1, _⟩ => ⟨S1024x32000, .fp8e4m3⟩
  | .hbm, ⟨2, _⟩ => ⟨S32000, .f32⟩
  | .hbm, ⟨3, _⟩ => ⟨S64x1024, .bf16⟩
  | .hbm, ⟨4, _⟩ => ⟨S1x32000, .f32⟩
  | .hbm, ⟨5, _⟩ => ⟨S64x32000, .f32⟩
  | .hbm, ⟨6, _⟩ => ⟨S64x1024, .fp8e4m3⟩
  | .hbm, ⟨7, _⟩ => ⟨S1x64, .f32⟩
  | .local _ .vmem, ⟨0, _⟩ => ⟨S64x1024, .bf16⟩
  | .local _ .vmem, ⟨1, _⟩ => ⟨S1024x32000, .fp8e4m3⟩
  | .local _ .vmem, ⟨2, _⟩ => ⟨S1x32000, .f32⟩
  | .local _ .vmem, ⟨3, _⟩ => ⟨S64x32000, .f32⟩
  | .local _ .vmem, ⟨4, _⟩ => ⟨S64x1024, .fp8e4m3⟩
  | .local _ .vmem, ⟨5, _⟩ => ⟨S1x64, .f32⟩
  | _, _ => ⟨S64x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | "temp" => some ((7 / 10 : ℝ) : EReal)
  | _ => none

abbrev grid0 : Pipeline.Grid := .none

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Ring.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Ring.Trips
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands and the scratch buffers of the kernel, as the call passes them. -/
abbrev xH : Memref sig .tc .hbm S64x1024 .bf16 := Memref.whole main_v0
abbrev wH : Memref sig .tc .hbm S1024x32000 .fp8e4m3 := Memref.whole main_arg1
abbrev wsH : Memref sig .tc .hbm S250x128 .f32 := Memref.whole main_v1
abbrev targetH : Memref sig .tc .hbm S64x32000 .f32 := Memref.whole main_v2_0
abbrev codesH : Memref sig .tc .hbm S64x1024 .fp8e4m3 := Memref.whole main_v2_1
abbrev scalesH : Memref sig .tc .hbm S1x64 .f32 := Memref.whole main_v2_2
abbrev xV : Memref sig .tc .vmem S64x1024 .bf16 := Memref.whole cc0_scratch0
abbrev codesV : Memref sig .tc .vmem S64x1024 .fp8e4m3 := Memref.whole cc0_scratch1
abbrev wV : Memref sig .tc .vmem S8x1024x1280 .fp8e4m3 := Memref.whole cc0_scratch2
abbrev wsV : Memref sig .tc .vmem S250x128 .f32 := Memref.whole cc0_scratch3
abbrev pV : Memref sig .tc .vmem S64x32000 .f32 := Memref.whole cc0_scratch4
abbrev mtV : Memref sig .tc .vmem S25x64x128 .f32 := Memref.whole cc0_scratch5
abbrev scaleV : Memref sig .tc .vmem S64x128 .f32 := Memref.whole cc0_scratch6
abbrev mV : Memref sig .tc .vmem S64x128 .f32 := Memref.whole cc0_scratch7
abbrev lV : Memref sig .tc .vmem S64x128 .f32 := Memref.whole cc0_scratch8
abbrev rowV : Memref sig .tc .vmem S1x64 .f32 := Memref.whole cc0_scratch9

/-- The contents of a memref's buffer on core `c`, and the buffer held whole at them. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-! ## Canonical names: tile `b` of the head matrix, slot `s` of the ring, its semaphore -/

abbrev tileOff (b : Fin 25) : Fin 2 → Nat := ![0, 1280 * b.val]
theorem tileOff_inb (b : Fin 25) : ∀ a, tileOff b a + S1024x1280.size a ≤ S1024x32000.size a := by
  have := b.isLt; intro a; fin_cases a
  · show 0 + 1024 ≤ 1024; omega
  · show 1280 * b.val + 1280 ≤ 32000; omega
abbrev slotOff (s : Fin 8) : Fin 3 → Nat := ![s.val, 0, 0]
theorem slotOff_inb (s : Fin 8) : ∀ a, slotOff s a + S1x1024x1280.size a ≤ S8x1024x1280.size a := by
  have := s.isLt; intro a; fin_cases a
  · show s.val + 1 ≤ 8; omega
  · show 0 + 1024 ≤ 1024; omega
  · show 0 + 1280 ≤ 1280; omega
abbrev semOff (s : Fin 8) : Fin 1 → Nat := ![s.val]
theorem semOff_inb (s : Fin 8) : ∀ a, semOff s a + S1.size a ≤ S8.size a := by
  have := s.isLt; intro a; fin_cases a; show s.val + 1 ≤ 8; omega

/-- Tile `b` of the head matrix in HBM. -/
def tile (b : Fin 25) : Memref sig .tc .hbm S1024x1280 .fp8e4m3 :=
  wH.slice (Rect.unit (s := S1024x32000) (tileOff b) S1024x1280.size (tileOff_inb b)) (fun _ => rfl)
/-- Slot `s` of the ring. -/
def rslot (s : Fin 8) : Memref sig .tc .vmem S1024x1280 .fp8e4m3 :=
  (wV.slice (Rect.unit (s := S8x1024x1280) (slotOff s) S1x1024x1280.size (slotOff_inb s)) (fun _ => rfl)).squeeze S1024x1280 squeezes_S1x1024x1280_S1024x1280
/-- Slot `s`'s DMA semaphore. -/
def csm (s : Fin 8) : DmaSems sig S_ := (cc0_scratch11.slice (Rect.unit (s := S8) (semOff s) S1.size (semOff_inb s))).squeeze S_ squeezes_S1_S_

instance (s : Fin 8) : ClosedOff (slotOff s) := ⟨slotOff s, rfl⟩
instance (b : Fin 25) : ClosedOff (tileOff b) := ⟨tileOff b, rfl⟩

theorem csm_congr {off : Fin 1 → Nat} {s : Fin 8} (e : off = semOff s) (hh) :
    (cc0_scratch11.slice (Rect.unit (s := S8) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 8} (e : off = slotOff s) (hh hs) :
    (wV.slice (Rect.unit (s := S8x1024x1280) off S1x1024x1280.size hh) hs).squeeze S1024x1280 squeezes_S1x1024x1280_S1024x1280 = rslot s :=
  congrArg (fun M : Memref sig .tc .vmem S1x1024x1280 .fp8e4m3 => M.squeeze S1024x1280 squeezes_S1x1024x1280_S1024x1280) (Memref.slice_unit_congr _ e _ _ _ _)
theorem tile_congr {off : Fin 2 → Nat} {b : Fin 25} (e : off = tileOff b) (hh hs) :
    wH.slice (Rect.unit (s := S1024x32000) off S1024x1280.size hh) hs = tile b := by
  subst e; rfl

theorem off1_eq : ∀ k : Fin k0_t1_loop.trips, k0_off1 k = semOff (Ring.sl 8 k.val) := by decide +kernel
theorem off2_eq : ∀ k : Fin k0_t1_loop.trips, k0_off2 k = slotOff (Ring.sl 8 k.val) := by decide +kernel
theorem off4_eq : ∀ k : Fin k0_t1_loop.trips, k0_off4 k = slotOff (Ring.sl 8 k.val) := by decide +kernel
theorem off3_eq : ∀ k : Fin k0_t1_loop.trips, k0_off3 k = tileOff (Ring.bk 25 k.val) := by decide +kernel
theorem off22_eq : ∀ k : Fin k0_t1_loop.trips, k0_off22 k = semOff (Ring.sl 8 k.val) := by decide +kernel
theorem off23_eq : ∀ k : Fin k0_t1_loop.trips, k0_off23 k = slotOff (Ring.sl 8 k.val) := by decide +kernel
theorem off24_eq : ∀ k : Fin k0_t1_loop.trips, k.val + 8 < 25 → k0_off24 k = tileOff (Ring.bk 25 (k.val + 8)) := by decide +kernel
theorem cond1_eq : ∀ k : Fin k0_t1_loop.trips, k.val + 8 < 25 → k0_cond1 k = 1#1 := by decide +kernel
theorem cond1_ne : ∀ k : Fin k0_t1_loop.trips, 25 ≤ k.val + 8 → ¬ k0_cond1 k = 1#1 := by decide +kernel

@[sl_canon] theorem semK (k : Fin k0_t1_loop.trips) (hh) :
    (cc0_scratch11.slice (Rect.unit (s := S8) (k0_off1 k) S1.size hh)).squeeze S_ squeezes_S1_S_ = csm (Ring.sl 8 k.val) := csm_congr (off1_eq k) _
@[sl_canon] theorem semI (k : Fin k0_t1_loop.trips) (hh) :
    (cc0_scratch11.slice (Rect.unit (s := S8) (k0_off22 k) S1.size hh)).squeeze S_ squeezes_S1_S_ = csm (Ring.sl 8 k.val) := csm_congr (off22_eq k) _
@[sl_canon] theorem slotK (k : Fin k0_t1_loop.trips) (hh hs) :
    (wV.slice (Rect.unit (s := S8x1024x1280) (k0_off2 k) S1x1024x1280.size hh) hs).squeeze S1024x1280 squeezes_S1x1024x1280_S1024x1280 = rslot (Ring.sl 8 k.val) := rslot_congr (off2_eq k) _ _
@[sl_canon] theorem slotI (k : Fin k0_t1_loop.trips) (hh hs) :
    (wV.slice (Rect.unit (s := S8x1024x1280) (k0_off23 k) S1x1024x1280.size hh) hs).squeeze S1024x1280 squeezes_S1x1024x1280_S1024x1280 = rslot (Ring.sl 8 k.val) := rslot_congr (off23_eq k) _ _
@[sl_canon] theorem tileW (k : Fin k0_t1_loop.trips) (hh hs) :
    wH.slice (Rect.unit (s := S1024x32000) (k0_off3 k) S1024x1280.size hh) hs = tile (Ring.bk 25 k.val) := tile_congr (off3_eq k) _ _
@[sl_canon] theorem tileI (k : Fin k0_t1_loop.trips) (hk : k.val + 8 < 25) (hh hs) :
    wH.slice (Rect.unit (s := S1024x32000) (k0_off24 k) S1024x1280.size hh) hs = tile (Ring.bk 25 (k.val + 8)) := tile_congr (off24_eq k hk) _ _

instance (priority := 2000) closedSlot4 (k : Fin k0_t1_loop.trips) : ClosedOff (k0_off4 k) := ⟨slotOff (Ring.sl 8 k.val), off4_eq k⟩
instance (priority := 2000) closedSlot2 (k : Fin k0_t1_loop.trips) : ClosedOff (k0_off2 k) := ⟨slotOff (Ring.sl 8 k.val), off2_eq k⟩

/-! ## The pieces: a tile at home, a slot held, a slot's cell, a slot in flight -/

section Pieces
variable (c : Dev nD) (XA : BufOf (F := F) c wH)

abbrev cellP (s : Fin 8) : sProp 𝕄 := semVal ((c : Thread nD τ), SemLoc.dma (csm s).sem) 0
abbrev slotP (s : Fin 8) (f : BufOf (F := F) c (rslot s)) : sProp 𝕄 :=
  (rslot s).view.loc (c : Thread nD τ) ↦[(rslot s).view.set]{fullShare} f
abbrev homeP (b : Fin 25) : sProp 𝕄 := (tile b).view.loc (c : Thread nD τ) ↦[(tile b).view.set]{fullShare} XA
/-- What tile `b`'s copy leaves in slot `s` over prior contents `f`. -/
abbrev landed (s : Fin 8) (b : Fin 25) (f : BufOf (F := F) c (rslot s)) : BufOf (F := F) c (rslot s) :=
  (rslot s).view.writes (Elt F) f [⟨Rect.whole S1024x1280, ReadAs.same.apply ((tile b).view.read (Elt F) XA)⟩]
abbrev NN : ℕ := 40960
/-- Slot `s` in flight with tile `b`, issued over `f`. -/
abbrev flightP (s : Fin 8) (b : Fin 25) (f : BufOf (F := F) c (rslot s)) : sProp 𝕄 :=
  Transfers.Flight countersEmb (c : Thread nD τ) (SemLoc.dma (csm s).sem) () NN iprop(slotP c s (landed c XA s b f) ∗ homeP c XA b)

/-- What trip `p` finds in slot `p % 8`: tile `p` in flight if there is one, the slot and its cell free otherwise. -/
def role (p : ℕ) : sProp 𝕄 :=
  if p < 25 then iprop(∃ f, flightP c XA (Ring.sl 8 p) (Ring.bk 25 p) f) else iprop(cellP c (Ring.sl 8 p) ∗ ∃ f, slotP c (Ring.sl 8 p) f)
/-- The tile trip `p` sends out, if there is one. -/
def nextTile (p : ℕ) : sProp 𝕄 := if p + 8 < 25 then homeP c XA (Ring.bk 25 (p + 8)) else iprop(emp)

theorem role_lt {p : ℕ} (h : p < 25) : role c XA p = iprop(∃ f, flightP c XA (Ring.sl 8 p) (Ring.bk 25 p) f) := if_pos h
theorem role_ge {p : ℕ} (h : ¬ p < 25) : role c XA p = iprop(cellP c (Ring.sl 8 p) ∗ ∃ f, slotP c (Ring.sl 8 p) f) := if_neg h
/-- The slot trip `p` leaves: refilled with tile `p + 8`, -/
theorem role_refilled {p : ℕ} (h : p + 8 < 25) : iprop(∃ f, flightP c XA (Ring.sl 8 p) (Ring.bk 25 (p + 8)) f) ⊢ role c XA (p + 8) := by
  rw [role_lt c XA h, Ring.sl_add 8 p]
/-- or free, when no tile is left. -/
theorem role_freed {p : ℕ} (h : ¬ p + 8 < 25) : iprop(cellP c (Ring.sl 8 p) ∗ ∃ f, slotP c (Ring.sl 8 p) f) ⊢ role c XA (p + 8) := by
  rw [role_ge c XA h, Ring.sl_add 8 p]
theorem nextTile_lt {p : ℕ} (h : p + 8 < 25) : nextTile c XA p ⊢ homeP c XA (Ring.bk 25 (p + 8)) := by
  unfold nextTile; rw [if_pos h]

/-- A tile's words as a slot's payload. -/
abbrev payload (b : Fin 25) : S1024x1280.Idx → Elt F .fp8e4m3 := ReadAs.same.apply ((tile b).view.read (Elt F) XA)
/-- The refill a trip issues, as the run states it: over the slot as the previous tile's copy left it. -/
theorem flightP_after (s : Fin 8) (b b' : Fin 25) :
    Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S1024x1280, payload c XA b'⟩, ⟨Rect.whole S1024x1280, payload c XA b⟩])
                ∗ homeP c XA b')
      ⊢ iprop(∃ f, flightP c XA s b' f) := by
  iintro H
  iexists ((rslot s).view.writes (Elt F) (rslot s).view.junk [⟨Rect.whole S1024x1280, payload c XA b⟩])
  simp only [flightP, landed, slotP, View.writes]
  iexact H

end Pieces

end Cert.Kernel.Hand

end
-- ==== Proof.Kernel.Rows.lean ====
module

public import proofs.«01_k».proof.Proof.Kernel.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Row blocks of the table of exponentials and of the result -/

abbrev rowOff (g : Fin 8) : Fin 2 → Nat := ![8 * g.val, 0]
theorem rowOff_inb (g : Fin 8) : ∀ a, rowOff g a + S8x32000.size a ≤ S64x32000.size a := by
  have := g.isLt; intro a; fin_cases a
  · show 8 * g.val + 8 ≤ 64; omega
  · show 0 + 32000 ≤ 32000; omega
theorem bk8 (k : Fin k0_t2_loop.trips) : (Ring.bk 8 k.val).val = k.val := Ring.bk_val (NB := 8) k.isLt
instance (g : Fin 8) : ClosedOff (rowOff g) := ⟨![8 * g.val, 0], rfl⟩

/-- Rows `8 g …` of the table of exponentials, and of the result. -/
def prow (g : Fin 8) : Memref sig .tc .vmem S8x32000 .f32 :=
  pV.slice (Rect.unit (s := S64x32000) (rowOff g) S8x32000.size (rowOff_inb g)) (fun _ => rfl)
def trow (g : Fin 8) : Memref sig .tc .hbm S8x32000 .f32 :=
  targetH.slice (Rect.unit (s := S64x32000) (rowOff g) S8x32000.size (rowOff_inb g)) (fun _ => rfl)

theorem prow_congr {off : Fin 2 → Nat} {g : Fin 8} (e : off = rowOff g) (hh hs) :
    pV.slice (Rect.unit (s := S64x32000) off S8x32000.size hh) hs = prow g := by subst e; rfl
theorem trow_congr {off : Fin 2 → Nat} {g : Fin 8} (e : off = rowOff g) (hh hs) :
    targetH.slice (Rect.unit (s := S64x32000) off S8x32000.size hh) hs = trow g := by subst e; rfl

theorem off301_eq : ∀ k : Fin k0_t2_loop.trips, 0 < k.val → k0_off301 k = rowOff (Ring.bk 8 (k.val - 1)) := by decide +kernel
theorem cond2_eq : ∀ k : Fin k0_t2_loop.trips, 0 < k.val → k0_cond2 k = 1#1 := by decide +kernel
theorem cond2_ne : ∀ k : Fin k0_t2_loop.trips, ¬ 0 < k.val → ¬ k0_cond2 k = 1#1 := by decide +kernel

@[sl_canon] theorem prowI (k : Fin k0_t2_loop.trips) (hk : 0 < k.val) (hh hs) :
    pV.slice (Rect.unit (s := S64x32000) (k0_off301 k) S8x32000.size hh) hs = prow (Ring.bk 8 (k.val - 1)) := prow_congr (off301_eq k hk) _ _
@[sl_canon] theorem trowI (k : Fin k0_t2_loop.trips) (hk : 0 < k.val) (hh hs) :
    targetH.slice (Rect.unit (s := S64x32000) (k0_off301 k) S8x32000.size hh) hs = trow (Ring.bk 8 (k.val - 1)) := trow_congr (off301_eq k hk) _ _

section Norm
variable (c : Dev nD)

/-- A row block held, and the batch of the eight copies out. -/
abbrev prowR (n : ℕ) (hn : n < 8) (f : BufOf (F := F) c pV) : sProp 𝕄 :=
  pV.view.loc (c : Thread nD τ) ↦[pV.view.setOn (Rect.unit (s := S64x32000) ![8 * n, 0] S8x32000.size (rowOff_inb ⟨n, hn⟩)).toLoadRect.set]{fullShare} f
abbrev prowP (g : Fin 8) (f : BufOf (F := F) c pV) : sProp 𝕄 := (prow g).view.loc (c : Thread nD τ) ↦[(prow g).view.set]{fullShare} f
abbrev trowP (g : Fin 8) (f : BufOf (F := F) c targetH) : sProp 𝕄 := (trow g).view.loc (c : Thread nD τ) ↦[(trow g).view.set]{fullShare} f
abbrev outD (PF : Fin 8 → BufOf (F := F) c pV) (t : Fin 8) : sProp 𝕄 :=
  iprop(trowP c (Ring.bk 8 t.val) ((trow (Ring.bk 8 t.val)).view.writes (Elt F) (trow (Ring.bk 8 t.val)).view.junk
      [⟨Rect.whole S8x32000, ReadAs.same.apply ((prow (Ring.bk 8 t.val)).view.read (Elt F) (PF (Ring.bk 8 t.val)))⟩])
    ∗ prowP c (Ring.bk 8 t.val) (PF (Ring.bk 8 t.val)))
def osem : DmaSems sig S_ := (cc0_scratch12.slice (Rect.unit (s := S6) ![0] S1.size inb_S6_S1_0)).squeeze S_ squeezes_S1_S_
abbrev NB8 : ℕ := 32000
abbrev outB (PF : Fin 8 → BufOf (F := F) c pV) (j u : ℕ) : sProp 𝕄 :=
  Transfers.Batch countersEmb (c : Thread nD τ) (.dma ((cc0_scratch12.slice (Rect.unit (s := S6) ![0] S1.size inb_S6_S1_0)).squeeze S_ squeezes_S1_S_).sem) () NB8 (outD c PF) j u
theorem outB_congr (PF : Fin 8 → BufOf (F := F) c pV) {j j' u : ℕ} (h : j = j') : outB c PF j u ⊢ outB c PF j' u := by rw [h]

/-- The block of the trip before trip `n`, finished, and the rows of the result it goes to. -/
def prevP (PF : Fin 8 → BufOf (F := F) c pV) (ft : BufOf (F := F) c targetH) (n : ℕ) : sProp 𝕄 :=
  if 0 < n then iprop(prowP c (Ring.bk 8 (n - 1)) (PF (Ring.bk 8 (n - 1))) ∗ trowP c (Ring.bk 8 (n - 1)) ft) else iprop(emp)
theorem prevP_pos (PF : Fin 8 → BufOf (F := F) c pV) (ft : BufOf (F := F) c targetH) {n : ℕ} (h : 0 < n) :
    prevP c PF ft n ⊢ iprop(prowP c (Ring.bk 8 (n - 1)) (PF (Ring.bk 8 (n - 1))) ∗ trowP c (Ring.bk 8 (n - 1)) ft) := by
  unfold prevP; rw [if_pos h]

end Norm
end Cert.Kernel.Hand

end
-- ==== Proof.Kernel.Split.lean ====
module

public import proofs.«01_k».proof.Proof.Kernel.Rows

/-! The buffers a copy takes a part of, cut into those parts and put together again. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The element sets: the tiles, the slots, the row blocks -/

abbrev GT (b : Fin 25) : Finset S1024x32000.Idx := (Rect.unit (s := S1024x32000) (tileOff b) S1024x1280.size (tileOff_inb b)).set
abbrev GS (s : Fin 8) : Finset S8x1024x1280.Idx := (Rect.unit (s := S8x1024x1280) (slotOff s) S1x1024x1280.size (slotOff_inb s)).set
abbrev GR (g : Fin 8) : Finset S64x32000.Idx := (Rect.unit (s := S64x32000) (rowOff g) S8x32000.size (rowOff_inb g)).set

theorem tile_set (b : Fin 25) : (tile b : Memref sig .tc .hbm _ _).view.set = GT b := View.set_slice_whole _ _
theorem rslot_set (s : Fin 8) : (rslot s : Memref sig .tc .vmem _ _).view.set = GS s := (View.set_reshape _ _).trans (View.set_slice_whole _ _)
theorem prow_set (g : Fin 8) : (prow g : Memref sig .tc .vmem _ _).view.set = GR g := View.set_slice_whole _ _
theorem trow_set (g : Fin 8) : (trow g : Memref sig .tc .hbm _ _).view.set = GR g := View.set_slice_whole _ _

theorem mem_GT (b : Fin 25) (y : S1024x32000.Idx) : y ∈ GT b ↔ (y 1).val / 1280 = b.val := by
  rw [Rect.mem_set_unit]
  have h0 : (y 0).val < 1024 := (y 0).isLt
  constructor
  · intro H; have a0 : 1280 * b.val ≤ (y 1).val ∧ (y 1).val < 1280 * b.val + 1280 := H 1; omega
  · intro H i; fin_cases i
    · show 0 ≤ (y 0).val ∧ (y 0).val < 0 + 1024; omega
    · show 1280 * b.val ≤ (y 1).val ∧ (y 1).val < 1280 * b.val + 1280; omega
theorem mem_GS (s : Fin 8) (y : S8x1024x1280.Idx) : y ∈ GS s ↔ (y 0).val = s.val := by
  rw [Rect.mem_set_unit]
  have h1 : (y 1).val < 1024 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1280; omega
theorem mem_GR (g : Fin 8) (y : S64x32000.Idx) : y ∈ GR g ↔ (y 0).val / 8 = g.val := by
  rw [Rect.mem_set_unit]
  have h1 : (y 1).val < 32000 := (y 1).isLt
  constructor
  · intro H; have a0 : 8 * g.val ≤ (y 0).val ∧ (y 0).val < 8 * g.val + 8 := H 0; omega
  · intro H i; fin_cases i
    · show 8 * g.val ≤ (y 0).val ∧ (y 0).val < 8 * g.val + 8; omega
    · show 0 ≤ (y 1).val ∧ (y 1).val < 0 + 32000; omega

theorem GT_disjoint : ∀ b b' : Fin 25, b ≠ b' → Disjoint (GT b) (GT b') := by
  intro b b' hne; rw [Finset.disjoint_left]; intro y hy hy'; rw [mem_GT] at hy hy'; exact hne (Fin.ext (hy.symm.trans hy'))
theorem GT_cover : (Finset.univ : Finset (Fin 25)).biUnion GT = Finset.univ := by
  ext y; simp only [Finset.mem_biUnion, Finset.mem_univ, true_and, iff_true]
  have h : (y 1).val < 32000 := (y 1).isLt
  exact ⟨⟨(y 1).val / 1280, by omega⟩, by rw [mem_GT]⟩
theorem GS_disjoint : ∀ b b' : Fin 8, b ≠ b' → Disjoint (GS b) (GS b') := by
  intro b b' hne; rw [Finset.disjoint_left]; intro y hy hy'; rw [mem_GS] at hy hy'; exact hne (Fin.ext (hy.symm.trans hy'))
theorem GS_cover : (Finset.univ : Finset (Fin 8)).biUnion GS = Finset.univ := by
  ext y; simp only [Finset.mem_biUnion, Finset.mem_univ, true_and, iff_true]; exact ⟨(y 0).cast (by decide), by rw [mem_GS]; rfl⟩
theorem GR_disjoint : ∀ b b' : Fin 8, b ≠ b' → Disjoint (GR b) (GR b') := by
  intro b b' hne; rw [Finset.disjoint_left]; intro y hy hy'; rw [mem_GR] at hy hy'; exact hne (Fin.ext (hy.symm.trans hy'))
theorem GR_cover : (Finset.univ : Finset (Fin 8)).biUnion GR = Finset.univ := by
  ext y; simp only [Finset.mem_biUnion, Finset.mem_univ, true_and, iff_true]
  have h : (y 0).val < 64 := (y 0).isLt
  exact ⟨⟨(y 0).val / 8, by omega⟩, by rw [mem_GR]⟩

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Parts
variable (c : Dev nD)

/-- The head matrix whole is its 25 tiles; -/
theorem w_eq (f : BufOf (F := F) c wH) : pt c wH f = bigSep Finset.univ (homeP c f) := by
  show (((c : Thread nD τ).loc main_arg1) ↦{fullShare} f : sProp 𝕄) = _
  rw [Ring.pointsTo_blocks (ℓ := (c : Thread nD τ).loc main_arg1) GT GT_disjoint GT_cover]
  exact bigSep_congr fun b _ => by rw [← tile_set]; rfl
/-- before the first trip, the first eight of them apart. -/
theorem homes_zero (f : BufOf (F := F) c wH) :
    bigSep Finset.univ (homeP c f) = iprop(homeP c f 0 ∗ homeP c f 1 ∗ homeP c f 2 ∗ homeP c f 3 ∗ homeP c f 4 ∗ homeP c f 5 ∗ homeP c f 6 ∗ homeP c f 7
      ∗ bigSep (Ring.homeSet 8 0) (homeP c f)) := by
  have e : (Finset.univ : Finset (Fin 25)) = insert 0 (insert 1 (insert 2 (insert 3 (insert 4 (insert 5 (insert 6 (insert 7 (Ring.homeSet (NB := 25) 8 0)))))))) := by decide
  rw [e, bigSep_insert (by decide), bigSep_insert (by decide), bigSep_insert (by decide), bigSep_insert (by decide),
    bigSep_insert (by decide), bigSep_insert (by decide), bigSep_insert (by decide), bigSep_insert (by decide)]; rfl

theorem slotP_eq (s : Fin 8) (f) : slotP (F := F) c s f = (((c : Thread nD τ).loc cc0_scratch2) ↦[GS s]{fullShare} f : sProp 𝕄) :=
  congrArg (fun S => (_ ↦[S]{fullShare} f : sProp 𝕄)) (rslot_set s)
/-- The ring's buffer whole is its eight slots, and back. -/
theorem ring_split (f : BufOf (F := F) c wV) :
    pt c wV f ⊢ iprop(slotP c 0 f ∗ slotP c 1 f ∗ slotP c 2 f ∗ slotP c 3 f ∗ slotP c 4 f ∗ slotP c 5 f ∗ slotP c 6 f ∗ slotP c 7 f) := by
  refine (Entails.of_eq (Ring.pointsTo_blocks (ℓ := (c : Thread nD τ).loc cc0_scratch2) GS GS_disjoint GS_cover f)).trans ?_
  rw [bigSep_congr (fun s _ => (slotP_eq c s f).symm), bigSep_fin8]
theorem ring_join :
    iprop((∃ f, slotP (F := F) c 0 f) ∗ (∃ f, slotP c 1 f) ∗ (∃ f, slotP c 2 f) ∗ (∃ f, slotP c 3 f) ∗ (∃ f, slotP c 4 f) ∗ (∃ f, slotP c 5 f)
        ∗ (∃ f, slotP c 6 f) ∗ (∃ f, slotP c 7 f))
      ⊢ (iprop(∃ f, pt c wV f) : sProp 𝕄) := by
  have h : bigSep Finset.univ (fun s : Fin 8 => iprop(∃ f, slotP (F := F) c s f)) ⊢ (iprop(∃ f, pt c wV f) : sProp 𝕄) := by
    iintro H
    ihave H2 := (Entails.of_eq (bigSep_congr (fun (s : Fin 8) _ => congrArg (fun Φ => iprop(∃ f, Φ f)) (funext fun f => slotP_eq (F := F) c s f)))) $$ [H]
    · iexact H
    iapply (Ring.pointsTo_blocks_join_exists (ℓ := (c : Thread nD τ).loc cc0_scratch2) GS GS_disjoint GS_cover (fun _ => Classical.choice inferInstance))
    iexact H2
  rw [bigSep_fin8] at h
  exact h

/-- The table of exponentials whole is its eight row blocks, and back; -/
theorem p_eq (f : BufOf (F := F) c pV) : pt c pV f = bigSep Finset.univ (fun b : Fin 8 => prowP c b f) := by
  show (((c : Thread nD τ).loc cc0_scratch4) ↦{fullShare} f : sProp 𝕄) = _
  rw [Ring.pointsTo_blocks (ℓ := (c : Thread nD τ).loc cc0_scratch4) GR GR_disjoint GR_cover]
  exact bigSep_congr fun b _ => by rw [← prow_set]; rfl
theorem p_join (PF : Fin 8 → BufOf (F := F) c pV) : bigSep Finset.univ (fun b : Fin 8 => prowP c b (PF b)) ⊢ (iprop(∃ f, pt c pV f) : sProp 𝕄) := by
  rw [bigSep_congr (fun (b : Fin 8) _ => show prowP c b (PF b) = (((c : Thread nD τ).loc cc0_scratch4) ↦[GR b]{fullShare} PF b : sProp 𝕄) from
    congrArg (fun S => (_ ↦[S]{fullShare} PF b : sProp 𝕄)) (prow_set b))]
  exact Ring.pointsTo_blocks_join (ℓ := (c : Thread nD τ).loc cc0_scratch4) GR GR_disjoint GR_cover PF (PF 0)

/-- and the result's. -/
theorem target_eq (f : BufOf (F := F) c targetH) : pt c targetH f = bigSep Finset.univ (fun b : Fin 8 => trowP c b f) := by
  show (((c : Thread nD τ).loc main_v2_0) ↦{fullShare} f : sProp 𝕄) = _
  rw [Ring.pointsTo_blocks (ℓ := (c : Thread nD τ).loc main_v2_0) GR GR_disjoint GR_cover]
  exact bigSep_congr fun b _ => by rw [← trow_set]; rfl
/-- What the copies out leave in the result: row block `b` of it is row block `b` of `PF b`. -/
def targetOf (PF : Fin 8 → BufOf (F := F) c pV) : BufOf (F := F) c targetH :=
  fun (i : S64x32000.Idx) => (PF ⟨(i 0).val / 8, by have h : (i 0).val < 64 := (i 0).isLt; omega⟩ : S64x32000.Idx → Elt F .f32) i

end Parts
end Cert.Kernel.Hand

end
-- ==== Proof.Kernel.Names.lean ====
module

public import proofs.«01_k».proof.Proof.Kernel.Split

/-! The canonical names of the slices the body spells with constants: slots, tiles and row blocks 0–7. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

@[sl_canon] theorem semL0 (hh) : (cc0_scratch11.slice (Rect.unit (s := S8) ![0] S1.size hh)).squeeze S_ squeezes_S1_S_ = csm 0 := csm_congr (by decide) _
@[sl_canon] theorem slotL0 (hh hs) : (wV.slice (Rect.unit (s := S8x1024x1280) ![0, 0, 0] S1x1024x1280.size hh) hs).squeeze S1024x1280 squeezes_S1x1024x1280_S1024x1280 = rslot 0 := rslot_congr (by decide) _ _
@[sl_canon] theorem tileL0 (hh hs) : wH.slice (Rect.unit (s := S1024x32000) ![0, 0] S1024x1280.size hh) hs = tile 0 := tile_congr (by decide) _ _
@[sl_canon] theorem prowL0 (hh hs) : pV.slice (Rect.unit (s := S64x32000) ![0, 0] S8x32000.size hh) hs = prow (Ring.bk 8 0) := prow_congr (by decide) _ _
@[sl_canon] theorem trowL0 (hh hs) : targetH.slice (Rect.unit (s := S64x32000) ![0, 0] S8x32000.size hh) hs = trow (Ring.bk 8 0) := trow_congr (by decide) _ _
@[sl_canon] theorem semL1 (hh) : (cc0_scratch11.slice (Rect.unit (s := S8) ![1] S1.size hh)).squeeze S_ squeezes_S1_S_ = csm 1 := csm_congr (by decide) _
@[sl_canon] theorem slotL1 (hh hs) : (wV.slice (Rect.unit (s := S8x1024x1280) ![1, 0, 0] S1x1024x1280.size hh) hs).squeeze S1024x1280 squeezes_S1x1024x1280_S1024x1280 = rslot 1 := rslot_congr (by decide) _ _
@[sl_canon] theorem tileL1 (hh hs) : wH.slice (Rect.unit (s := S1024x32000) ![0, 1280] S1024x1280.size hh) hs = tile 1 := tile_congr (by decide) _ _
@[sl_canon] theorem prowL1 (hh hs) : pV.slice (Rect.unit (s := S64x32000) ![8, 0] S8x32000.size hh) hs = prow (Ring.bk 8 1) := prow_congr (by decide) _ _
@[sl_canon] theorem trowL1 (hh hs) : targetH.slice (Rect.unit (s := S64x32000) ![8, 0] S8x32000.size hh) hs = trow (Ring.bk 8 1) := trow_congr (by decide) _ _
@[sl_canon] theorem semL2 (hh) : (cc0_scratch11.slice (Rect.unit (s := S8) ![2] S1.size hh)).squeeze S_ squeezes_S1_S_ = csm 2 := csm_congr (by decide) _
@[sl_canon] theorem slotL2 (hh hs) : (wV.slice (Rect.unit (s := S8x1024x1280) ![2, 0, 0] S1x1024x1280.size hh) hs).squeeze S1024x1280 squeezes_S1x1024x1280_S1024x1280 = rslot 2 := rslot_congr (by decide) _ _
@[sl_canon] theorem tileL2 (hh hs) : wH.slice (Rect.unit (s := S1024x32000) ![0, 2560] S1024x1280.size hh) hs = tile 2 := tile_congr (by decide) _ _
@[sl_canon] theorem prowL2 (hh hs) : pV.slice (Rect.unit (s := S64x32000) ![16, 0] S8x32000.size hh) hs = prow (Ring.bk 8 2) := prow_congr (by decide) _ _
@[sl_canon] theorem trowL2 (hh hs) : targetH.slice (Rect.unit (s := S64x32000) ![16, 0] S8x32000.size hh) hs = trow (Ring.bk 8 2) := trow_congr (by decide) _ _
@[sl_canon] theorem semL3 (hh) : (cc0_scratch11.slice (Rect.unit (s := S8) ![3] S1.size hh)).squeeze S_ squeezes_S1_S_ = csm 3 := csm_congr (by decide) _
@[sl_canon] theorem slotL3 (hh hs) : (wV.slice (Rect.unit (s := S8x1024x1280) ![3, 0, 0] S1x1024x1280.size hh) hs).squeeze S1024x1280 squeezes_S1x1024x1280_S1024x1280 = rslot 3 := rslot_congr (by decide) _ _
@[sl_canon] theorem tileL3 (hh hs) : wH.slice (Rect.unit (s := S1024x32000) ![0, 3840] S1024x1280.size hh) hs = tile 3 := tile_congr (by decide) _ _
@[sl_canon] theorem prowL3 (hh hs) : pV.slice (Rect.unit (s := S64x32000) ![24, 0] S8x32000.size hh) hs = prow (Ring.bk 8 3) := prow_congr (by decide) _ _
@[sl_canon] theorem trowL3 (hh hs) : targetH.slice (Rect.unit (s := S64x32000) ![24, 0] S8x32000.size hh) hs = trow (Ring.bk 8 3) := trow_congr (by decide) _ _
@[sl_canon] theorem semL4 (hh) : (cc0_scratch11.slice (Rect.unit (s := S8) ![4] S1.size hh)).squeeze S_ squeezes_S1_S_ = csm 4 := csm_congr (by decide) _
@[sl_canon] theorem slotL4 (hh hs) : (wV.slice (Rect.unit (s := S8x1024x1280) ![4, 0, 0] S1x1024x1280.size hh) hs).squeeze S1024x1280 squeezes_S1x1024x1280_S1024x1280 = rslot 4 := rslot_congr (by decide) _ _
@[sl_canon] theorem tileL4 (hh hs) : wH.slice (Rect.unit (s := S1024x32000) ![0, 5120] S1024x1280.size hh) hs = tile 4 := tile_congr (by decide) _ _
@[sl_canon] theorem prowL4 (hh hs) : pV.slice (Rect.unit (s := S64x32000) ![32, 0] S8x32000.size hh) hs = prow (Ring.bk 8 4) := prow_congr (by decide) _ _
@[sl_canon] theorem trowL4 (hh hs) : targetH.slice (Rect.unit (s := S64x32000) ![32, 0] S8x32000.size hh) hs = trow (Ring.bk 8 4) := trow_congr (by decide) _ _
@[sl_canon] theorem semL5 (hh) : (cc0_scratch11.slice (Rect.unit (s := S8) ![5] S1.size hh)).squeeze S_ squeezes_S1_S_ = csm 5 := csm_congr (by decide) _
@[sl_canon] theorem slotL5 (hh hs) : (wV.slice (Rect.unit (s := S8x1024x1280) ![5, 0, 0] S1x1024x1280.size hh) hs).squeeze S1024x1280 squeezes_S1x1024x1280_S1024x1280 = rslot 5 := rslot_congr (by decide) _ _
@[sl_canon] theorem tileL5 (hh hs) : wH.slice (Rect.unit (s := S1024x32000) ![0, 6400] S1024x1280.size hh) hs = tile 5 := tile_congr (by decide) _ _
@[sl_canon] theorem prowL5 (hh hs) : pV.slice (Rect.unit (s := S64x32000) ![40, 0] S8x32000.size hh) hs = prow (Ring.bk 8 5) := prow_congr (by decide) _ _
@[sl_canon] theorem trowL5 (hh hs) : targetH.slice (Rect.unit (s := S64x32000) ![40, 0] S8x32000.size hh) hs = trow (Ring.bk 8 5) := trow_congr (by decide) _ _
@[sl_canon] theorem semL6 (hh) : (cc0_scratch11.slice (Rect.unit (s := S8) ![6] S1.size hh)).squeeze S_ squeezes_S1_S_ = csm 6 := csm_congr (by decide) _
@[sl_canon] theorem slotL6 (hh hs) : (wV.slice (Rect.unit (s := S8x1024x1280) ![6, 0, 0] S1x1024x1280.size hh) hs).squeeze S1024x1280 squeezes_S1x1024x1280_S1024x1280 = rslot 6 := rslot_congr (by decide) _ _
@[sl_canon] theorem tileL6 (hh hs) : wH.slice (Rect.unit (s := S1024x32000) ![0, 7680] S1024x1280.size hh) hs = tile 6 := tile_congr (by decide) _ _
@[sl_canon] theorem prowL6 (hh hs) : pV.slice (Rect.unit (s := S64x32000) ![48, 0] S8x32000.size hh) hs = prow (Ring.bk 8 6) := prow_congr (by decide) _ _
@[sl_canon] theorem trowL6 (hh hs) : targetH.slice (Rect.unit (s := S64x32000) ![48, 0] S8x32000.size hh) hs = trow (Ring.bk 8 6) := trow_congr (by decide) _ _
@[sl_canon] theorem semL7 (hh) : (cc0_scratch11.slice (Rect.unit (s := S8) ![7] S1.size hh)).squeeze S_ squeezes_S1_S_ = csm 7 := csm_congr (by decide) _
@[sl_canon] theorem slotL7 (hh hs) : (wV.slice (Rect.unit (s := S8x1024x1280) ![7, 0, 0] S1x1024x1280.size hh) hs).squeeze S1024x1280 squeezes_S1x1024x1280_S1024x1280 = rslot 7 := rslot_congr (by decide) _ _
@[sl_canon] theorem tileL7 (hh hs) : wH.slice (Rect.unit (s := S1024x32000) ![0, 8960] S1024x1280.size hh) hs = tile 7 := tile_congr (by decide) _ _
@[sl_canon] theorem prowL7 (hh hs) : pV.slice (Rect.unit (s := S64x32000) ![56, 0] S8x32000.size hh) hs = prow (Ring.bk 8 7) := prow_congr (by decide) _ _
@[sl_canon] theorem trowL7 (hh hs) : targetH.slice (Rect.unit (s := S64x32000) ![56, 0] S8x32000.size hh) hs = trow (Ring.bk 8 7) := trow_congr (by decide) _ _

end Cert.Kernel.Hand

end
-- ==== Proof.Kernel.Trip.lean ====
module

public import proofs.«01_k».proof.Proof.Kernel.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip

variable (c : Dev nD)
  (v0 : IVec S8x128 32) (v1 : IVec S8x128 32) (v962 v963 v964 v969 v974 v979 v984 v989 : Vec F S8x128 .f32) (v992 : IVec S8x128 1) (cst : F .f32)

/-- The region of the tile loop's trip `k`. -/
abbrev tripG (k : Fin k0_t1_loop.trips) : Prog (TpuEff nD τ sig (Elt F) Λ₀ .tc) Unit :=
  k0_t1_body (F := F) xH (Memref.isWhole_whole _) wH (Memref.isWhole_whole _) wsH (Memref.isWhole_whole _)
    targetH (Memref.isWhole_whole _) codesH (Memref.isWhole_whole _) scalesH (Memref.isWhole_whole _)
    xV (Memref.isWhole_whole _) codesV (Memref.isWhole_whole _) wV (Memref.isWhole_whole _) wsV (Memref.isWhole_whole _)
    pV (Memref.isWhole_whole _) mtV (Memref.isWhole_whole _) scaleV (Memref.isWhole_whole _) mV (Memref.isWhole_whole _)
    lV (Memref.isWhole_whole _) rowV (Memref.isWhole_whole _) cc0_scratch10 cc0_scratch11 cc0_scratch12
    v0 v1 v962 v963 v964 v969 v974 v979 v984 v989 v992 cst k ()

variable (XA : BufOf (F := F) c wH) (q : BufOf (F := F) c codesV) (ws : BufOf (F := F) c wsV) (sc : BufOf (F := F) c scaleV)

/-- One trip of the tile loop: its tile awaited and multiplied, its slot refilled if a tile is left; what it leaves in the
    tile of exponentials, the table of maxima, the running maxima and the running sums. -/
def tripRun (k : Fin k0_t1_loop.trips)
    (fp : BufOf (F := F) c pV) (fmt : BufOf (F := F) c mtV) (fm : BufOf (F := F) c mV) (fl : BufOf (F := F) c lV) :
    { G : BufOf (F := F) c pV × BufOf (F := F) c mtV × BufOf (F := F) c mV × BufOf (F := F) c lV //
      ∀ (K : Unit → sProp 𝕄),
        iprop(role c XA k.val ∗ nextTile c XA k.val
            ∗ pt c codesV q ∗ pt c wsV ws ∗ pt c scaleV sc ∗ pt c pV fp ∗ pt c mtV fmt ∗ pt c mV fm ∗ pt c lV fl
            ∗ (∃ W, owes (c : Thread nD τ) 0 W)
            ∗ (iprop(role c XA (k.val + 8) ∗ homeP c XA (Ring.bk 25 k.val)
                ∗ pt c codesV q ∗ pt c wsV ws ∗ pt c scaleV sc ∗ pt c pV G.1 ∗ pt c mtV G.2.1 ∗ pt c mV G.2.2.1 ∗ pt c lV G.2.2.2
                ∗ (∃ W, owes (c : Thread nD τ) 0 W)) -∗ K ()))
          ⊢ wp frame (wpE (defs₀ (F := F)) Variants.none c none) Set.univ
              (tripG v0 v1 v962 v963 v964 v969 v974 v979 v984 v989 v992 cst k) K } := by
  refine ⟨(?_, ?_, ?_, ?_), fun K => ?run⟩
  case run =>
    have hk25 : k.val < 25 := k.isLt
    rw [role_lt c XA hk25]
    iintro ⟨⟨%f, HF⟩, Hn, Hq, Hws, Hsc, Hp, Hmt, Hm, Hl, ⟨%W, HW⟩, Hk⟩
    dsimp only [tripG]
    sl_unfold [k0_t1_body]
    sl_exec
    rcases Nat.lt_or_ge (k.val + 8) 25 with hk | hk
    · have h1 := cond1_eq k hk
      ihave Hn := (nextTile_lt c XA hk) $$ [Hn]
      · iexact Hn
      sl_exec
      sl_step
      iapply Hk
      isplitl [HF]
      · iapply (role_refilled c XA hk)
        iapply (flightP_after c XA (Ring.sl 8 k.val) (Ring.bk 25 k.val) (Ring.bk 25 (k.val + 8)))
        iexact HF
      isplitl [HF_src]; · iexact HF_src
      isplitl [Hq]; · iexact Hq
      isplitl [Hws]; · iexact Hws
      isplitl [Hsc]; · iexact Hsc
      isplitl [Hp]; · iexact Hp
      isplitl [Hmt]; · iexact Hmt
      isplitl [Hm]; · iexact Hm
      isplitl [Hl]; · iexact Hl
      iexists _; iexact HW
    · have h1 := cond1_ne k hk
      sl_exec
      sl_step
      iapply Hk
      isplitl [HF HF_dst]
      · iapply (role_freed c XA (Nat.not_lt.mpr hk))
        isplitl [HF]; · iexact HF
        iexists _; iexact HF_dst
      isplitl [HF_src]; · iexact HF_src
      isplitl [Hq]; · iexact Hq
      isplitl [Hws]; · iexact Hws
      isplitl [Hsc]; · iexact Hsc
      isplitl [Hp]; · iexact Hp
      isplitl [Hmt]; · iexact Hmt
      isplitl [Hm]; · iexact Hm
      isplitl [Hl]; · iexact Hl
      iexists _; iexact HW

end Trip

end Cert.Kernel.Hand

end
-- ==== Proof.Kernel.Loop1.lean ====
module

public import proofs.«01_k».proof.Proof.Kernel.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Loop1

variable (c : Dev nD)
  (v0 : IVec S8x128 32) (v1 : IVec S8x128 32) (v962 v963 v964 v969 v974 v979 v984 v989 : Vec F S8x128 .f32) (v992 : IVec S8x128 1) (cst : F .f32)

variable (XA : BufOf (F := F) c wH) (q : BufOf (F := F) c codesV) (ws : BufOf (F := F) c wsV) (sc : BufOf (F := F) c scaleV)

/-- The tiles at home that trip `p` leaves alone. -/
def restTiles (p : ℕ) : sProp 𝕄 :=
  if p + 8 < 25 then bigSep ((Ring.homeSet 8 p).erase (Ring.bk 25 (p + 8))) (homeP c XA) else bigSep (Ring.homeSet 8 p) (homeP c XA)
/-- Before trip `p` the tile it sends out is apart from those; -/
theorem homes_before (p : ℕ) : bigSep (Ring.homeSet 8 p) (homeP c XA) ⊢ iprop(nextTile c XA p ∗ restTiles c XA p) := by
  unfold nextTile restTiles
  by_cases h : p + 8 < 25
  · rw [if_pos h, if_pos h, Ring.homeSet_out 8 p h, BI.bigSep_insert (Ring.bkL_not_mem_erase 8 p), ← Ring.homeSet_out 8 p h]; exact .rfl
  · rw [if_neg h, if_neg h]; iintro H; isplitr
    · iempintro
    · iexact H
/-- after it the tile it used is with them. -/
theorem homes_after (p : ℕ) (hp : p < 25) : iprop(homeP c XA (Ring.bk 25 p) ∗ restTiles c XA p) ⊢ bigSep (Ring.homeSet 8 (p + 1)) (homeP c XA) := by
  unfold restTiles
  by_cases h : p + 8 < 25
  · rw [if_pos h, Ring.homeSet_succ 8 p h, BI.bigSep_insert (Ring.bk_not_mem_erase 8 p hp (by decide))]; exact .rfl
  · rw [if_neg h, Ring.homeSet_succ_tail 8 p (by omega) hp, BI.bigSep_insert (Ring.bk_not_mem_homeSet 8 p hp (by decide))]; exact .rfl

/-- The ring before trip `p`: what its trip finds, and the seven after it. -/
def ringP (p : ℕ) : sProp 𝕄 :=
  iprop(role c XA p ∗ role c XA (p + 1) ∗ role c XA (p + 2) ∗ role c XA (p + 3) ∗ role c XA (p + 4) ∗ role c XA (p + 5) ∗ role c XA (p + 6) ∗ role c XA (p + 7))

abbrev TabsT : Type := BufOf (F := F) c pV × BufOf (F := F) c mtV × BufOf (F := F) c mV × BufOf (F := F) c lV

/-- The four tables before trip `k`, from their contents `S0` at the loop's entry. -/
def tabs (S0 : TabsT (F := F) c) : ℕ → TabsT (F := F) c
  | 0 => S0
  | k + 1 =>
    if h : k < k0_t1_loop.trips then
      (tripRun c v0 v1 v962 v963 v964 v969 v974 v979 v984 v989 v992 cst XA q ws sc ⟨k, h⟩ (tabs S0 k).1 (tabs S0 k).2.1 (tabs S0 k).2.2.1 (tabs S0 k).2.2.2).1
    else tabs S0 k

theorem tabs_succ (S0 : TabsT (F := F) c) (k : Fin k0_t1_loop.trips) :
    tabs c v0 v1 v962 v963 v964 v969 v974 v979 v984 v989 v992 cst XA q ws sc S0 (k.val + 1)
      = (tripRun c v0 v1 v962 v963 v964 v969 v974 v979 v984 v989 v992 cst XA q ws sc k
          (tabs c v0 v1 v962 v963 v964 v969 v974 v979 v984 v989 v992 cst XA q ws sc S0 k.val).1
          (tabs c v0 v1 v962 v963 v964 v969 v974 v979 v984 v989 v992 cst XA q ws sc S0 k.val).2.1
          (tabs c v0 v1 v962 v963 v964 v969 v974 v979 v984 v989 v992 cst XA q ws sc S0 k.val).2.2.1
          (tabs c v0 v1 v962 v963 v964 v969 v974 v979 v984 v989 v992 cst XA q ws sc S0 k.val).2.2.2).1 := by
  rw [tabs, dif_pos k.isLt]

/-- The tile loop's invariant before trip `k`. -/
def inv1 (S0 : TabsT (F := F) c) (k : ℕ) (_ : Unit) : sProp 𝕄 :=
  iprop(ringP c XA k ∗ bigSep (Ring.homeSet 8 k) (homeP c XA) ∗ pt c codesV q ∗ pt c wsV ws ∗ pt c scaleV sc
    ∗ pt c pV (tabs c v0 v1 v962 v963 v964 v969 v974 v979 v984 v989 v992 cst XA q ws sc S0 k).1
    ∗ pt c mtV (tabs c v0 v1 v962 v963 v964 v969 v974 v979 v984 v989 v992 cst XA q ws sc S0 k).2.1
    ∗ pt c mV (tabs c v0 v1 v962 v963 v964 v969 v974 v979 v984 v989 v992 cst XA q ws sc S0 k).2.2.1
    ∗ pt c lV (tabs c v0 v1 v962 v963 v964 v969 v974 v979 v984 v989 v992 cst XA q ws sc S0 k).2.2.2
    ∗ (∃ W, owes (c : Thread nD τ) 0 W))

theorem inv1_step (S0 : TabsT (F := F) c) (k : Fin k0_t1_loop.trips) (acc : Unit) :
    inv1 c v0 v1 v962 v963 v964 v969 v974 v979 v984 v989 v992 cst XA q ws sc S0 k.val acc
      ⊢ wp frame (wpE (defs₀ (F := F)) Variants.none c none) Set.univ
          (tripG v0 v1 v962 v963 v964 v969 v974 v979 v984 v989 v992 cst k)
          (inv1 c v0 v1 v962 v963 v964 v969 v974 v979 v984 v989 v992 cst XA q ws sc S0 (k.val + 1)) := by
  have e := tabs_succ c v0 v1 v962 v963 v964 v969 v974 v979 v984 v989 v992 cst XA q ws sc S0 k
  unfold inv1 ringP
  rw [e]
  iintro ⟨⟨H0, H1, H2, H3, H4, H5, H6, H7⟩, Hh, Hq, Hws, Hsc, Hp, Hmt, Hm, Hl, HW⟩
  ihave Hh2 := (homes_before c XA k.val) $$ [Hh]
  · iexact Hh
  icases Hh2 with ⟨Hn, Hr⟩
  iapply ((tripRun c v0 v1 v962 v963 v964 v969 v974 v979 v984 v989 v992 cst XA q ws sc k _ _ _ _).2 _)
  isplitl [H0]; · iexact H0
  isplitl [Hn]; · iexact Hn
  isplitl [Hq]; · iexact Hq
  isplitl [Hws]; · iexact Hws
  isplitl [Hsc]; · iexact Hsc
  isplitl [Hp]; · iexact Hp
  isplitl [Hmt]; · iexact Hmt
  isplitl [Hm]; · iexact Hm
  isplitl [Hl]; · iexact Hl
  isplitl [HW]; · iexact HW
  iintro ⟨H8, Hb, Hq, Hws, Hsc, Hp, Hmt, Hm, Hl, HW⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hb Hr]
  · iapply (homes_after c XA k.val k.isLt)
    isplitl [Hb]; · iexact Hb
    iexact Hr
  isplitl [Hq]; · iexact Hq
  isplitl [Hws]; · iexact Hws
  isplitl [Hsc]; · iexact Hsc
  isplitl [Hp]; · iexact Hp
  isplitl [Hmt]; · iexact Hmt
  isplitl [Hm]; · iexact Hm
  isplitl [Hl]; · iexact Hl
  iexact HW

end Loop1
end Cert.Kernel.Hand

end
-- ==== Proof.Kernel.Issue.lean ====
module

public import proofs.«01_k».proof.Proof.Kernel.Rows

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Norm
variable (c : Dev nD)

/-- What a trip does after the arithmetic: from the second on, the copy out of the block before. -/
def normRest (k : Fin k0_t2_loop.trips) : Prog (TpuEff nD τ sig (Elt F) Λ₀ .tc) Unit := do
  if h : k0_cond2 k = 1#1 then do
    Prog.lift (.enqueueDma (pV.slice (Rect.unit (s := S64x32000) (k0_off301 k) S8x32000.size (k0_off301_inb k h)) (fun _ => rfl))
      (.here (targetH.slice (Rect.unit (s := S64x32000) (k0_off301 k) S8x32000.size (k0_off301_inb k h)) (fun _ => rfl)))
      (.dma ((cc0_scratch12.slice (Rect.unit (s := S6) ![0] S1.size inb_S6_S1_0)).squeeze S_ squeezes_S1_S_).sem)
      (View.wordExact_bits rfl) (View.wordExact_bits rfl) ⟨Or.inl rfl, trivial⟩)
    pure ⟨⟩
  else do
    pure ⟨⟩
  pure ⟨⟩

/-- That copy issued, into the batch of the eight. -/
theorem norm_issue (k : Fin k0_t2_loop.trips) (K : Unit → sProp 𝕄) (PF : Fin 8 → BufOf (F := F) c pV) (ft : BufOf (F := F) c targetH) :
    iprop(outB c PF (k.val - 1) 0 ∗ prevP c PF ft k.val ∗ (outB c PF k.val 0 -∗ K ()))
      ⊢ wp frame (wpE (defs₀ (F := F)) Variants.none c none) Set.univ (normRest k) K := by
  iintro ⟨HB, Hprev, Hk⟩
  unfold normRest
  rcases Nat.lt_or_ge 0 k.val with hk | hk
  · have h1 := cond2_eq k hk
    have hlt : k.val - 1 < 8 := by have := k.isLt; have e : k0_t2_loop.trips = 8 := rfl; omega
    ihave Hpt := (prevP_pos c PF ft hk) $$ [Hprev]
    · iexact Hprev
    icases Hpt with ⟨Hpr, Htr⟩
    sl_exec
    sl_step
    iapply Hk
    iapply (outB_congr c PF (show k.val - 1 + 1 = k.val by omega))
    iexact HB
  · have h1 := cond2_ne k (Nat.not_lt.mpr hk)
    sl_exec
    sl_step
    iapply Hk
    iapply (outB_congr c PF (show k.val - 1 = k.val by omega))
    iexact HB

end Norm
end Cert.Kernel.Hand

end
-- ==== Proof.Kernel.Norm.lean ====
module

public import proofs.«01_k».proof.Proof.Kernel.Issue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Norm
variable (c : Dev nD)
variable (v1165 : FVec F S8x128 .f32) (v1171 : FVec F S8 .f32)

abbrev normG (k : Fin k0_t2_loop.trips) : Prog (TpuEff nD τ sig (Elt F) Λ₀ .tc) Unit :=
  k0_t2_body (F := F) xH (Memref.isWhole_whole _) wH (Memref.isWhole_whole _) wsH (Memref.isWhole_whole _)
    targetH (Memref.isWhole_whole _) codesH (Memref.isWhole_whole _) scalesH (Memref.isWhole_whole _)
    xV (Memref.isWhole_whole _) codesV (Memref.isWhole_whole _) wV (Memref.isWhole_whole _) wsV (Memref.isWhole_whole _)
    pV (Memref.isWhole_whole _) mtV (Memref.isWhole_whole _) scaleV (Memref.isWhole_whole _) mV (Memref.isWhole_whole _)
    lV (Memref.isWhole_whole _) rowV (Memref.isWhole_whole _) cc0_scratch10 cc0_scratch11 cc0_scratch12
    v1165 v1171 k ()

def normRun (k : Fin k0_t2_loop.trips)
    (fp : BufOf (F := F) c pV) (fmt : BufOf (F := F) c mtV) (fm : BufOf (F := F) c mV) (fl : BufOf (F := F) c lV) :
    { G : BufOf (F := F) c pV //
      ∀ (K : Unit → sProp 𝕄),
        iprop(prowR c k.val k.isLt fp ∗ pt c mtV fmt ∗ pt c mV fm ∗ pt c lV fl
            ∗ (iprop(prowR c k.val k.isLt G ∗ pt c mtV fmt ∗ pt c mV fm ∗ pt c lV fl)
                -∗ wp frame (wpE (defs₀ (F := F)) Variants.none c none) Set.univ (normRest k) K))
          ⊢ wp frame (wpE (defs₀ (F := F)) Variants.none c none) Set.univ
              (normG v1165 v1171 k) K } := by
  refine ⟨?_, fun K => ?run⟩
  case run =>
    iintro ⟨Hp, Hmt, Hm, Hl, Hk⟩
    dsimp only [normG]
    sl_unfold [k0_t2_body]
    sl_exec
    iapply Hk
    isplitl [Hp]; · iexact Hp
    isplitl [Hmt]; · iexact Hmt
    isplitl [Hm]; · iexact Hm
    iexact Hl

end Norm
end Cert.Kernel.Hand

end
-- ==== Proof.Kernel.Loop2.lean ====
module

public import proofs.«01_k».proof.Proof.Kernel.Norm
public import proofs.«01_k».proof.Proof.Kernel.Split

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Loop2

variable (c : Dev nD) (v1165 : FVec F S8x128 .f32) (v1171 : FVec F S8 .f32)
  (fp : BufOf (F := F) c pV) (fmt : BufOf (F := F) c mtV) (fm : BufOf (F := F) c mV) (fl : BufOf (F := F) c lV)
  (ft : BufOf (F := F) c targetH)

theorem trips8 : k0_t2_loop.trips = 8 := rfl

/-- Row block `b` of the table of exponentials, normalised. -/
def finalRows (b : Fin 8) : BufOf (F := F) c pV := (normRun c v1165 v1171 (b.cast trips8.symm) fp fmt fm fl).1

theorem prowR_eq (b : Fin 8) (f : BufOf (F := F) c pV) : prowR c b.val b.isLt f = prowP c b f := by
  have e : pV.view.setOn (Rect.unit (s := S64x32000) ![8 * b.val, 0] S8x32000.size (rowOff_inb ⟨b.val, b.isLt⟩)).toLoadRect.set = (prow b).view.set := by
    unfold prow; exact (View.set_slice _ _).symm
  unfold prowR prowP
  rw [e]; rfl

theorem bk8_eq (k : Fin 8) : Ring.bk 8 k.val = k := Fin.ext (Ring.bk_val (NB := 8) k.isLt)

/-- The normalisation loop's invariant before trip `k`: of the eight copies out, those of the trips before the last issued. -/
def inv2 (k : ℕ) (_ : Unit) : sProp 𝕄 :=
  iprop(outB c (finalRows c v1165 v1171 fp fmt fm fl) (k - 1) 0 ∗ pt c mtV fmt ∗ pt c mV fm ∗ pt c lV fl
    ∗ bigSep (Ring.rangeSet 8 k 8) (fun b => prowR c b.val b.isLt fp) ∗ bigSep (Ring.rangeSet 8 k 8) (fun b => trowP c b ft)
    ∗ prevP c (finalRows c v1165 v1171 fp fmt fm fl) ft k)

theorem inv2_step (k : Fin k0_t2_loop.trips) (acc : Unit) :
    inv2 c v1165 v1171 fp fmt fm fl ft k.val acc
      ⊢ wp frame (wpE (defs₀ (F := F)) Variants.none c none) Set.univ (normG v1165 v1171 k)
          (inv2 c v1165 v1171 fp fmt fm fl ft (k.val + 1)) := by
  have hk : k.val < 8 := k.isLt
  unfold inv2
  rw [Ring.bigSep_rangeSet_head (Φ := fun b => prowR c b.val b.isLt fp) hk hk, Ring.bigSep_rangeSet_head (Φ := fun b => trowP c b ft) hk hk]
  iintro ⟨HB, Hmt, Hm, Hl, ⟨Hp, Hps⟩, ⟨Ht, Hts⟩, Hprev⟩
  iapply ((normRun c v1165 v1171 k fp fmt fm fl).2 _)
  isplitl [Hp]; · iexact Hp
  isplitl [Hmt]; · iexact Hmt
  isplitl [Hm]; · iexact Hm
  isplitl [Hl]; · iexact Hl
  iintro ⟨Hp, Hmt, Hm, Hl⟩
  iapply (norm_issue c k _ (finalRows c v1165 v1171 fp fmt fm fl) ft)
  isplitl [HB]; · iexact HB
  isplitl [Hprev]; · iexact Hprev
  iintro HB
  isplitl [HB]; · iexact HB
  isplitl [Hmt]; · iexact Hmt
  isplitl [Hm]; · iexact Hm
  isplitl [Hl]; · iexact Hl
  isplitl [Hps]; · iexact Hps
  isplitl [Hts]; · iexact Hts
  unfold prevP
  irw [if_pos (Nat.succ_pos k.val), Nat.add_sub_cancel, bk8_eq ⟨k.val, hk⟩]
  isplitl [Hp]
  · iapply (Entails.of_eq (prowR_eq c ⟨k.val, hk⟩ _))
    iexact Hp
  iexact Ht

theorem held_storable (ℓ : Loc nD τ sig) (S) (f) : BI.Storable (upEmb : UEmb _ 𝕄) (ℓ ↦[S]{fullShare} f) := by infer_instance
theorem sep_storable (P Q : sProp 𝕄) (hP : BI.Storable (upEmb : UEmb _ 𝕄) P) (hQ : BI.Storable (upEmb : UEmb _ 𝕄) Q) :
    BI.Storable (upEmb : UEmb _ 𝕄) iprop(P ∗ Q) := by infer_instance
instance outD_storable (PF : Fin 8 → BufOf (F := F) c pV) (t : Fin 8) : BI.Storable (upEmb : UEmb _ 𝕄) (outD c PF t) :=
  sep_storable _ _ (held_storable _ _ _) (held_storable _ _ _)

/-- The normalisation loop's entry: the batch of the eight copies allocated, the two buffers cut into row blocks. -/
theorem inv2_start :
    iprop(semVal ((c : Thread nD τ), SemLoc.dma ((cc0_scratch12.slice (Rect.unit (s := S6) ![0] S1.size inb_S6_S1_0)).squeeze S_ squeezes_S1_S_).sem) 0
        ∗ pt c mtV fmt ∗ pt c mV fm ∗ pt c lV fl ∗ pt c pV fp ∗ pt c targetH ft)
      ⊢ (|={Set.univ}=> inv2 c v1165 v1171 fp fmt fm fl ft 0 () : sProp 𝕄) := by
  iintro ⟨Hc, Hmt, Hm, Hl, Hp, Ht⟩
  haveI := outD_storable c (finalRows c v1165 v1171 fp fmt fm fl)
  imod (Transfers.batch_alloc' (Lvl := ℕ) countersEmb (c : Thread nD τ) () NB8 (outD c (finalRows c v1165 v1171 fp fmt fm fl))
    (sm := .dma ((cc0_scratch12.slice (Rect.unit (s := S6) ![0] S1.size inb_S6_S1_0)).squeeze S_ squeezes_S1_S_).sem) (E := Set.univ)) $$ Hc with HB
  imodintro
  unfold inv2 prevP
  irw [Ring.rangeSet_univ, if_neg (Nat.lt_irrefl 0)]
  isplitl [HB]; · iexact HB
  isplitl [Hmt]; · iexact Hmt
  isplitl [Hm]; · iexact Hm
  isplitl [Hl]; · iexact Hl
  isplitl [Hp]
  · iapply (Entails.of_eq ((p_eq c fp).trans (bigSep_congr fun b _ => (prowR_eq c b fp).symm)))
    iexact Hp
  isplitl [Ht]
  · iapply (Entails.of_eq (target_eq c ft))
    iexact Ht
  iempintro

/-- Its exit: the last block still to be copied. -/
theorem inv2_end (acc : Unit) :
    inv2 c v1165 v1171 fp fmt fm fl ft k0_t2_loop.trips acc
      ⊢ iprop(outB c (finalRows c v1165 v1171 fp fmt fm fl) 7 0 ∗ pt c mtV fmt ∗ pt c mV fm ∗ pt c lV fl
          ∗ prowP c (Ring.bk 8 7) (finalRows c v1165 v1171 fp fmt fm fl (Ring.bk 8 7)) ∗ trowP c (Ring.bk 8 7) ft) := by
  unfold inv2
  iintro ⟨HB, Hmt, Hm, Hl, -, -, Hprev⟩
  isplitl [HB]; · iexact HB
  isplitl [Hmt]; · iexact Hmt
  isplitl [Hm]; · iexact Hm
  isplitl [Hl]; · iexact Hl
  iapply (prevP_pos c (finalRows c v1165 v1171 fp fmt fm fl) ft (n := 8) (by decide))
  iexact Hprev

end Loop2
end Cert.Kernel.Hand

end
-- ==== Proof.Kernel.Run.lean ====
module

public import proofs.«01_k».proof.Proof.Kernel.Names
public import proofs.«01_k».proof.Proof.Kernel.Loop1
public import proofs.«01_k».proof.Proof.Kernel.Loop2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- At the start, trip `p`'s role is the prologue's copy. -/
theorem role_start (c : Dev nD) (XA : BufOf (F := F) c wH) (p : ℕ) (h : p < 25) :
    iprop(∃ f, flightP c XA (Ring.sl 8 p) (Ring.bk 25 p) f) ⊢ role c XA p := by rw [role_lt c XA h]

/-- The target result's exit batch semaphore, and the two of the small results. -/
abbrev cellD (c : Dev nD) (j : Fin 20) : sProp 𝕄 := semVal ((c : Thread nD τ), SemLoc.dma j) 0
abbrev cellT (c : Dev nD) : sProp 𝕄 :=
  semVal ((c : Thread nD τ), SemLoc.dma ((cc0_scratch12.slice (Rect.unit (s := S6) ![0] S1.size inb_S6_S1_0)).squeeze S_ squeezes_S1_S_).sem) 0

/-- The tile loop's entry. -/
theorem inv1_start (c : Dev nD)
    (v0 : IVec S8x128 32) (v1 : IVec S8x128 32) (v962 v963 v964 v969 v974 v979 v984 v989 : Vec F S8x128 .f32) (v992 : IVec S8x128 1) (cst : F .f32)
    (XA : BufOf (F := F) c wH) (q : BufOf (F := F) c codesV) (ws : BufOf (F := F) c wsV) (sc : BufOf (F := F) c scaleV)
    (p : BufOf (F := F) c pV) (mt : BufOf (F := F) c mtV) (m : BufOf (F := F) c mV) (l : BufOf (F := F) c lV) (f : BufOf (F := F) c wV) :
    iprop(flightP c XA 0 0 f ∗ flightP c XA 1 1 f ∗ flightP c XA 2 2 f ∗ flightP c XA 3 3 f ∗ flightP c XA 4 4 f ∗ flightP c XA 5 5 f
        ∗ flightP c XA 6 6 f ∗ flightP c XA 7 7 f ∗ bigSep (Ring.homeSet 8 0) (homeP c XA) ∗ pt c codesV q ∗ pt c wsV ws ∗ pt c scaleV sc
        ∗ pt c pV p ∗ pt c mtV mt ∗ pt c mV m ∗ pt c lV l ∗ (∃ W, owes (c : Thread nD τ) 0 W))
      ⊢ inv1 c v0 v1 v962 v963 v964 v969 v974 v979 v984 v989 v992 cst XA q ws sc (p, mt, m, l) 0 () := by
  unfold inv1 ringP tabs
  iintro ⟨Hc0, Hc1, Hc2, Hc3, Hc4, Hc5, Hc6, Hc7, H⟩
  isplitl [Hc0 Hc1 Hc2 Hc3 Hc4 Hc5 Hc6 Hc7]
  · isplitl [Hc0]; · iapply (role_start c XA 0 (by decide)); iexists f; iexact Hc0
    isplitl [Hc1]; · iapply (role_start c XA 1 (by decide)); iexists f; iexact Hc1
    isplitl [Hc2]; · iapply (role_start c XA 2 (by decide)); iexists f; iexact Hc2
    isplitl [Hc3]; · iapply (role_start c XA 3 (by decide)); iexists f; iexact Hc3
    isplitl [Hc4]; · iapply (role_start c XA 4 (by decide)); iexists f; iexact Hc4
    isplitl [Hc5]; · iapply (role_start c XA 5 (by decide)); iexists f; iexact Hc5
    isplitl [Hc6]; · iapply (role_start c XA 6 (by decide)); iexists f; iexact Hc6
    iapply (role_start c XA 7 (by decide)); iexists f; iexact Hc7
  iexact H

/-- The tile loop's exit: every tile at home, every slot free. -/
theorem inv1_end (c : Dev nD)
    (v0 : IVec S8x128 32) (v1 : IVec S8x128 32) (v962 v963 v964 v969 v974 v979 v984 v989 : Vec F S8x128 .f32) (v992 : IVec S8x128 1) (cst : F .f32)
    (XA : BufOf (F := F) c wH) (q : BufOf (F := F) c codesV) (ws : BufOf (F := F) c wsV) (sc : BufOf (F := F) c scaleV)
    (S0 : TabsT (F := F) c) (acc : Unit) :
    inv1 c v0 v1 v962 v963 v964 v969 v974 v979 v984 v989 v992 cst XA q ws sc S0 k0_t1_loop.trips acc
      ⊢ iprop(iprop(cellP c 0 ∗ cellP c 1 ∗ cellP c 2 ∗ cellP c 3 ∗ cellP c 4 ∗ cellP c 5 ∗ cellP c 6 ∗ cellP c 7) ∗ (∃ f, pt c wV f) ∗ pt c wH XA ∗ pt c codesV q ∗ pt c wsV ws ∗ pt c scaleV sc
        ∗ pt c pV (tabs c v0 v1 v962 v963 v964 v969 v974 v979 v984 v989 v992 cst XA q ws sc S0 25).1
        ∗ pt c mtV (tabs c v0 v1 v962 v963 v964 v969 v974 v979 v984 v989 v992 cst XA q ws sc S0 25).2.1
        ∗ pt c mV (tabs c v0 v1 v962 v963 v964 v969 v974 v979 v984 v989 v992 cst XA q ws sc S0 25).2.2.1
        ∗ pt c lV (tabs c v0 v1 v962 v963 v964 v969 v974 v979 v984 v989 v992 cst XA q ws sc S0 25).2.2.2
        ∗ (∃ W, owes (c : Thread nD τ) 0 W)) := by
  rw [show k0_t1_loop.trips = 25 from rfl]
  unfold inv1 ringP
  rw [role_ge c XA (p := 25) (by decide), role_ge c XA (p := 25 + 1) (by decide), role_ge c XA (p := 25 + 2) (by decide), role_ge c XA (p := 25 + 3) (by decide),
    role_ge c XA (p := 25 + 4) (by decide), role_ge c XA (p := 25 + 5) (by decide), role_ge c XA (p := 25 + 6) (by decide), role_ge c XA (p := 25 + 7) (by decide),
    Ring.homeSet_last 8 25 le_rfl, ← w_eq]
  iintro ⟨⟨⟨Hc1, Hs1⟩, ⟨Hc2, Hs2⟩, ⟨Hc3, Hs3⟩, ⟨Hc4, Hs4⟩, ⟨Hc5, Hs5⟩, ⟨Hc6, Hs6⟩, ⟨Hc7, Hs7⟩, ⟨Hc0, Hs0⟩⟩, H⟩
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [Hs0 Hs1 Hs2 Hs3 Hs4 Hs5 Hs6 Hs7]
  · iapply (ring_join c)
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iexact H

set_option maxHeartbeats 4000000 in
/-- The body run. -/
noncomputable def kernelRun (c : Dev nD) (fx : BufOf (F := F) c xH) (fw : BufOf (F := F) c wH) (fs : BufOf (F := F) c wsH)
    (g0 : BufOf (F := F) c targetH) (g1 : BufOf (F := F) c codesH) (g2 : BufOf (F := F) c scalesH)
    (f0 : BufOf (F := F) c xV) (f1 : BufOf (F := F) c codesV) (f2 : BufOf (F := F) c wV) (f3 : BufOf (F := F) c wsV) (f4 : BufOf (F := F) c pV)
    (f5 : BufOf (F := F) c mtV) (f6 : BufOf (F := F) c scaleV) (f7 : BufOf (F := F) c mV) (f8 : BufOf (F := F) c lV) (f9 : BufOf (F := F) c rowV) :
    { G : (Fin 8 → BufOf (F := F) c pV) × BufOf (F := F) c codesH × BufOf (F := F) c scalesH //
      ∀ (W : Waits sig Unit) (K : PUnit → sProp 𝕄),
        iprop(pt c xH fx ∗ pt c wH fw ∗ pt c wsH fs ∗ pt c targetH g0 ∗ pt c codesH g1 ∗ pt c scalesH g2
            ∗ pt c xV f0 ∗ pt c codesV f1 ∗ pt c wV f2 ∗ pt c wsV f3 ∗ pt c pV f4 ∗ pt c mtV f5 ∗ pt c scaleV f6 ∗ pt c mV f7 ∗ pt c lV f8 ∗ pt c rowV f9
            ∗ iprop(cellP c 0 ∗ cellP c 1 ∗ cellP c 2 ∗ cellP c 3 ∗ cellP c 4 ∗ cellP c 5 ∗ cellP c 6 ∗ cellP c 7)
            ∗ cellD c 0 ∗ cellD c 1 ∗ cellT c ∗ cellD c 18 ∗ cellD c 19
            ∗ owes (c : Thread nD τ) 0 W
            ∗ (iprop(pt c xH fx ∗ pt c wH fw ∗ pt c wsH fs ∗ bigSep Finset.univ (outD c G.1) ∗ pt c codesH G.2.1 ∗ pt c scalesH G.2.2
                ∗ (∃ f, pt c xV f) ∗ (∃ f, pt c codesV f) ∗ (∃ f, pt c wV f) ∗ (∃ f, pt c wsV f) ∗ (∃ f, pt c mtV f)
                ∗ (∃ f, pt c scaleV f) ∗ (∃ f, pt c mV f) ∗ (∃ f, pt c lV f) ∗ (∃ f, pt c rowV f)
                ∗ iprop(cellP c 0 ∗ cellP c 1 ∗ cellP c 2 ∗ cellP c 3 ∗ cellP c 4 ∗ cellP c 5 ∗ cellP c 6 ∗ cellP c 7)
                ∗ cellD c 0 ∗ cellD c 1 ∗ cellT c ∗ cellD c 18 ∗ cellD c 19
                ∗ (∃ W', owes (c : Thread nD τ) 0 W')) -∗ K ⟨⟩))
          ⊢ wp frame (wpE (defs₀ (F := F)) Variants.none c none) Set.univ
              (cc0_spectr_verify xH (Memref.isWhole_whole _) wH (Memref.isWhole_whole _) wsH (Memref.isWhole_whole _)
                targetH (Memref.isWhole_whole _) codesH (Memref.isWhole_whole _) scalesH (Memref.isWhole_whole _)
                xV (Memref.isWhole_whole _) codesV (Memref.isWhole_whole _) wV (Memref.isWhole_whole _) wsV (Memref.isWhole_whole _)
                pV (Memref.isWhole_whole _) mtV (Memref.isWhole_whole _) scaleV (Memref.isWhole_whole _) mV (Memref.isWhole_whole _)
                lV (Memref.isWhole_whole _) rowV (Memref.isWhole_whole _) cc0_scratch10 cc0_scratch11 cc0_scratch12) K } := by
  refine ⟨(?_, ?_, ?_), fun W K => ?run⟩
  case run =>
    simp only [cc0_spectr_verify_eq_skeleton]; unfold cc0_spectr_verify_skel
    iintro ⟨Hx, Hw, Hs, Ht, Hc, Hsr, H0, H1, H2, H3, H4, H5, H6, H7, H8, H9, ⟨Hc0, Hc1, Hc2, Hc3, Hc4, Hc5, Hc6, Hc7⟩, Hd0, Hd1, Hdt, Hd18, Hd19, HW, Hk⟩
    ihave Hw2 := (Entails.of_eq ((w_eq c fw).trans (homes_zero c fw))) $$ [Hw]
    · iexact Hw
    icases Hw2 with ⟨Ht0, Ht1, Ht2, Ht3, Ht4, Ht5, Ht6, Ht7, Hh⟩
    ihave Hr2 := (ring_split c f2) $$ [H2]
    · iexact H2
    icases Hr2 with ⟨Hr0, Hr1, Hr2, Hr3, Hr4, Hr5, Hr6, Hr7⟩
    sl_exec
    sl_for (inv1 c kernelRun.sl.v0 kernelRun.sl.v1 (kernelRun.sl.v962 c fx f0) (kernelRun.sl.v963 c fx f0) (kernelRun.sl.v964 c fx f0)
        (kernelRun.sl.r_57 c fx f0) (kernelRun.sl.r_58 c fx f0) (kernelRun.sl.r_59 c fx f0) (kernelRun.sl.r_60 c fx f0) (kernelRun.sl.r_61 c fx f0)
        (k0_pay696 kernelRun.sl.v0 kernelRun.sl.v1) kernelRun.sl.cst_384 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1)) $$ [Hc0 Hc1 Hc2 Hc3 Hc4 Hc5 Hc6 Hc7 Hh H1 H3 H6 H4 H5 H7 H8 HW]
    · intro k acc; exact inv1_step c _ _ _ _ _ _ _ _ _ _ _ _ _ _ _ _ _ k acc
    · iapply (inv1_start c _ _ _ _ _ _ _ _ _ _ _ _ fw _ _ _ _ _ _ _ f2)
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hh]; · iexact Hh
      isplitl [H1]; · iexact H1
      isplitl [H3]; · iexact H3
      isplitl [H6]; · iexact H6
      isplitl [H4]; · iexact H4
      isplitl [H5]; · iexact H5
      isplitl [H7]; · iexact H7
      isplitl [H8]; · iexact H8
      iexists _; iexact HW
    iintro %acc HL
    ihave HL2 := (inv1_end c _ _ _ _ _ _ _ _ _ _ _ _ fw _ _ _ _ acc) $$ [HL]
    · iexact HL
    icases HL2 with ⟨Hcells, ⟨%fw2, H2⟩, Hw, H1, H3, H6, H4, H5, H7, H8, ⟨%W1, HW⟩⟩
    sl_exec
    imod (inv2_start c (kernelRun.sl.v962 c fx f0) (fun _ => kernelRun.sl.cst_384)
      (tabs c kernelRun.sl.v0 kernelRun.sl.v1 (kernelRun.sl.v962 c fx f0) (kernelRun.sl.v963 c fx f0) (kernelRun.sl.v964 c fx f0)
        (kernelRun.sl.r_57 c fx f0) (kernelRun.sl.r_58 c fx f0) (kernelRun.sl.r_59 c fx f0) (kernelRun.sl.r_60 c fx f0) (kernelRun.sl.r_61 c fx f0)
        (k0_pay696 kernelRun.sl.v0 kernelRun.sl.v1) kernelRun.sl.cst_384 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).1
      (tabs c kernelRun.sl.v0 kernelRun.sl.v1 (kernelRun.sl.v962 c fx f0) (kernelRun.sl.v963 c fx f0) (kernelRun.sl.v964 c fx f0)
        (kernelRun.sl.r_57 c fx f0) (kernelRun.sl.r_58 c fx f0) (kernelRun.sl.r_59 c fx f0) (kernelRun.sl.r_60 c fx f0) (kernelRun.sl.r_61 c fx f0)
        (k0_pay696 kernelRun.sl.v0 kernelRun.sl.v1) kernelRun.sl.cst_384 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).2.1
      (mV.view.writes (Elt F) mV.view.junk (kernelRun.sl.H7_8 c fx fw fs f0 f3 f4 f5)) (lV.view.writes (Elt F) lV.view.junk (kernelRun.sl.H8_8 c fx fw fs f0 f3 f4 f5)) g0) $$ [Hdt H5 H7 H8 H4 Ht] with HI
    · isplitl [Hdt]; · iexact Hdt
      isplitl [H5]; · iexact H5
      isplitl [H7]; · iexact H7
      isplitl [H8]; · iexact H8
      isplitl [H4]; · iexact H4
      iexact Ht
    sl_for (inv2 c (kernelRun.sl.v962 c fx f0) (fun _ => kernelRun.sl.cst_384)
      (tabs c kernelRun.sl.v0 kernelRun.sl.v1 (kernelRun.sl.v962 c fx f0) (kernelRun.sl.v963 c fx f0) (kernelRun.sl.v964 c fx f0)
        (kernelRun.sl.r_57 c fx f0) (kernelRun.sl.r_58 c fx f0) (kernelRun.sl.r_59 c fx f0) (kernelRun.sl.r_60 c fx f0) (kernelRun.sl.r_61 c fx f0)
        (k0_pay696 kernelRun.sl.v0 kernelRun.sl.v1) kernelRun.sl.cst_384 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).1
      (tabs c kernelRun.sl.v0 kernelRun.sl.v1 (kernelRun.sl.v962 c fx f0) (kernelRun.sl.v963 c fx f0) (kernelRun.sl.v964 c fx f0)
        (kernelRun.sl.r_57 c fx f0) (kernelRun.sl.r_58 c fx f0) (kernelRun.sl.r_59 c fx f0) (kernelRun.sl.r_60 c fx f0) (kernelRun.sl.r_61 c fx f0)
        (k0_pay696 kernelRun.sl.v0 kernelRun.sl.v1) kernelRun.sl.cst_384 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).2.1
      (mV.view.writes (Elt F) mV.view.junk (kernelRun.sl.H7_8 c fx fw fs f0 f3 f4 f5)) (lV.view.writes (Elt F) lV.view.junk (kernelRun.sl.H8_8 c fx fw fs f0 f3 f4 f5)) g0) $$ [HI]
    · intro k acc; exact inv2_step c _ _ _ _ _ _ _ k acc
    · iexact HI
    iintro %acc2 HL2
    ihave HL3 := (inv2_end c _ _ _ _ _ _ _ acc2) $$ [HL2]
    · iexact HL2
    icases HL3 with ⟨HB, H5, H7, H8, Hpr, Htr⟩
    sl_exec
    sl_step
    iapply Hk
    isplitl [Hx]; · iexact Hx
    isplitl [Hw]; · iexact Hw
    isplitl [Hs]; · iexact Hs
    isplitl [HB_dst0 HB_src0 HB_dst1 HB_src1 HB_dst2 HB_src2 HB_dst3 HB_src3 HB_dst4 HB_src4 HB_dst5 HB_src5 HB_dst6 HB_src6 HB_dst7 HB_src7]
    · iapply (Entails.of_eq (bigSep_fin8 (outD c _)).symm)
      isplitl [HB_dst0 HB_src0]
      · isplitl [HB_dst0]; · iexact HB_dst0
        iexact HB_src0
      isplitl [HB_dst1 HB_src1]
      · isplitl [HB_dst1]; · iexact HB_dst1
        iexact HB_src1
      isplitl [HB_dst2 HB_src2]
      · isplitl [HB_dst2]; · iexact HB_dst2
        iexact HB_src2
      isplitl [HB_dst3 HB_src3]
      · isplitl [HB_dst3]; · iexact HB_dst3
        iexact HB_src3
      isplitl [HB_dst4 HB_src4]
      · isplitl [HB_dst4]; · iexact HB_dst4
        iexact HB_src4
      isplitl [HB_dst5 HB_src5]
      · isplitl [HB_dst5]; · iexact HB_dst5
        iexact HB_src5
      isplitl [HB_dst6 HB_src6]
      · isplitl [HB_dst6]; · iexact HB_dst6
        iexact HB_src6
      isplitl [HB_dst7]; · iexact HB_dst7
      iexact HB_src7
    isplitl [Hc]; · iexact Hc
    isplitl [Hsr]; · iexact Hsr
    isplitl [H0]; · iexists _; iexact H0
    isplitl [H1]; · iexists _; iexact H1
    isplitl [H2]; · iexists _; iexact H2
    isplitl [H3]; · iexists _; iexact H3
    isplitl [H5]; · iexists _; iexact H5
    isplitl [H6]; · iexists _; iexact H6
    isplitl [H7]; · iexists _; iexact H7
    isplitl [H8]; · iexists _; iexact H8
    isplitl [H9]; · iexists _; iexact H9
    isplitl [Hcells]; · iexact Hcells
    isplitl [Hd0]; · iexact Hd0
    isplitl [Hd1]; · iexact Hd1
    isplitl [HB]; · iexact HB
    isplitl [Hd18]; · iexact Hd18
    isplitl [Hd19]; · iexact Hd19
    iexists _; iexact HW

end Cert.Kernel.Hand

end
-- ==== Proof.Kernel.Out.lean ====
module

public import proofs.«01_k».proof.Proof.Kernel.Loop2

/-! The eight copies out, joined: the whole result, and the table they were copied from. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

theorem writes_whole_agree {sp : Space} {s : Shape} {e : EltTy} (v : View sig .tc sp s e) (f g : v.ty.Contents (Elt F)) (p : s.Idx → Elt F e)
    (h : v.read (Elt F) g = p) : ∀ i ∈ v.set, v.writes (Elt F) f [⟨Rect.whole s, p⟩] i = g i := by
  intro i hi
  obtain ⟨x, -, rfl⟩ := Finset.mem_map.mp hi
  have h2 := congrFun ((View.read_writes_whole (Val := Elt F) v f p).trans h.symm) x
  rw [View.read_apply, View.read_apply] at h2
  exact (cast_inj _).mp h2

theorem targetOf_read (PF : Fin 8 → BufOf (F := F) c pV) (b : Fin 8) :
    (trow b).view.read (Elt F) (targetOf c PF) = (prow b).view.read (Elt F) (PF b) := by
  funext x
  have key : ∀ i : S64x32000.Idx, (i 0).val / 8 = b.val → (targetOf c PF : S64x32000.Idx → Elt F .f32) i = (PF b : S64x32000.Idx → Elt F .f32) i := fun i hm => by
    have hlt : (i 0).val < 64 := (i 0).isLt
    have e : (⟨(i 0).val / 8, by omega⟩ : Fin 8) = b := Fin.ext hm
    show (PF ⟨(i 0).val / 8, by omega⟩ : S64x32000.Idx → Elt F .f32) i = _
    rw [e]
  have hx0 : (x 0).val < 8 := (x 0).isLt
  have h0 : (((Rect.unit (s := S64x32000) (rowOff b) S8x32000.size (rowOff_inb b)).emb x : S64x32000.Idx) 0).val / 8 = b.val := by
    show (8 * b.val + 1 * (x 0).val) / 8 = b.val
    omega
  exact key ((Rect.unit (s := S64x32000) (rowOff b) S8x32000.size (rowOff_inb b)).emb x) h0

/-- A row block of the result after its copy is that block of the joined result. -/
theorem trow_out (PF : Fin 8 → BufOf (F := F) c pV) (b : Fin 8) :
    trowP c b ((trow b).view.writes (Elt F) (trow b).view.junk [⟨Rect.whole S8x32000, ReadAs.same.apply ((prow b).view.read (Elt F) (PF b))⟩])
      = trowP c b (targetOf c PF) :=
  pointsTo_congr (writes_whole_agree (trow b).view _ (targetOf c PF) _ (targetOf_read c PF b))

theorem out_join (PF : Fin 8 → BufOf (F := F) c pV) :
    bigSep Finset.univ (outD c PF) ⊢ (iprop(pt c targetH (targetOf c PF) ∗ (∃ f, pt c pV f)) : sProp 𝕄) := by
  have e : bigSep Finset.univ (outD c PF) = bigSep Finset.univ (fun b : Fin 8 => (iprop(trowP c b (targetOf c PF) ∗ prowP c b (PF b)) : sProp 𝕄)) :=
    bigSep_congr fun t _ => by
      show (iprop(trowP c (Ring.bk 8 t.val) _ ∗ prowP c (Ring.bk 8 t.val) _) : sProp 𝕄) = _
      rw [trow_out, bk8_eq]
  rw [e]
  refine (Entails.of_eq (BI.bigSep_sep Finset.univ (fun b : Fin 8 => (trowP c b (targetOf c PF) : sProp 𝕄)) (fun b : Fin 8 => prowP c b (PF b)))).trans ?_
  exact BI.sep_mono (Entails.of_eq (target_eq c _).symm) (p_join c PF)

end Cert.Kernel.Hand

end
-- ==== Proof.Kernel.Launched.lean ====
module

public import proofs.«01_k».proof.Proof.Kernel.Run
public import proofs.«01_k».proof.Proof.Kernel.Out

/-! The whole program from any memory: it ends, every semaphore at zero and the arguments unchanged. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphores, -/
abbrev osem0 : Fin 20 → SemLoc sig := fun j => SemLoc.dma j
/-- the written results and the inputs the kernel reads. -/
abbrev R0 : Finset (Ref sig .tc) := {main_v2_0, main_v2_1, main_v2_2}
abbrev H0 : Finset (Ref sig .tc) := {main_v0, main_arg1, main_v1}
theorem H0_sub : H0 ⊆ Pipeline.restRefs sig (cfg0).spec := by decide
theorem R0_sub : R0 ⊆ Pipeline.restRefs sig (cfg0).spec \ H0 := by decide
theorem ownSemFacts0 : Pipeline.OwnSemFacts (cfg0).spec osem0 := by decide

theorem owned_eq (c : Dev nD) :
    (Pipeline.owned R0 c : sProp 𝕄) = iprop((∃ f, pt c targetH f) ∗ (∃ f, pt c codesH f) ∗ (∃ f, pt c scalesH f)) := by
  unfold Pipeline.owned; rw [BI.bigSep_eq_bigSepL_of_eq [main_v2_0, main_v2_1, main_v2_2] (by decide) (by decide)]; rfl

theorem hbm_eq (c : Dev nD) :
    (bigSep H0 (fun b => ((c : Thread nD τ).loc b) ↦{fullShare} V m c b) : sProp 𝕄)
      = iprop(pt c xH (V m c main_v0) ∗ pt c wH (V m c main_arg1) ∗ pt c wsH (V m c main_v1)) := by
  rw [BI.bigSep_eq_bigSepL_of_eq [main_v0, main_arg1, main_v1] (by decide) (by decide)]; rfl

/-- The semaphores the body uses, and the ones it does not. -/
def semsUsed (c : Dev nD) : sProp 𝕄 :=
  iprop(iprop(cellP c 0 ∗ cellP c 1 ∗ cellP c 2 ∗ cellP c 3 ∗ cellP c 4 ∗ cellP c 5 ∗ cellP c 6 ∗ cellP c 7)
            ∗ cellD c 0 ∗ cellD c 1 ∗ cellT c ∗ cellD c 18 ∗ cellD c 19)
def semsIdle (c : Dev nD) : sProp 𝕄 := BI.bigSepL [2, 3, 4, 5, 15, 16, 17] (fun j : Fin 20 => semVal ((c : Thread nD τ), SemLoc.dma j) 0)

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0
          ∗ cellD c 0 ∗ cellD c 1 ∗ semVal ((c : Thread nD τ), SemLoc.dma 14) 0 ∗ cellD c 18 ∗ cellD c 19 ∗ semsIdle c) := by
  rw [Pipeline.ownSems0_eq_of_list c osem0 [6, 7, 8, 9, 10, 11, 12, 13, 0, 1, 14, 18, 19, 2, 3, 4, 5, 15, 16, 17] (by decide) (by decide)]; rfl

theorem sems_split (c : Dev nD) :
    (Pipeline.ownSems0 (Ix := Unit) (Name := ℕ) (U := Pipeline.UD sig nD τ) (Lvl := ℕ) (Val := Elt F) (τ := τ) osem0 c : sProp 𝕄) ⊢ iprop(semsUsed c ∗ semsIdle c) := by
  rw [ownSems_eq]; unfold semsUsed
  iintro ⟨A0, A1, A2, A3, A4, A5, A6, A7, B0, B1, B2, B3, B4, HI⟩
  isplitr [HI]
  · isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0]; · iexact B0
    isplitl [B1]; · iexact B1
    isplitl [B2]; · iexact B2
    isplitl [B3]; · iexact B3
    iexact B4
  iexact HI

theorem sems_join (c : Dev nD) :
    iprop(semsUsed c ∗ semsIdle c) ⊢ (Pipeline.ownSems0 (Ix := Unit) (Name := ℕ) (U := Pipeline.UD sig nD τ) (Lvl := ℕ) (Val := Elt F) (τ := τ) osem0 c : sProp 𝕄) := by
  rw [ownSems_eq]; unfold semsUsed
  iintro ⟨⟨⟨A0, A1, A2, A3, A4, A5, A6, A7⟩, B0, B1, B2, B3, B4⟩, HI⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  iexact HI

/-- The kernel's buffers. -/
def scr (c : Dev nD) : sProp 𝕄 :=
  iprop((∃ f, pt c xV f) ∗ (∃ f, pt c codesV f) ∗ (∃ f, pt c wV f) ∗ (∃ f, pt c wsV f) ∗ (∃ f, pt c pV f) ∗ (∃ f, pt c mtV f)
    ∗ (∃ f, pt c scaleV f) ∗ (∃ f, pt c mV f) ∗ (∃ f, pt c lV f) ∗ (∃ f, pt c rowV f))

theorem Phi_eq (c : Dev nD) :
    (Pipeline.ΦDR osem0 (cfg0).spec H0 R0 (V m) c : sProp 𝕄)
      = iprop(scr c ∗ (∃ r, prngReg c r) ∗ Pipeline.ownSems0 (Ix := Unit) (Name := ℕ) (U := Pipeline.UD sig nD τ) (Lvl := ℕ) (Val := Elt F) (τ := τ) osem0 c
          ∗ iprop(pt c xH (V m c main_v0) ∗ pt c wH (V m c main_arg1) ∗ pt c wsH (V m c main_v1))
          ∗ iprop((∃ f, pt c targetH f) ∗ (∃ f, pt c codesH f) ∗ (∃ f, pt c scalesH f))) := by
  rw [Pipeline.ΦDR_eq, scopedRest0_eq, hbm_eq, owned_eq]; rfl

/-- The proof data of the one point: no windows; the results owned. -/
def dats (_ : Fin 1) (c : Dev nD) : Dat τ (Elt F) Unit ℕ (Pipeline.UD sig nD τ) ℕ cfg0 c where
  A w := V m c (Pipeline.arrRef (cfg0).spec w)
  after w t := w.elim0
  Φ t := Pipeline.ΦDR osem0 (cfg0).spec H0 R0 (V m) c
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  have ht := fin_N0 t
  subst ht
  unfold bodyPre bodyPost bodyAt0
  rw [show (dats m 0 c).Φ t0_0.castSucc = Pipeline.ΦDR osem0 (cfg0).spec H0 R0 (V m) c from rfl,
    show (dats m 0 c).Φ t0_0.succ = Pipeline.ΦDR osem0 (cfg0).spec H0 R0 (V m) c from rfl, Phi_eq]
  unfold Dat.owesAt Pipeline.owesWithin
  rw [show (dats m 0 c).owed t0_0.castSucc = 0 from rfl, show (dats m 0 c).owed t0_0.succ = 0 from rfl]
  unfold scr
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hg, Hq, ⟨Hx, Hw, Hs⟩, ⟨⟨%g0, Ht⟩, ⟨%g1, Hc⟩, ⟨%g2, Hl⟩⟩⟩, ⟨%W, -, HW⟩⟩
  ihave Hqq := (sems_split c) $$ Hq
  icases Hqq with ⟨Hu, HI⟩
  unfold semsUsed
  icases Hu with ⟨HP, D0, D1, DT, D18, D19⟩
  iapply ((kernelRun c (V m c main_v0) (V m c main_arg1) (V m c main_v1) g0 g1 g2 f0 f1 f2 f3 f4 f5 f6 f7 f8 f9).2 W _)
  isplitl [Hx]; · iexact Hx
  isplitl [Hw]; · iexact Hw
  isplitl [Hs]; · iexact Hs
  isplitl [Ht]; · iexact Ht
  isplitl [Hc]; · iexact Hc
  isplitl [Hl]; · iexact Hl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HP]; · iexact HP
  isplitl [D0]; · iexact D0
  isplitl [D1]; · iexact D1
  isplitl [DT]; · iexact DT
  isplitl [D18]; · iexact D18
  isplitl [D19]; · iexact D19
  isplitl [HW]; · iexact HW
  iintro ⟨Hx, Hw, Hs, HO, Hc, Hl, H0, H1, H2, H3, H5, H6, H7, H8, H9, HP, D0, D1, DT, D18, D19, ⟨%W', HW'⟩⟩
  ihave HOO := (out_join c _) $$ HO
  icases HOO with ⟨Ht, H4⟩
  isplitr [HW']
  · isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [Hg]; · iexact Hg
    isplitl [HP D0 D1 DT D18 D19 HI]
    · iapply (sems_join c)
      unfold semsUsed
      isplitr [HI]
      · isplitl [HP]; · iexact HP
        isplitl [D0]; · iexact D0
        isplitl [D1]; · iexact D1
        isplitl [DT]; · iexact DT
        isplitl [D18]; · iexact D18
        iexact D19
      iexact HI
    isplitl [Hx Hw Hs]
    · isplitl [Hx]; · iexact Hx
      isplitl [Hw]; · iexact Hw
      iexact Hs
    isplitl [Ht]; · iexists _; iexact Ht
    isplitl [Hc]; · iexists _; iexact Hc
    iexists _; iexact Hl
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · unfold bodyPre; iintro ⟨HΦ, HW, -⟩
    isplitl [HΦ]; · iexact HΦ
    iexact HW
  · unfold bodyPost; iintro ⟨HΦ, HW⟩
    isplitl [HΦ]; · iexact HΦ
    isplitl [HW]; · iexact HW
    rw [show (Finset.univ : Finset (Fin cfg0.W)) = ∅ from rfl, BI.bigSep_empty]
    iempintro

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c w => w.elim0)
    (howed := fun _ _ => rfl) (V := V m) (hmain := hmain m) (hA := fun c w => w.elim0)
    (hin := fun _ => .rfl) (hout := fun _ => .rfl)

/-- The whole program, any memory: the arguments unchanged, every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩) (run_main m ρ)

end Cert.Kernel.Hand

end
-- ==== Proof.KernelIdeal.Ring.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.Trips
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The operands and the scratch buffers of the kernel, as the call passes them. -/
abbrev xH : Memref sig .tc .hbm S64x1024 .bf16 := Memref.whole main_v0
abbrev wH : Memref sig .tc .hbm S1024x32000 .fp8e4m3 := Memref.whole main_arg1
abbrev wsH : Memref sig .tc .hbm S250x128 .f32 := Memref.whole main_v1
abbrev targetH : Memref sig .tc .hbm S64x32000 .f32 := Memref.whole main_v2_0
abbrev codesH : Memref sig .tc .hbm S64x1024 .fp8e4m3 := Memref.whole main_v2_1
abbrev scalesH : Memref sig .tc .hbm S1x64 .f32 := Memref.whole main_v2_2
abbrev xV : Memref sig .tc .vmem S64x1024 .bf16 := Memref.whole cc0_scratch0
abbrev codesV : Memref sig .tc .vmem S64x1024 .fp8e4m3 := Memref.whole cc0_scratch1
abbrev wV : Memref sig .tc .vmem S8x1024x1280 .fp8e4m3 := Memref.whole cc0_scratch2
abbrev wsV : Memref sig .tc .vmem S250x128 .f32 := Memref.whole cc0_scratch3
abbrev pV : Memref sig .tc .vmem S64x32000 .f32 := Memref.whole cc0_scratch4
abbrev mtV : Memref sig .tc .vmem S25x64x128 .f32 := Memref.whole cc0_scratch5
abbrev scaleV : Memref sig .tc .vmem S64x128 .f32 := Memref.whole cc0_scratch6
abbrev mV : Memref sig .tc .vmem S64x128 .f32 := Memref.whole cc0_scratch7
abbrev lV : Memref sig .tc .vmem S64x128 .f32 := Memref.whole cc0_scratch8
abbrev rowV : Memref sig .tc .vmem S1x64 .f32 := Memref.whole cc0_scratch9

/-- The contents of a memref's buffer on core `c`, and the buffer held whole at them. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-! ## Canonical names: tile `b` of the head matrix, slot `s` of the ring, its semaphore -/

abbrev tileOff (b : Fin 25) : Fin 2 → Nat := ![0, 1280 * b.val]
theorem tileOff_inb (b : Fin 25) : ∀ a, tileOff b a + S1024x1280.size a ≤ S1024x32000.size a := by
  have := b.isLt; intro a; fin_cases a
  · show 0 + 1024 ≤ 1024; omega
  · show 1280 * b.val + 1280 ≤ 32000; omega
abbrev slotOff (s : Fin 8) : Fin 3 → Nat := ![s.val, 0, 0]
theorem slotOff_inb (s : Fin 8) : ∀ a, slotOff s a + S1x1024x1280.size a ≤ S8x1024x1280.size a := by
  have := s.isLt; intro a; fin_cases a
  · show s.val + 1 ≤ 8; omega
  · show 0 + 1024 ≤ 1024; omega
  · show 0 + 1280 ≤ 1280; omega
abbrev semOff (s : Fin 8) : Fin 1 → Nat := ![s.val]
theorem semOff_inb (s : Fin 8) : ∀ a, semOff s a + S1.size a ≤ S8.size a := by
  have := s.isLt; intro a; fin_cases a; show s.val + 1 ≤ 8; omega

/-- Tile `b` of the head matrix in HBM. -/
def tile (b : Fin 25) : Memref sig .tc .hbm S1024x1280 .fp8e4m3 :=
  wH.slice (Rect.unit (s := S1024x32000) (tileOff b) S1024x1280.size (tileOff_inb b)) (fun _ => rfl)
/-- Slot `s` of the ring. -/
def rslot (s : Fin 8) : Memref sig .tc .vmem S1024x1280 .fp8e4m3 :=
  (wV.slice (Rect.unit (s := S8x1024x1280) (slotOff s) S1x1024x1280.size (slotOff_inb s)) (fun _ => rfl)).squeeze S1024x1280 squeezes_S1x1024x1280_S1024x1280
/-- Slot `s`'s DMA semaphore. -/
def csm (s : Fin 8) : DmaSems sig S_ := (cc0_scratch11.slice (Rect.unit (s := S8) (semOff s) S1.size (semOff_inb s))).squeeze S_ squeezes_S1_S_

instance (s : Fin 8) : ClosedOff (slotOff s) := ⟨slotOff s, rfl⟩
instance (b : Fin 25) : ClosedOff (tileOff b) := ⟨tileOff b, rfl⟩

theorem csm_congr {off : Fin 1 → Nat} {s : Fin 8} (e : off = semOff s) (hh) :
    (cc0_scratch11.slice (Rect.unit (s := S8) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 8} (e : off = slotOff s) (hh hs) :
    (wV.slice (Rect.unit (s := S8x1024x1280) off S1x1024x1280.size hh) hs).squeeze S1024x1280 squeezes_S1x1024x1280_S1024x1280 = rslot s :=
  congrArg (fun M : Memref sig .tc .vmem S1x1024x1280 .fp8e4m3 => M.squeeze S1024x1280 squeezes_S1x1024x1280_S1024x1280) (Memref.slice_unit_congr _ e _ _ _ _)
theorem tile_congr {off : Fin 2 → Nat} {b : Fin 25} (e : off = tileOff b) (hh hs) :
    wH.slice (Rect.unit (s := S1024x32000) off S1024x1280.size hh) hs = tile b := by
  subst e; rfl

theorem off1_eq : ∀ k : Fin k0_t1_loop.trips, k0_off1 k = semOff (Ring.sl 8 k.val) := by decide +kernel
theorem off2_eq : ∀ k : Fin k0_t1_loop.trips, k0_off2 k = slotOff (Ring.sl 8 k.val) := by decide +kernel
theorem off4_eq : ∀ k : Fin k0_t1_loop.trips, k0_off4 k = slotOff (Ring.sl 8 k.val) := by decide +kernel
theorem off3_eq : ∀ k : Fin k0_t1_loop.trips, k0_off3 k = tileOff (Ring.bk 25 k.val) := by decide +kernel
theorem off22_eq : ∀ k : Fin k0_t1_loop.trips, k0_off22 k = semOff (Ring.sl 8 k.val) := by decide +kernel
theorem off23_eq : ∀ k : Fin k0_t1_loop.trips, k0_off23 k = slotOff (Ring.sl 8 k.val) := by decide +kernel
theorem off24_eq : ∀ k : Fin k0_t1_loop.trips, k.val + 8 < 25 → k0_off24 k = tileOff (Ring.bk 25 (k.val + 8)) := by decide +kernel
theorem cond1_eq : ∀ k : Fin k0_t1_loop.trips, k.val + 8 < 25 → k0_cond1 k = 1#1 := by decide +kernel
theorem cond1_ne : ∀ k : Fin k0_t1_loop.trips, 25 ≤ k.val + 8 → ¬ k0_cond1 k = 1#1 := by decide +kernel

@[sl_canon] theorem semK (k : Fin k0_t1_loop.trips) (hh) :
    (cc0_scratch11.slice (Rect.unit (s := S8) (k0_off1 k) S1.size hh)).squeeze S_ squeezes_S1_S_ = csm (Ring.sl 8 k.val) := csm_congr (off1_eq k) _
@[sl_canon] theorem semI (k : Fin k0_t1_loop.trips) (hh) :
    (cc0_scratch11.slice (Rect.unit (s := S8) (k0_off22 k) S1.size hh)).squeeze S_ squeezes_S1_S_ = csm (Ring.sl 8 k.val) := csm_congr (off22_eq k) _
@[sl_canon] theorem slotK (k : Fin k0_t1_loop.trips) (hh hs) :
    (wV.slice (Rect.unit (s := S8x1024x1280) (k0_off2 k) S1x1024x1280.size hh) hs).squeeze S1024x1280 squeezes_S1x1024x1280_S1024x1280 = rslot (Ring.sl 8 k.val) := rslot_congr (off2_eq k) _ _
@[sl_canon] theorem slotI (k : Fin k0_t1_loop.trips) (hh hs) :
    (wV.slice (Rect.unit (s := S8x1024x1280) (k0_off23 k) S1x1024x1280.size hh) hs).squeeze S1024x1280 squeezes_S1x1024x1280_S1024x1280 = rslot (Ring.sl 8 k.val) := rslot_congr (off23_eq k) _ _
@[sl_canon] theorem tileW (k : Fin k0_t1_loop.trips) (hh hs) :
    wH.slice (Rect.unit (s := S1024x32000) (k0_off3 k) S1024x1280.size hh) hs = tile (Ring.bk 25 k.val) := tile_congr (off3_eq k) _ _
@[sl_canon] theorem tileI (k : Fin k0_t1_loop.trips) (hk : k.val + 8 < 25) (hh hs) :
    wH.slice (Rect.unit (s := S1024x32000) (k0_off24 k) S1024x1280.size hh) hs = tile (Ring.bk 25 (k.val + 8)) := tile_congr (off24_eq k hk) _ _

instance (priority := 2000) closedSlot4 (k : Fin k0_t1_loop.trips) : ClosedOff (k0_off4 k) := ⟨slotOff (Ring.sl 8 k.val), off4_eq k⟩
instance (priority := 2000) closedSlot2 (k : Fin k0_t1_loop.trips) : ClosedOff (k0_off2 k) := ⟨slotOff (Ring.sl 8 k.val), off2_eq k⟩

/-! ## The pieces: a tile at home, a slot held, a slot's cell, a slot in flight -/

section Pieces
variable (c : Dev nD) (XA : BufOf (F := F) c wH)

abbrev cellP (s : Fin 8) : sProp 𝕄 := semVal ((c : Thread nD τ), SemLoc.dma (csm s).sem) 0
abbrev slotP (s : Fin 8) (f : BufOf (F := F) c (rslot s)) : sProp 𝕄 :=
  (rslot s).view.loc (c : Thread nD τ) ↦[(rslot s).view.set]{fullShare} f
abbrev homeP (b : Fin 25) : sProp 𝕄 := (tile b).view.loc (c : Thread nD τ) ↦[(tile b).view.set]{fullShare} XA
/-- What tile `b`'s copy leaves in slot `s` over prior contents `f`. -/
abbrev landed (s : Fin 8) (b : Fin 25) (f : BufOf (F := F) c (rslot s)) : BufOf (F := F) c (rslot s) :=
  (rslot s).view.writes (Elt F) f [⟨Rect.whole S1024x1280, ReadAs.same.apply ((tile b).view.read (Elt F) XA)⟩]
abbrev NN : ℕ := 40960
/-- Slot `s` in flight with tile `b`, issued over `f`. -/
abbrev flightP (s : Fin 8) (b : Fin 25) (f : BufOf (F := F) c (rslot s)) : sProp 𝕄 :=
  Transfers.Flight countersEmb (c : Thread nD τ) (SemLoc.dma (csm s).sem) () NN iprop(slotP c s (landed c XA s b f) ∗ homeP c XA b)

/-- What trip `p` finds in slot `p % 8`: tile `p` in flight if there is one, the slot and its cell free otherwise. -/
def role (p : ℕ) : sProp 𝕄 :=
  if p < 25 then iprop(∃ f, flightP c XA (Ring.sl 8 p) (Ring.bk 25 p) f) else iprop(cellP c (Ring.sl 8 p) ∗ ∃ f, slotP c (Ring.sl 8 p) f)
/-- The tile trip `p` sends out, if there is one. -/
def nextTile (p : ℕ) : sProp 𝕄 := if p + 8 < 25 then homeP c XA (Ring.bk 25 (p + 8)) else iprop(emp)

theorem role_lt {p : ℕ} (h : p < 25) : role c XA p = iprop(∃ f, flightP c XA (Ring.sl 8 p) (Ring.bk 25 p) f) := if_pos h
theorem role_ge {p : ℕ} (h : ¬ p < 25) : role c XA p = iprop(cellP c (Ring.sl 8 p) ∗ ∃ f, slotP c (Ring.sl 8 p) f) := if_neg h
/-- The slot trip `p` leaves: refilled with tile `p + 8`, -/
theorem role_refilled {p : ℕ} (h : p + 8 < 25) : iprop(∃ f, flightP c XA (Ring.sl 8 p) (Ring.bk 25 (p + 8)) f) ⊢ role c XA (p + 8) := by
  rw [role_lt c XA h, Ring.sl_add 8 p]
/-- or free, when no tile is left. -/
theorem role_freed {p : ℕ} (h : ¬ p + 8 < 25) : iprop(cellP c (Ring.sl 8 p) ∗ ∃ f, slotP c (Ring.sl 8 p) f) ⊢ role c XA (p + 8) := by
  rw [role_ge c XA h, Ring.sl_add 8 p]
theorem nextTile_lt {p : ℕ} (h : p + 8 < 25) : nextTile c XA p ⊢ homeP c XA (Ring.bk 25 (p + 8)) := by
  unfold nextTile; rw [if_pos h]

/-- A tile's words as a slot's payload. -/
abbrev payload (b : Fin 25) : S1024x1280.Idx → Elt F .fp8e4m3 := ReadAs.same.apply ((tile b).view.read (Elt F) XA)
/-- The refill a trip issues, as the run states it: over the slot as the previous tile's copy left it. -/
theorem flightP_after (s : Fin 8) (b b' : Fin 25) :
    Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S1024x1280, payload c XA b'⟩, ⟨Rect.whole S1024x1280, payload c XA b⟩])
                ∗ homeP c XA b')
      ⊢ iprop(∃ f, flightP c XA s b' f) := by
  iintro H
  iexists ((rslot s).view.writes (Elt F) (rslot s).view.junk [⟨Rect.whole S1024x1280, payload c XA b⟩])
  simp only [flightP, landed, slotP, View.writes]
  iexact H

end Pieces

end Cert.KernelIdeal.Hand

end
-- ==== Proof.KernelIdeal.Rows.lean ====
module

public import proofs.«01_k».proof.Proof.KernelIdeal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## Row blocks of the table of exponentials and of the result -/

abbrev rowOff (g : Fin 8) : Fin 2 → Nat := ![8 * g.val, 0]
theorem rowOff_inb (g : Fin 8) : ∀ a, rowOff g a + S8x32000.size a ≤ S64x32000.size a := by
  have := g.isLt; intro a; fin_cases a
  · show 8 * g.val + 8 ≤ 64; omega
  · show 0 + 32000 ≤ 32000; omega
theorem bk8 (k : Fin k0_t2_loop.trips) : (Ring.bk 8 k.val).val = k.val := Ring.bk_val (NB := 8) k.isLt
instance (g : Fin 8) : ClosedOff (rowOff g) := ⟨![8 * g.val, 0], rfl⟩

/-- Rows `8 g …` of the table of exponentials, and of the result. -/
def prow (g : Fin 8) : Memref sig .tc .vmem S8x32000 .f32 :=
  pV.slice (Rect.unit (s := S64x32000) (rowOff g) S8x32000.size (rowOff_inb g)) (fun _ => rfl)
def trow (g : Fin 8) : Memref sig .tc .hbm S8x32000 .f32 :=
  targetH.slice (Rect.unit (s := S64x32000) (rowOff g) S8x32000.size (rowOff_inb g)) (fun _ => rfl)

theorem prow_congr {off : Fin 2 → Nat} {g : Fin 8} (e : off = rowOff g) (hh hs) :
    pV.slice (Rect.unit (s := S64x32000) off S8x32000.size hh) hs = prow g := by subst e; rfl
theorem trow_congr {off : Fin 2 → Nat} {g : Fin 8} (e : off = rowOff g) (hh hs) :
    targetH.slice (Rect.unit (s := S64x32000) off S8x32000.size hh) hs = trow g := by subst e; rfl

theorem off301_eq : ∀ k : Fin k0_t2_loop.trips, 0 < k.val → k0_off301 k = rowOff (Ring.bk 8 (k.val - 1)) := by decide +kernel
theorem cond2_eq : ∀ k : Fin k0_t2_loop.trips, 0 < k.val → k0_cond2 k = 1#1 := by decide +kernel
theorem cond2_ne : ∀ k : Fin k0_t2_loop.trips, ¬ 0 < k.val → ¬ k0_cond2 k = 1#1 := by decide +kernel

@[sl_canon] theorem prowI (k : Fin k0_t2_loop.trips) (hk : 0 < k.val) (hh hs) :
    pV.slice (Rect.unit (s := S64x32000) (k0_off301 k) S8x32000.size hh) hs = prow (Ring.bk 8 (k.val - 1)) := prow_congr (off301_eq k hk) _ _
@[sl_canon] theorem trowI (k : Fin k0_t2_loop.trips) (hk : 0 < k.val) (hh hs) :
    targetH.slice (Rect.unit (s := S64x32000) (k0_off301 k) S8x32000.size hh) hs = trow (Ring.bk 8 (k.val - 1)) := trow_congr (off301_eq k hk) _ _

section Norm
variable (c : Dev nD)

/-- A row block held, and the batch of the eight copies out. -/
abbrev prowR (n : ℕ) (hn : n < 8) (f : BufOf (F := F) c pV) : sProp 𝕄 :=
  pV.view.loc (c : Thread nD τ) ↦[pV.view.setOn (Rect.unit (s := S64x32000) ![8 * n, 0] S8x32000.size (rowOff_inb ⟨n, hn⟩)).toLoadRect.set]{fullShare} f
abbrev prowP (g : Fin 8) (f : BufOf (F := F) c pV) : sProp 𝕄 := (prow g).view.loc (c : Thread nD τ) ↦[(prow g).view.set]{fullShare} f
abbrev trowP (g : Fin 8) (f : BufOf (F := F) c targetH) : sProp 𝕄 := (trow g).view.loc (c : Thread nD τ) ↦[(trow g).view.set]{fullShare} f
abbrev outD (PF : Fin 8 → BufOf (F := F) c pV) (t : Fin 8) : sProp 𝕄 :=
  iprop(trowP c (Ring.bk 8 t.val) ((trow (Ring.bk 8 t.val)).view.writes (Elt F) (trow (Ring.bk 8 t.val)).view.junk
      [⟨Rect.whole S8x32000, ReadAs.same.apply ((prow (Ring.bk 8 t.val)).view.read (Elt F) (PF (Ring.bk 8 t.val)))⟩])
    ∗ prowP c (Ring.bk 8 t.val) (PF (Ring.bk 8 t.val)))
def osem : DmaSems sig S_ := (cc0_scratch12.slice (Rect.unit (s := S6) ![0] S1.size inb_S6_S1_0)).squeeze S_ squeezes_S1_S_
abbrev NB8 : ℕ := 32000
abbrev outB (PF : Fin 8 → BufOf (F := F) c pV) (j u : ℕ) : sProp 𝕄 :=
  Transfers.Batch countersEmb (c : Thread nD τ) (.dma ((cc0_scratch12.slice (Rect.unit (s := S6) ![0] S1.size inb_S6_S1_0)).squeeze S_ squeezes_S1_S_).sem) () NB8 (outD c PF) j u
theorem outB_congr (PF : Fin 8 → BufOf (F := F) c pV) {j j' u : ℕ} (h : j = j') : outB c PF j u ⊢ outB c PF j' u := by rw [h]

/-- The block of the trip before trip `n`, finished, and the rows of the result it goes to. -/
def prevP (PF : Fin 8 → BufOf (F := F) c pV) (ft : BufOf (F := F) c targetH) (n : ℕ) : sProp 𝕄 :=
  if 0 < n then iprop(prowP c (Ring.bk 8 (n - 1)) (PF (Ring.bk 8 (n - 1))) ∗ trowP c (Ring.bk 8 (n - 1)) ft) else iprop(emp)
theorem prevP_pos (PF : Fin 8 → BufOf (F := F) c pV) (ft : BufOf (F := F) c targetH) {n : ℕ} (h : 0 < n) :
    prevP c PF ft n ⊢ iprop(prowP c (Ring.bk 8 (n - 1)) (PF (Ring.bk 8 (n - 1))) ∗ trowP c (Ring.bk 8 (n - 1)) ft) := by
  unfold prevP; rw [if_pos h]

end Norm
end Cert.KernelIdeal.Hand

end
-- ==== Proof.KernelIdeal.Issue.lean ====
module

public import proofs.«01_k».proof.Proof.KernelIdeal.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Norm
variable (c : Dev nD)

/-- What a trip does after the arithmetic: from the second on, the copy out of the block before. -/
def normRest (k : Fin k0_t2_loop.trips) : Prog (TpuEff nD τ sig (Elt F) Λ₀ .tc) Unit := do
  if h : k0_cond2 k = 1#1 then do
    Prog.lift (.enqueueDma (pV.slice (Rect.unit (s := S64x32000) (k0_off301 k) S8x32000.size (k0_off301_inb k h)) (fun _ => rfl))
      (.here (targetH.slice (Rect.unit (s := S64x32000) (k0_off301 k) S8x32000.size (k0_off301_inb k h)) (fun _ => rfl)))
      (.dma ((cc0_scratch12.slice (Rect.unit (s := S6) ![0] S1.size inb_S6_S1_0)).squeeze S_ squeezes_S1_S_).sem)
      (View.wordExact_bits rfl) (View.wordExact_bits rfl) ⟨Or.inl rfl, trivial⟩)
    pure ⟨⟩
  else do
    pure ⟨⟩
  pure ⟨⟩

/-- That copy issued, into the batch of the eight. -/
theorem norm_issue (k : Fin k0_t2_loop.trips) (K : Unit → sProp 𝕄) (PF : Fin 8 → BufOf (F := F) c pV) (ft : BufOf (F := F) c targetH) :
    iprop(outB c PF (k.val - 1) 0 ∗ prevP c PF ft k.val ∗ (outB c PF k.val 0 -∗ K ()))
      ⊢ wp frame (wpE (defs₀ (F := F)) Variants.none c none) Set.univ (normRest k) K := by
  iintro ⟨HB, Hprev, Hk⟩
  unfold normRest
  rcases Nat.lt_or_ge 0 k.val with hk | hk
  · have h1 := cond2_eq k hk
    have hlt : k.val - 1 < 8 := by have := k.isLt; have e : k0_t2_loop.trips = 8 := rfl; omega
    ihave Hpt := (prevP_pos c PF ft hk) $$ [Hprev]
    · iexact Hprev
    icases Hpt with ⟨Hpr, Htr⟩
    sl_exec
    sl_step
    iapply Hk
    iapply (outB_congr c PF (show k.val - 1 + 1 = k.val by omega))
    iexact HB
  · have h1 := cond2_ne k (Nat.not_lt.mpr hk)
    sl_exec
    sl_step
    iapply Hk
    iapply (outB_congr c PF (show k.val - 1 = k.val by omega))
    iexact HB

end Norm
end Cert.KernelIdeal.Hand

end
-- ==== Proof.KernelIdeal.Norm.lean ====
module

public import proofs.«01_k».proof.Proof.KernelIdeal.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Norm
variable (c : Dev nD)
variable (v1165 : FVec F S8x128 .f32) (v1171 : FVec F S8 .f32)

abbrev normG (k : Fin k0_t2_loop.trips) : Prog (TpuEff nD τ sig (Elt F) Λ₀ .tc) Unit :=
  k0_t2_body (F := F) xH (Memref.isWhole_whole _) wH (Memref.isWhole_whole _) wsH (Memref.isWhole_whole _)
    targetH (Memref.isWhole_whole _) codesH (Memref.isWhole_whole _) scalesH (Memref.isWhole_whole _)
    xV (Memref.isWhole_whole _) codesV (Memref.isWhole_whole _) wV (Memref.isWhole_whole _) wsV (Memref.isWhole_whole _)
    pV (Memref.isWhole_whole _) mtV (Memref.isWhole_whole _) scaleV (Memref.isWhole_whole _) mV (Memref.isWhole_whole _)
    lV (Memref.isWhole_whole _) rowV (Memref.isWhole_whole _) cc0_scratch10 cc0_scratch11 cc0_scratch12
    v1165 v1171 k ()

def normRun (k : Fin k0_t2_loop.trips)
    (fp : BufOf (F := F) c pV) (fmt : BufOf (F := F) c mtV) (fm : BufOf (F := F) c mV) (fl : BufOf (F := F) c lV) :
    { G : BufOf (F := F) c pV //
      ∀ (K : Unit → sProp 𝕄),
        iprop(prowR c k.val k.isLt fp ∗ pt c mtV fmt ∗ pt c mV fm ∗ pt c lV fl
            ∗ (iprop(prowR c k.val k.isLt G ∗ pt c mtV fmt ∗ pt c mV fm ∗ pt c lV fl)
                -∗ wp frame (wpE (defs₀ (F := F)) Variants.none c none) Set.univ (normRest k) K))
          ⊢ wp frame (wpE (defs₀ (F := F)) Variants.none c none) Set.univ
              (normG v1165 v1171 k) K } := by
  refine ⟨?_, fun K => ?run⟩
  case run =>
    iintro ⟨Hp, Hmt, Hm, Hl, Hk⟩
    dsimp only [normG]
    sl_unfold [k0_t2_body]
    sl_exec
    iapply Hk
    isplitl [Hp]; · iexact Hp
    isplitl [Hmt]; · iexact Hmt
    isplitl [Hm]; · iexact Hm
    iexact Hl

end Norm
end Cert.KernelIdeal.Hand

end
-- ==== Proof.KernelIdeal.Split.lean ====
module

public import proofs.«01_k».proof.Proof.KernelIdeal.Rows

/-! The buffers a copy takes a part of, cut into those parts and put together again. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## The element sets: the tiles, the slots, the row blocks -/

abbrev GT (b : Fin 25) : Finset S1024x32000.Idx := (Rect.unit (s := S1024x32000) (tileOff b) S1024x1280.size (tileOff_inb b)).set
abbrev GS (s : Fin 8) : Finset S8x1024x1280.Idx := (Rect.unit (s := S8x1024x1280) (slotOff s) S1x1024x1280.size (slotOff_inb s)).set
abbrev GR (g : Fin 8) : Finset S64x32000.Idx := (Rect.unit (s := S64x32000) (rowOff g) S8x32000.size (rowOff_inb g)).set

theorem tile_set (b : Fin 25) : (tile b : Memref sig .tc .hbm _ _).view.set = GT b := View.set_slice_whole _ _
theorem rslot_set (s : Fin 8) : (rslot s : Memref sig .tc .vmem _ _).view.set = GS s := (View.set_reshape _ _).trans (View.set_slice_whole _ _)
theorem prow_set (g : Fin 8) : (prow g : Memref sig .tc .vmem _ _).view.set = GR g := View.set_slice_whole _ _
theorem trow_set (g : Fin 8) : (trow g : Memref sig .tc .hbm _ _).view.set = GR g := View.set_slice_whole _ _

theorem mem_GT (b : Fin 25) (y : S1024x32000.Idx) : y ∈ GT b ↔ (y 1).val / 1280 = b.val := by
  rw [Rect.mem_set_unit]
  have h0 : (y 0).val < 1024 := (y 0).isLt
  constructor
  · intro H; have a0 : 1280 * b.val ≤ (y 1).val ∧ (y 1).val < 1280 * b.val + 1280 := H 1; omega
  · intro H i; fin_cases i
    · show 0 ≤ (y 0).val ∧ (y 0).val < 0 + 1024; omega
    · show 1280 * b.val ≤ (y 1).val ∧ (y 1).val < 1280 * b.val + 1280; omega
theorem mem_GS (s : Fin 8) (y : S8x1024x1280.Idx) : y ∈ GS s ↔ (y 0).val = s.val := by
  rw [Rect.mem_set_unit]
  have h1 : (y 1).val < 1024 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1280; omega
theorem mem_GR (g : Fin 8) (y : S64x32000.Idx) : y ∈ GR g ↔ (y 0).val / 8 = g.val := by
  rw [Rect.mem_set_unit]
  have h1 : (y 1).val < 32000 := (y 1).isLt
  constructor
  · intro H; have a0 : 8 * g.val ≤ (y 0).val ∧ (y 0).val < 8 * g.val + 8 := H 0; omega
  · intro H i; fin_cases i
    · show 8 * g.val ≤ (y 0).val ∧ (y 0).val < 8 * g.val + 8; omega
    · show 0 ≤ (y 1).val ∧ (y 1).val < 0 + 32000; omega

theorem GT_disjoint : ∀ b b' : Fin 25, b ≠ b' → Disjoint (GT b) (GT b') := by
  intro b b' hne; rw [Finset.disjoint_left]; intro y hy hy'; rw [mem_GT] at hy hy'; exact hne (Fin.ext (hy.symm.trans hy'))
theorem GT_cover : (Finset.univ : Finset (Fin 25)).biUnion GT = Finset.univ := by
  ext y; simp only [Finset.mem_biUnion, Finset.mem_univ, true_and, iff_true]
  have h : (y 1).val < 32000 := (y 1).isLt
  exact ⟨⟨(y 1).val / 1280, by omega⟩, by rw [mem_GT]⟩
theorem GS_disjoint : ∀ b b' : Fin 8, b ≠ b' → Disjoint (GS b) (GS b') := by
  intro b b' hne; rw [Finset.disjoint_left]; intro y hy hy'; rw [mem_GS] at hy hy'; exact hne (Fin.ext (hy.symm.trans hy'))
theorem GS_cover : (Finset.univ : Finset (Fin 8)).biUnion GS = Finset.univ := by
  ext y; simp only [Finset.mem_biUnion, Finset.mem_univ, true_and, iff_true]; exact ⟨(y 0).cast (by decide), by rw [mem_GS]; rfl⟩
theorem GR_disjoint : ∀ b b' : Fin 8, b ≠ b' → Disjoint (GR b) (GR b') := by
  intro b b' hne; rw [Finset.disjoint_left]; intro y hy hy'; rw [mem_GR] at hy hy'; exact hne (Fin.ext (hy.symm.trans hy'))
theorem GR_cover : (Finset.univ : Finset (Fin 8)).biUnion GR = Finset.univ := by
  ext y; simp only [Finset.mem_biUnion, Finset.mem_univ, true_and, iff_true]
  have h : (y 0).val < 64 := (y 0).isLt
  exact ⟨⟨(y 0).val / 8, by omega⟩, by rw [mem_GR]⟩

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Parts
variable (c : Dev nD)

/-- The head matrix whole is its 25 tiles; -/
theorem w_eq (f : BufOf (F := F) c wH) : pt c wH f = bigSep Finset.univ (homeP c f) := by
  show (((c : Thread nD τ).loc main_arg1) ↦{fullShare} f : sProp 𝕄) = _
  rw [Ring.pointsTo_blocks (ℓ := (c : Thread nD τ).loc main_arg1) GT GT_disjoint GT_cover]
  exact bigSep_congr fun b _ => by rw [← tile_set]; rfl
/-- before the first trip, the first eight of them apart. -/
theorem homes_zero (f : BufOf (F := F) c wH) :
    bigSep Finset.univ (homeP c f) = iprop(homeP c f 0 ∗ homeP c f 1 ∗ homeP c f 2 ∗ homeP c f 3 ∗ homeP c f 4 ∗ homeP c f 5 ∗ homeP c f 6 ∗ homeP c f 7
      ∗ bigSep (Ring.homeSet 8 0) (homeP c f)) := by
  have e : (Finset.univ : Finset (Fin 25)) = insert 0 (insert 1 (insert 2 (insert 3 (insert 4 (insert 5 (insert 6 (insert 7 (Ring.homeSet (NB := 25) 8 0)))))))) := by decide
  rw [e, bigSep_insert (by decide), bigSep_insert (by decide), bigSep_insert (by decide), bigSep_insert (by decide),
    bigSep_insert (by decide), bigSep_insert (by decide), bigSep_insert (by decide), bigSep_insert (by decide)]; rfl

theorem slotP_eq (s : Fin 8) (f) : slotP (F := F) c s f = (((c : Thread nD τ).loc cc0_scratch2) ↦[GS s]{fullShare} f : sProp 𝕄) :=
  congrArg (fun S => (_ ↦[S]{fullShare} f : sProp 𝕄)) (rslot_set s)
/-- The ring's buffer whole is its eight slots, and back. -/
theorem ring_split (f : BufOf (F := F) c wV) :
    pt c wV f ⊢ iprop(slotP c 0 f ∗ slotP c 1 f ∗ slotP c 2 f ∗ slotP c 3 f ∗ slotP c 4 f ∗ slotP c 5 f ∗ slotP c 6 f ∗ slotP c 7 f) := by
  refine (Entails.of_eq (Ring.pointsTo_blocks (ℓ := (c : Thread nD τ).loc cc0_scratch2) GS GS_disjoint GS_cover f)).trans ?_
  rw [bigSep_congr (fun s _ => (slotP_eq c s f).symm), bigSep_fin8]
theorem ring_join :
    iprop((∃ f, slotP (F := F) c 0 f) ∗ (∃ f, slotP c 1 f) ∗ (∃ f, slotP c 2 f) ∗ (∃ f, slotP c 3 f) ∗ (∃ f, slotP c 4 f) ∗ (∃ f, slotP c 5 f)
        ∗ (∃ f, slotP c 6 f) ∗ (∃ f, slotP c 7 f))
      ⊢ (iprop(∃ f, pt c wV f) : sProp 𝕄) := by
  have h : bigSep Finset.univ (fun s : Fin 8 => iprop(∃ f, slotP (F := F) c s f)) ⊢ (iprop(∃ f, pt c wV f) : sProp 𝕄) := by
    iintro H
    ihave H2 := (Entails.of_eq (bigSep_congr (fun (s : Fin 8) _ => congrArg (fun Φ => iprop(∃ f, Φ f)) (funext fun f => slotP_eq (F := F) c s f)))) $$ [H]
    · iexact H
    iapply (Ring.pointsTo_blocks_join_exists (ℓ := (c : Thread nD τ).loc cc0_scratch2) GS GS_disjoint GS_cover (fun _ => Classical.choice inferInstance))
    iexact H2
  rw [bigSep_fin8] at h
  exact h

/-- The table of exponentials whole is its eight row blocks, and back; -/
theorem p_eq (f : BufOf (F := F) c pV) : pt c pV f = bigSep Finset.univ (fun b : Fin 8 => prowP c b f) := by
  show (((c : Thread nD τ).loc cc0_scratch4) ↦{fullShare} f : sProp 𝕄) = _
  rw [Ring.pointsTo_blocks (ℓ := (c : Thread nD τ).loc cc0_scratch4) GR GR_disjoint GR_cover]
  exact bigSep_congr fun b _ => by rw [← prow_set]; rfl
theorem p_join (PF : Fin 8 → BufOf (F := F) c pV) : bigSep Finset.univ (fun b : Fin 8 => prowP c b (PF b)) ⊢ (iprop(∃ f, pt c pV f) : sProp 𝕄) := by
  rw [bigSep_congr (fun (b : Fin 8) _ => show prowP c b (PF b) = (((c : Thread nD τ).loc cc0_scratch4) ↦[GR b]{fullShare} PF b : sProp 𝕄) from
    congrArg (fun S => (_ ↦[S]{fullShare} PF b : sProp 𝕄)) (prow_set b))]
  exact Ring.pointsTo_blocks_join (ℓ := (c : Thread nD τ).loc cc0_scratch4) GR GR_disjoint GR_cover PF (PF 0)

/-- and the result's. -/
theorem target_eq (f : BufOf (F := F) c targetH) : pt c targetH f = bigSep Finset.univ (fun b : Fin 8 => trowP c b f) := by
  show (((c : Thread nD τ).loc main_v2_0) ↦{fullShare} f : sProp 𝕄) = _
  rw [Ring.pointsTo_blocks (ℓ := (c : Thread nD τ).loc main_v2_0) GR GR_disjoint GR_cover]
  exact bigSep_congr fun b _ => by rw [← trow_set]; rfl
/-- What the copies out leave in the result: row block `b` of it is row block `b` of `PF b`. -/
def targetOf (PF : Fin 8 → BufOf (F := F) c pV) : BufOf (F := F) c targetH :=
  fun (i : S64x32000.Idx) => (PF ⟨(i 0).val / 8, by have h : (i 0).val < 64 := (i 0).isLt; omega⟩ : S64x32000.Idx → Elt F .f32) i

end Parts
end Cert.KernelIdeal.Hand

end
-- ==== Proof.KernelIdeal.Loop2.lean ====
module

public import proofs.«01_k».proof.Proof.KernelIdeal.Norm
public import proofs.«01_k».proof.Proof.KernelIdeal.Split

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Loop2

variable (c : Dev nD) (v1165 : FVec F S8x128 .f32) (v1171 : FVec F S8 .f32)
  (fp : BufOf (F := F) c pV) (fmt : BufOf (F := F) c mtV) (fm : BufOf (F := F) c mV) (fl : BufOf (F := F) c lV)
  (ft : BufOf (F := F) c targetH)

theorem trips8 : k0_t2_loop.trips = 8 := rfl

/-- Row block `b` of the table of exponentials, normalised. -/
def finalRows (b : Fin 8) : BufOf (F := F) c pV := (normRun c v1165 v1171 (b.cast trips8.symm) fp fmt fm fl).1

theorem prowR_eq (b : Fin 8) (f : BufOf (F := F) c pV) : prowR c b.val b.isLt f = prowP c b f := by
  have e : pV.view.setOn (Rect.unit (s := S64x32000) ![8 * b.val, 0] S8x32000.size (rowOff_inb ⟨b.val, b.isLt⟩)).toLoadRect.set = (prow b).view.set := by
    unfold prow; exact (View.set_slice _ _).symm
  unfold prowR prowP
  rw [e]; rfl

theorem bk8_eq (k : Fin 8) : Ring.bk 8 k.val = k := Fin.ext (Ring.bk_val (NB := 8) k.isLt)

/-- The normalisation loop's invariant before trip `k`: of the eight copies out, those of the trips before the last issued. -/
def inv2 (k : ℕ) (_ : Unit) : sProp 𝕄 :=
  iprop(outB c (finalRows c v1165 v1171 fp fmt fm fl) (k - 1) 0 ∗ pt c mtV fmt ∗ pt c mV fm ∗ pt c lV fl
    ∗ bigSep (Ring.rangeSet 8 k 8) (fun b => prowR c b.val b.isLt fp) ∗ bigSep (Ring.rangeSet 8 k 8) (fun b => trowP c b ft)
    ∗ prevP c (finalRows c v1165 v1171 fp fmt fm fl) ft k)

theorem inv2_step (k : Fin k0_t2_loop.trips) (acc : Unit) :
    inv2 c v1165 v1171 fp fmt fm fl ft k.val acc
      ⊢ wp frame (wpE (defs₀ (F := F)) Variants.none c none) Set.univ (normG v1165 v1171 k)
          (inv2 c v1165 v1171 fp fmt fm fl ft (k.val + 1)) := by
  have hk : k.val < 8 := k.isLt
  unfold inv2
  rw [Ring.bigSep_rangeSet_head (Φ := fun b => prowR c b.val b.isLt fp) hk hk, Ring.bigSep_rangeSet_head (Φ := fun b => trowP c b ft) hk hk]
  iintro ⟨HB, Hmt, Hm, Hl, ⟨Hp, Hps⟩, ⟨Ht, Hts⟩, Hprev⟩
  iapply ((normRun c v1165 v1171 k fp fmt fm fl).2 _)
  isplitl [Hp]; · iexact Hp
  isplitl [Hmt]; · iexact Hmt
  isplitl [Hm]; · iexact Hm
  isplitl [Hl]; · iexact Hl
  iintro ⟨Hp, Hmt, Hm, Hl⟩
  iapply (norm_issue c k _ (finalRows c v1165 v1171 fp fmt fm fl) ft)
  isplitl [HB]; · iexact HB
  isplitl [Hprev]; · iexact Hprev
  iintro HB
  isplitl [HB]; · iexact HB
  isplitl [Hmt]; · iexact Hmt
  isplitl [Hm]; · iexact Hm
  isplitl [Hl]; · iexact Hl
  isplitl [Hps]; · iexact Hps
  isplitl [Hts]; · iexact Hts
  unfold prevP
  irw [if_pos (Nat.succ_pos k.val), Nat.add_sub_cancel, bk8_eq ⟨k.val, hk⟩]
  isplitl [Hp]
  · iapply (Entails.of_eq (prowR_eq c ⟨k.val, hk⟩ _))
    iexact Hp
  iexact Ht

theorem held_storable (ℓ : Loc nD τ sig) (S) (f) : BI.Storable (upEmb : UEmb _ 𝕄) (ℓ ↦[S]{fullShare} f) := by infer_instance
theorem sep_storable (P Q : sProp 𝕄) (hP : BI.Storable (upEmb : UEmb _ 𝕄) P) (hQ : BI.Storable (upEmb : UEmb _ 𝕄) Q) :
    BI.Storable (upEmb : UEmb _ 𝕄) iprop(P ∗ Q) := by infer_instance
instance outD_storable (PF : Fin 8 → BufOf (F := F) c pV) (t : Fin 8) : BI.Storable (upEmb : UEmb _ 𝕄) (outD c PF t) :=
  sep_storable _ _ (held_storable _ _ _) (held_storable _ _ _)

/-- The normalisation loop's entry: the batch of the eight copies allocated, the two buffers cut into row blocks. -/
theorem inv2_start :
    iprop(semVal ((c : Thread nD τ), SemLoc.dma ((cc0_scratch12.slice (Rect.unit (s := S6) ![0] S1.size inb_S6_S1_0)).squeeze S_ squeezes_S1_S_).sem) 0
        ∗ pt c mtV fmt ∗ pt c mV fm ∗ pt c lV fl ∗ pt c pV fp ∗ pt c targetH ft)
      ⊢ (|={Set.univ}=> inv2 c v1165 v1171 fp fmt fm fl ft 0 () : sProp 𝕄) := by
  iintro ⟨Hc, Hmt, Hm, Hl, Hp, Ht⟩
  haveI := outD_storable c (finalRows c v1165 v1171 fp fmt fm fl)
  imod (Transfers.batch_alloc' (Lvl := ℕ) countersEmb (c : Thread nD τ) () NB8 (outD c (finalRows c v1165 v1171 fp fmt fm fl))
    (sm := .dma ((cc0_scratch12.slice (Rect.unit (s := S6) ![0] S1.size inb_S6_S1_0)).squeeze S_ squeezes_S1_S_).sem) (E := Set.univ)) $$ Hc with HB
  imodintro
  unfold inv2 prevP
  irw [Ring.rangeSet_univ, if_neg (Nat.lt_irrefl 0)]
  isplitl [HB]; · iexact HB
  isplitl [Hmt]; · iexact Hmt
  isplitl [Hm]; · iexact Hm
  isplitl [Hl]; · iexact Hl
  isplitl [Hp]
  · iapply (Entails.of_eq ((p_eq c fp).trans (bigSep_congr fun b _ => (prowR_eq c b fp).symm)))
    iexact Hp
  isplitl [Ht]
  · iapply (Entails.of_eq (target_eq c ft))
    iexact Ht
  iempintro

/-- Its exit: the last block still to be copied. -/
theorem inv2_end (acc : Unit) :
    inv2 c v1165 v1171 fp fmt fm fl ft k0_t2_loop.trips acc
      ⊢ iprop(outB c (finalRows c v1165 v1171 fp fmt fm fl) 7 0 ∗ pt c mtV fmt ∗ pt c mV fm ∗ pt c lV fl
          ∗ prowP c (Ring.bk 8 7) (finalRows c v1165 v1171 fp fmt fm fl (Ring.bk 8 7)) ∗ trowP c (Ring.bk 8 7) ft) := by
  unfold inv2
  iintro ⟨HB, Hmt, Hm, Hl, -, -, Hprev⟩
  isplitl [HB]; · iexact HB
  isplitl [Hmt]; · iexact Hmt
  isplitl [Hm]; · iexact Hm
  isplitl [Hl]; · iexact Hl
  iapply (prevP_pos c (finalRows c v1165 v1171 fp fmt fm fl) ft (n := 8) (by decide))
  iexact Hprev

end Loop2
end Cert.KernelIdeal.Hand

end
-- ==== Proof.KernelIdeal.Out.lean ====
module

public import proofs.«01_k».proof.Proof.KernelIdeal.Loop2

/-! The eight copies out, joined: the whole result, and the table they were copied from. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable (c : Dev nD)

theorem writes_whole_agree {sp : Space} {s : Shape} {e : EltTy} (v : View sig .tc sp s e) (f g : v.ty.Contents (Elt F)) (p : s.Idx → Elt F e)
    (h : v.read (Elt F) g = p) : ∀ i ∈ v.set, v.writes (Elt F) f [⟨Rect.whole s, p⟩] i = g i := by
  intro i hi
  obtain ⟨x, -, rfl⟩ := Finset.mem_map.mp hi
  have h2 := congrFun ((View.read_writes_whole (Val := Elt F) v f p).trans h.symm) x
  rw [View.read_apply, View.read_apply] at h2
  exact (cast_inj _).mp h2

theorem targetOf_read (PF : Fin 8 → BufOf (F := F) c pV) (b : Fin 8) :
    (trow b).view.read (Elt F) (targetOf c PF) = (prow b).view.read (Elt F) (PF b) := by
  funext x
  have key : ∀ i : S64x32000.Idx, (i 0).val / 8 = b.val → (targetOf c PF : S64x32000.Idx → Elt F .f32) i = (PF b : S64x32000.Idx → Elt F .f32) i := fun i hm => by
    have hlt : (i 0).val < 64 := (i 0).isLt
    have e : (⟨(i 0).val / 8, by omega⟩ : Fin 8) = b := Fin.ext hm
    show (PF ⟨(i 0).val / 8, by omega⟩ : S64x32000.Idx → Elt F .f32) i = _
    rw [e]
  have hx0 : (x 0).val < 8 := (x 0).isLt
  have h0 : (((Rect.unit (s := S64x32000) (rowOff b) S8x32000.size (rowOff_inb b)).emb x : S64x32000.Idx) 0).val / 8 = b.val := by
    show (8 * b.val + 1 * (x 0).val) / 8 = b.val
    omega
  exact key ((Rect.unit (s := S64x32000) (rowOff b) S8x32000.size (rowOff_inb b)).emb x) h0

/-- A row block of the result after its copy is that block of the joined result. -/
theorem trow_out (PF : Fin 8 → BufOf (F := F) c pV) (b : Fin 8) :
    trowP c b ((trow b).view.writes (Elt F) (trow b).view.junk [⟨Rect.whole S8x32000, ReadAs.same.apply ((prow b).view.read (Elt F) (PF b))⟩])
      = trowP c b (targetOf c PF) :=
  pointsTo_congr (writes_whole_agree (trow b).view _ (targetOf c PF) _ (targetOf_read c PF b))

theorem out_join (PF : Fin 8 → BufOf (F := F) c pV) :
    bigSep Finset.univ (outD c PF) ⊢ (iprop(pt c targetH (targetOf c PF) ∗ (∃ f, pt c pV f)) : sProp 𝕄) := by
  have e : bigSep Finset.univ (outD c PF) = bigSep Finset.univ (fun b : Fin 8 => (iprop(trowP c b (targetOf c PF) ∗ prowP c b (PF b)) : sProp 𝕄)) :=
    bigSep_congr fun t _ => by
      show (iprop(trowP c (Ring.bk 8 t.val) _ ∗ prowP c (Ring.bk 8 t.val) _) : sProp 𝕄) = _
      rw [trow_out, bk8_eq]
  rw [e]
  refine (Entails.of_eq (BI.bigSep_sep Finset.univ (fun b : Fin 8 => (trowP c b (targetOf c PF) : sProp 𝕄)) (fun b : Fin 8 => prowP c b (PF b)))).trans ?_
  exact BI.sep_mono (Entails.of_eq (target_eq c _).symm) (p_join c PF)

end Cert.KernelIdeal.Hand

end
-- ==== Proof.KernelIdeal.Trip.lean ====
module

public import proofs.«01_k».proof.Proof.KernelIdeal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Trip

variable (c : Dev nD)
  (v0 : IVec S8x128 32) (v1 : IVec S8x128 32) (v962 v963 v964 v969 v974 v979 v984 v989 : Vec F S8x128 .f32) (v992 : IVec S8x128 1) (cst : F .f32)

/-- The region of the tile loop's trip `k`. -/
abbrev tripG (k : Fin k0_t1_loop.trips) : Prog (TpuEff nD τ sig (Elt F) Λ₀ .tc) Unit :=
  k0_t1_body (F := F) xH (Memref.isWhole_whole _) wH (Memref.isWhole_whole _) wsH (Memref.isWhole_whole _)
    targetH (Memref.isWhole_whole _) codesH (Memref.isWhole_whole _) scalesH (Memref.isWhole_whole _)
    xV (Memref.isWhole_whole _) codesV (Memref.isWhole_whole _) wV (Memref.isWhole_whole _) wsV (Memref.isWhole_whole _)
    pV (Memref.isWhole_whole _) mtV (Memref.isWhole_whole _) scaleV (Memref.isWhole_whole _) mV (Memref.isWhole_whole _)
    lV (Memref.isWhole_whole _) rowV (Memref.isWhole_whole _) cc0_scratch10 cc0_scratch11 cc0_scratch12
    v0 v1 v962 v963 v964 v969 v974 v979 v984 v989 v992 cst k ()

variable (XA : BufOf (F := F) c wH) (q : BufOf (F := F) c codesV) (ws : BufOf (F := F) c wsV) (sc : BufOf (F := F) c scaleV)

/-- One trip of the tile loop: its tile awaited and multiplied, its slot refilled if a tile is left; what it leaves in the
    tile of exponentials, the table of maxima, the running maxima and the running sums. -/
def tripRun (k : Fin k0_t1_loop.trips)
    (fp : BufOf (F := F) c pV) (fmt : BufOf (F := F) c mtV) (fm : BufOf (F := F) c mV) (fl : BufOf (F := F) c lV) :
    { G : BufOf (F := F) c pV × BufOf (F := F) c mtV × BufOf (F := F) c mV × BufOf (F := F) c lV //
      ∀ (K : Unit → sProp 𝕄),
        iprop(role c XA k.val ∗ nextTile c XA k.val
            ∗ pt c codesV q ∗ pt c wsV ws ∗ pt c scaleV sc ∗ pt c pV fp ∗ pt c mtV fmt ∗ pt c mV fm ∗ pt c lV fl
            ∗ (∃ W, owes (c : Thread nD τ) 0 W)
            ∗ (iprop(role c XA (k.val + 8) ∗ homeP c XA (Ring.bk 25 k.val)
                ∗ pt c codesV q ∗ pt c wsV ws ∗ pt c scaleV sc ∗ pt c pV G.1 ∗ pt c mtV G.2.1 ∗ pt c mV G.2.2.1 ∗ pt c lV G.2.2.2
                ∗ (∃ W, owes (c : Thread nD τ) 0 W)) -∗ K ()))
          ⊢ wp frame (wpE (defs₀ (F := F)) Variants.none c none) Set.univ
              (tripG v0 v1 v962 v963 v964 v969 v974 v979 v984 v989 v992 cst k) K } := by
  refine ⟨(?_, ?_, ?_, ?_), fun K => ?run⟩
  case run =>
    have hk25 : k.val < 25 := k.isLt
    rw [role_lt c XA hk25]
    iintro ⟨⟨%f, HF⟩, Hn, Hq, Hws, Hsc, Hp, Hmt, Hm, Hl, ⟨%W, HW⟩, Hk⟩
    dsimp only [tripG]
    sl_unfold [k0_t1_body]
    sl_exec
    rcases Nat.lt_or_ge (k.val + 8) 25 with hk | hk
    · have h1 := cond1_eq k hk
      ihave Hn := (nextTile_lt c XA hk) $$ [Hn]
      · iexact Hn
      sl_exec
      sl_step
      iapply Hk
      isplitl [HF]
      · iapply (role_refilled c XA hk)
        iapply (flightP_after c XA (Ring.sl 8 k.val) (Ring.bk 25 k.val) (Ring.bk 25 (k.val + 8)))
        iexact HF
      isplitl [HF_src]; · iexact HF_src
      isplitl [Hq]; · iexact Hq
      isplitl [Hws]; · iexact Hws
      isplitl [Hsc]; · iexact Hsc
      isplitl [Hp]; · iexact Hp
      isplitl [Hmt]; · iexact Hmt
      isplitl [Hm]; · iexact Hm
      isplitl [Hl]; · iexact Hl
      iexists _; iexact HW
    · have h1 := cond1_ne k hk
      sl_exec
      sl_step
      iapply Hk
      isplitl [HF HF_dst]
      · iapply (role_freed c XA (Nat.not_lt.mpr hk))
        isplitl [HF]; · iexact HF
        iexists _; iexact HF_dst
      isplitl [HF_src]; · iexact HF_src
      isplitl [Hq]; · iexact Hq
      isplitl [Hws]; · iexact Hws
      isplitl [Hsc]; · iexact Hsc
      isplitl [Hp]; · iexact Hp
      isplitl [Hmt]; · iexact Hmt
      isplitl [Hm]; · iexact Hm
      isplitl [Hl]; · iexact Hl
      iexists _; iexact HW

end Trip

end Cert.KernelIdeal.Hand

end
-- ==== Proof.KernelIdeal.Loop1.lean ====
module

public import proofs.«01_k».proof.Proof.KernelIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Loop1

variable (c : Dev nD)
  (v0 : IVec S8x128 32) (v1 : IVec S8x128 32) (v962 v963 v964 v969 v974 v979 v984 v989 : Vec F S8x128 .f32) (v992 : IVec S8x128 1) (cst : F .f32)

variable (XA : BufOf (F := F) c wH) (q : BufOf (F := F) c codesV) (ws : BufOf (F := F) c wsV) (sc : BufOf (F := F) c scaleV)

/-- The tiles at home that trip `p` leaves alone. -/
def restTiles (p : ℕ) : sProp 𝕄 :=
  if p + 8 < 25 then bigSep ((Ring.homeSet 8 p).erase (Ring.bk 25 (p + 8))) (homeP c XA) else bigSep (Ring.homeSet 8 p) (homeP c XA)
/-- Before trip `p` the tile it sends out is apart from those; -/
theorem homes_before (p : ℕ) : bigSep (Ring.homeSet 8 p) (homeP c XA) ⊢ iprop(nextTile c XA p ∗ restTiles c XA p) := by
  unfold nextTile restTiles
  by_cases h : p + 8 < 25
  · rw [if_pos h, if_pos h, Ring.homeSet_out 8 p h, BI.bigSep_insert (Ring.bkL_not_mem_erase 8 p), ← Ring.homeSet_out 8 p h]; exact .rfl
  · rw [if_neg h, if_neg h]; iintro H; isplitr
    · iempintro
    · iexact H
/-- after it the tile it used is with them. -/
theorem homes_after (p : ℕ) (hp : p < 25) : iprop(homeP c XA (Ring.bk 25 p) ∗ restTiles c XA p) ⊢ bigSep (Ring.homeSet 8 (p + 1)) (homeP c XA) := by
  unfold restTiles
  by_cases h : p + 8 < 25
  · rw [if_pos h, Ring.homeSet_succ 8 p h, BI.bigSep_insert (Ring.bk_not_mem_erase 8 p hp (by decide))]; exact .rfl
  · rw [if_neg h, Ring.homeSet_succ_tail 8 p (by omega) hp, BI.bigSep_insert (Ring.bk_not_mem_homeSet 8 p hp (by decide))]; exact .rfl

/-- The ring before trip `p`: what its trip finds, and the seven after it. -/
def ringP (p : ℕ) : sProp 𝕄 :=
  iprop(role c XA p ∗ role c XA (p + 1) ∗ role c XA (p + 2) ∗ role c XA (p + 3) ∗ role c XA (p + 4) ∗ role c XA (p + 5) ∗ role c XA (p + 6) ∗ role c XA (p + 7))

abbrev TabsT : Type := BufOf (F := F) c pV × BufOf (F := F) c mtV × BufOf (F := F) c mV × BufOf (F := F) c lV

/-- The four tables before trip `k`, from their contents `S0` at the loop's entry. -/
def tabs (S0 : TabsT (F := F) c) : ℕ → TabsT (F := F) c
  | 0 => S0
  | k + 1 =>
    if h : k < k0_t1_loop.trips then
      (tripRun c v0 v1 v962 v963 v964 v969 v974 v979 v984 v989 v992 cst XA q ws sc ⟨k, h⟩ (tabs S0 k).1 (tabs S0 k).2.1 (tabs S0 k).2.2.1 (tabs S0 k).2.2.2).1
    else tabs S0 k

theorem tabs_succ (S0 : TabsT (F := F) c) (k : Fin k0_t1_loop.trips) :
    tabs c v0 v1 v962 v963 v964 v969 v974 v979 v984 v989 v992 cst XA q ws sc S0 (k.val + 1)
      = (tripRun c v0 v1 v962 v963 v964 v969 v974 v979 v984 v989 v992 cst XA q ws sc k
          (tabs c v0 v1 v962 v963 v964 v969 v974 v979 v984 v989 v992 cst XA q ws sc S0 k.val).1
          (tabs c v0 v1 v962 v963 v964 v969 v974 v979 v984 v989 v992 cst XA q ws sc S0 k.val).2.1
          (tabs c v0 v1 v962 v963 v964 v969 v974 v979 v984 v989 v992 cst XA q ws sc S0 k.val).2.2.1
          (tabs c v0 v1 v962 v963 v964 v969 v974 v979 v984 v989 v992 cst XA q ws sc S0 k.val).2.2.2).1 := by
  rw [tabs, dif_pos k.isLt]

/-- The tile loop's invariant before trip `k`. -/
def inv1 (S0 : TabsT (F := F) c) (k : ℕ) (_ : Unit) : sProp 𝕄 :=
  iprop(ringP c XA k ∗ bigSep (Ring.homeSet 8 k) (homeP c XA) ∗ pt c codesV q ∗ pt c wsV ws ∗ pt c scaleV sc
    ∗ pt c pV (tabs c v0 v1 v962 v963 v964 v969 v974 v979 v984 v989 v992 cst XA q ws sc S0 k).1
    ∗ pt c mtV (tabs c v0 v1 v962 v963 v964 v969 v974 v979 v984 v989 v992 cst XA q ws sc S0 k).2.1
    ∗ pt c mV (tabs c v0 v1 v962 v963 v964 v969 v974 v979 v984 v989 v992 cst XA q ws sc S0 k).2.2.1
    ∗ pt c lV (tabs c v0 v1 v962 v963 v964 v969 v974 v979 v984 v989 v992 cst XA q ws sc S0 k).2.2.2
    ∗ (∃ W, owes (c : Thread nD τ) 0 W))

theorem inv1_step (S0 : TabsT (F := F) c) (k : Fin k0_t1_loop.trips) (acc : Unit) :
    inv1 c v0 v1 v962 v963 v964 v969 v974 v979 v984 v989 v992 cst XA q ws sc S0 k.val acc
      ⊢ wp frame (wpE (defs₀ (F := F)) Variants.none c none) Set.univ
          (tripG v0 v1 v962 v963 v964 v969 v974 v979 v984 v989 v992 cst k)
          (inv1 c v0 v1 v962 v963 v964 v969 v974 v979 v984 v989 v992 cst XA q ws sc S0 (k.val + 1)) := by
  have e := tabs_succ c v0 v1 v962 v963 v964 v969 v974 v979 v984 v989 v992 cst XA q ws sc S0 k
  unfold inv1 ringP
  rw [e]
  iintro ⟨⟨H0, H1, H2, H3, H4, H5, H6, H7⟩, Hh, Hq, Hws, Hsc, Hp, Hmt, Hm, Hl, HW⟩
  ihave Hh2 := (homes_before c XA k.val) $$ [Hh]
  · iexact Hh
  icases Hh2 with ⟨Hn, Hr⟩
  iapply ((tripRun c v0 v1 v962 v963 v964 v969 v974 v979 v984 v989 v992 cst XA q ws sc k _ _ _ _).2 _)
  isplitl [H0]; · iexact H0
  isplitl [Hn]; · iexact Hn
  isplitl [Hq]; · iexact Hq
  isplitl [Hws]; · iexact Hws
  isplitl [Hsc]; · iexact Hsc
  isplitl [Hp]; · iexact Hp
  isplitl [Hmt]; · iexact Hmt
  isplitl [Hm]; · iexact Hm
  isplitl [Hl]; · iexact Hl
  isplitl [HW]; · iexact HW
  iintro ⟨H8, Hb, Hq, Hws, Hsc, Hp, Hmt, Hm, Hl, HW⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hb Hr]
  · iapply (homes_after c XA k.val k.isLt)
    isplitl [Hb]; · iexact Hb
    iexact Hr
  isplitl [Hq]; · iexact Hq
  isplitl [Hws]; · iexact Hws
  isplitl [Hsc]; · iexact Hsc
  isplitl [Hp]; · iexact Hp
  isplitl [Hmt]; · iexact Hmt
  isplitl [Hm]; · iexact Hm
  isplitl [Hl]; · iexact Hl
  iexact HW

end Loop1
end Cert.KernelIdeal.Hand

end
-- ==== Proof.KernelIdeal.TripVal.lean ====
module

public import proofs.«01_k».proof.Proof.KernelIdeal.Loop1
import all proofs.«01_k».proof.Proof.KernelIdeal.Trip

/-! One trip of the tile loop as plain functions of what it loads: group `g` of eight rows, column block `j` of ten. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-! ## The arithmetic of a group -/

theorem slice_inb (g : Fin 8) (j : Fin 10) : S64x1280.Slices ![8 * g.val, 128 * j.val] S8x128 := by revert g j; decide
theorem row_inb (g : Fin 8) : ∀ a, (![8 * g.val, 0] : Fin 2 → ℕ) a + S8x128.size a ≤ S64x128.size a := by revert g; decide

/-- The scaled logits of group `g` in column block `j`. -/
def logitOf (acc : FVec F S64x1280 .f32) (xs : Fin 8 → Vec F S8x128 .f32) (ks : Fin 10 → FVec F S1x128 .f32) (g : Fin 8) (j : Fin 10) : FVec F S8x128 .f32 :=
  mulf (mulf (extractStridedSlice S8x128 ![8 * g.val, 128 * j.val] acc (slice_inb g j)) (xs g)) (broadcastTo S8x128 (ks j) broadcasts_S1x128_S8x128)
/-- The running maximum after the ten blocks. -/
def maxOf (m : FVec F S8x128 .f32) (l : Fin 10 → FVec F S8x128 .f32) : FVec F S8x128 .f32 :=
  maximumf (maximumf (maximumf (maximumf (maximumf (maximumf (maximumf (maximumf (maximumf (maximumf m (l 0)) (l 1)) (l 2)) (l 3)) (l 4)) (l 5)) (l 6)) (l 7)) (l 8)) (l 9)
/-- The exponentials. -/
def expOf' (m : FVec F S8x128 .f32) (l : Fin 10 → FVec F S8x128 .f32) (j : Fin 10) : FVec F S8x128 .f32 := exp2 (subf (l j) m)
/-- The running sum after them. -/
def sumOf (s m m' : FVec F S8x128 .f32) (e : Fin 10 → FVec F S8x128 .f32) : FVec F S8x128 .f32 :=
  addf (mulf s (exp2 (subf m m'))) (addf (addf (addf (addf (e 0) (e 1)) (addf (e 2) (e 3))) (addf (addf (e 4) (e 5)) (addf (e 6) (e 7)))) (addf (e 8) (e 9)))

/-! ## The places it stores to -/

def pCol (k : Fin k0_t1_loop.trips) (j : Fin 10) : ℕ :=
  (Scalar.indexCast (Scalar.addi (Scalar.muli (Scalar.addi 0#32 (Scalar.muli (Scf.iv 0#32 1#32 k) 1#32)) 1280#32) (BitVec.ofNat 32 (128 * j.val)))).toNat
theorem pCol_eq : ∀ k j, pCol k j = 1280 * k.val + 128 * j.val := by decide +kernel
abbrev pOff (k : Fin k0_t1_loop.trips) (g : Fin 8) (j : Fin 10) : Fin 2 → ℕ := ![8 * g.val, pCol k j]
theorem pOff_inb (k : Fin k0_t1_loop.trips) (g : Fin 8) (j : Fin 10) : ∀ a, pOff k g j a + S8x128.size a ≤ S64x32000.size a := by
  have h1 := pCol_eq k j; have h2 := k.isLt; have h3 : k0_t1_loop.trips = 25 := rfl; have h4 := j.isLt; have h5 := g.isLt
  intro a; fin_cases a
  · show 8 * g.val + 8 ≤ 64; omega
  · show pCol k j + 128 ≤ 32000; omega
def mtRow (k : Fin k0_t1_loop.trips) : ℕ := (Scalar.indexCast (Scalar.addi 0#32 (Scalar.muli (Scf.iv 0#32 1#32 k) 1#32))).toNat
theorem mtRow_eq : ∀ k, mtRow k = k.val := by decide +kernel
abbrev mtOff (k : Fin k0_t1_loop.trips) (g : Fin 8) : Fin 3 → ℕ := ![mtRow k, 8 * g.val, 0]
theorem mtOff_inb (k : Fin k0_t1_loop.trips) (g : Fin 8) : ∀ a, mtOff k g a + S1x8x128.size a ≤ S25x64x128.size a := by
  have h1 := mtRow_eq k; have h2 := k.isLt; have h3 : k0_t1_loop.trips = 25 := rfl; have h5 := g.isLt
  intro a; fin_cases a
  · show mtRow k + 1 ≤ 25; omega
  · show 8 * g.val + 8 ≤ 64; omega
  · show 0 + 128 ≤ 128; omega
def wsRow (k : Fin k0_t1_loop.trips) (j : Fin 10) : ℕ :=
  (Scalar.indexCast (Scalar.addi (Scalar.muli (Scalar.addi 0#32 (Scalar.muli (Scf.iv 0#32 1#32 k) 1#32)) 10#32) (BitVec.ofNat 32 j.val))).toNat
theorem wsRow_eq : ∀ k j, wsRow k j = 10 * k.val + j.val := by decide +kernel
abbrev wsOff (k : Fin k0_t1_loop.trips) (j : Fin 10) : Fin 2 → ℕ := ![wsRow k j, 0]
theorem wsOff_inb (k : Fin k0_t1_loop.trips) (j : Fin 10) : ∀ a, wsOff k j a + S1x128.size a ≤ S250x128.size a := by
  have h1 := wsRow_eq k j; have h2 := k.isLt; have h3 : k0_t1_loop.trips = 25 := rfl; have h4 := j.isLt
  intro a; fin_cases a
  · show wsRow k j + 1 ≤ 250; omega
  · show 0 + 128 ≤ 128; omega

def gs : List (Fin 8) := [7, 6, 5, 4, 3, 2, 1, 0]
def js : List (Fin 10) := [9, 8, 7, 6, 5, 4, 3, 2, 1, 0]

/-- The pieces of the table of exponentials, of a table of rows, and of the table of maxima, from their payloads. -/
def pPieces (k : Fin k0_t1_loop.trips) (e : Fin 8 → Fin 10 → FVec F S8x128 .f32) : List (View.Piece (Elt F) S64x32000 .f32) :=
  gs.flatMap fun g => js.map fun j => ⟨Rect.unit (pOff k g j) S8x128.size (pOff_inb k g j), shapeCast S8x128 (e g j) shapeCasts_S8x128_S8x128⟩
def rowPieces (v : Fin 8 → FVec F S8x128 .f32) : List (View.Piece (Elt F) S64x128 .f32) :=
  gs.map fun g => ⟨Rect.unit (s := S64x128) ![8 * g.val, 0] S8x128.size (row_inb g), shapeCast S8x128 (v g) shapeCasts_S8x128_S8x128⟩
def mtPieces (k : Fin k0_t1_loop.trips) (v : Fin 8 → FVec F S8x128 .f32) : List (View.Piece (Elt F) S25x64x128 .f32) :=
  gs.map fun g => ⟨Rect.unit (mtOff k g) S1x8x128.size (mtOff_inb k g), shapeCast S1x8x128 (v g) shapeCasts_S8x128_S1x8x128⟩

section Trip
variable (c : Dev nD)
  (v0 : IVec S8x128 32) (v1 : IVec S8x128 32) (v962 v963 v964 v969 v974 v979 v984 v989 : Vec F S8x128 .f32) (v992 : IVec S8x128 1) (cst : F .f32)
  (XA : BufOf (F := F) c wH) (q : BufOf (F := F) c codesV) (ws : BufOf (F := F) c wsV) (sc : BufOf (F := F) c scaleV)
  (k : Fin k0_t1_loop.trips) (fp : BufOf (F := F) c pV) (fmt : BufOf (F := F) c mtV) (fm : BufOf (F := F) c mV) (fl : BufOf (F := F) c lV)

/-- What the trip loads. -/
def ldAcc : FVec F S64x1280 .f32 := tripRun.sl.r c XA q k
def ldXs (g : Fin 8) : Vec F S8x128 .f32 := View.readAt (Elt F) scaleV.view (Rect.unit (s := S64x128) ![8 * g.val, 0] S8x128.size (row_inb g)).toLoadRect sc
def ldM (g : Fin 8) : Vec F S8x128 .f32 := View.readAt (Elt F) mV.view (Rect.unit (s := S64x128) ![8 * g.val, 0] S8x128.size (row_inb g)).toLoadRect fm
def ldL (g : Fin 8) : Vec F S8x128 .f32 := View.readAt (Elt F) lV.view (Rect.unit (s := S64x128) ![8 * g.val, 0] S8x128.size (row_inb g)).toLoadRect fl
def ldKs (j : Fin 10) : FVec F S1x128 .f32 :=
  mulf (View.readAt (Elt F) wsV.view (Rect.unit (s := S250x128) (wsOff k j) S1x128.size (wsOff_inb k j)).toLoadRect ws) (broadcast S1x128 (Named.named κ "log2e_over_temp" 0x4003E74F#32))

def trL (g : Fin 8) (j : Fin 10) : FVec F S8x128 .f32 := logitOf (ldAcc c XA q k) (ldXs c sc) (ldKs c ws k) g j
def trM (g : Fin 8) : FVec F S8x128 .f32 := maxOf (ldM c fm g) (trL c XA q ws sc k g)
def trE (g : Fin 8) (j : Fin 10) : FVec F S8x128 .f32 := expOf' (trM c XA q ws sc k fm g) (trL c XA q ws sc k g) j
def trS (g : Fin 8) : FVec F S8x128 .f32 := sumOf (ldL c fl g) (ldM c fm g) (trM c XA q ws sc k fm g) (trE c XA q ws sc k fm g)

set_option maxHeartbeats 4000000 in
theorem trip_m : tripRun.sl.Hm_8 c XA q ws sc k fm = rowPieces (trM c XA q ws sc k fm) := rfl
set_option maxHeartbeats 4000000 in
theorem trip_mt : tripRun.sl.Hmt_8 c XA q ws sc k fm = mtPieces k (trM c XA q ws sc k fm) := rfl
set_option maxHeartbeats 4000000 in
theorem trip_p : tripRun.sl.Hp_80 c XA q ws sc k fm = pPieces k (trE c XA q ws sc k fm) := rfl
set_option maxHeartbeats 4000000 in
theorem trip_l : tripRun.sl.Hl_8 c XA q ws sc k fm fl = rowPieces (trS c XA q ws sc k fm fl) := rfl

theorem trip_eq : (tripRun c v0 v1 v962 v963 v964 v969 v974 v979 v984 v989 v992 cst XA q ws sc k fp fmt fm fl).1
    = (pV.view.writes (Elt F) fp (pPieces k (trE c XA q ws sc k fm)), mtV.view.writes (Elt F) fmt (mtPieces k (trM c XA q ws sc k fm)),
        mV.view.writes (Elt F) fm (rowPieces (trM c XA q ws sc k fm)), lV.view.writes (Elt F) fl (rowPieces (trS c XA q ws sc k fm fl))) := by
  rw [← trip_m, ← trip_mt, ← trip_p, ← trip_l]; rfl

end Trip
end Cert.KernelIdeal.Hand

end
-- ==== Proof.Quant.lean ====
module

public import Idealize.ShloMosaic.PureOps.Ideal
public import Idealize.ShloMosaic.Lib.Exec
public import Idealize.ShloMosaic.Lib.IdealHost

/-! The quantiser's arithmetic, one number at a time: the float with exponent field `n`, the bit-by-bit search for the exponent
field of a number, and the exponent it gives. -/

@[expose] public section

set_option maxRecDepth 16384

noncomputable section

namespace Cert.Quant

open Idealize.ShloMosaic

/-- The exponent of `q`: zero at zero, else `⌊log₂ q⌋ + 1`. -/
def expo (q : ℝ) : ℤ := if q = 0 then 0 else ⌊Real.log q / Real.log 2⌋ + 1

/-- The exponent field of `q` as a 32-bit float. -/
def field (q : ℝ) : ℕ := if q = 0 then 0 else (⌊Real.log q / Real.log 2⌋ + 127).toNat

/-- What the bits with exponent field `n` and nothing else denote. -/
theorem bits_table : ∀ n : Fin 256, ((BitVec.ofNat 32 n.1 <<< 23).extractLsb' 31 1 == 1#1) = false
    ∧ ((BitVec.ofNat 32 n.1 <<< 23).extractLsb' 23 8).toNat = n.1 ∧ ((BitVec.ofNat 32 n.1 <<< 23).extractLsb' 0 23).toNat = 0 := by
  decide +kernel

theorem ieee_pos (b : BitVec 32) (n : ℕ) (h1 : (b.extractLsb' 31 1 == 1#1) = false) (h2 : (b.extractLsb' 23 8).toNat = n)
    (h3 : (b.extractLsb' 0 23).toNat = 0) :
    Ideal.ieee 8 23 b = if n = 255 then ⊤ else if n = 0 then 0 else (((2 : ℝ) ^ ((n : ℤ) - 127) : ℝ) : EReal) := by
  unfold Ideal.ieee
  have h1' : (b.extractLsb' (8 + 23) 1 == 1#1) = false := h1
  simp only [h1', h2, h3]
  by_cases ht : n = 255
  · subst ht; norm_num
  by_cases hz : n = 0
  · subst hz; norm_num
  rw [if_neg (by omega), if_neg hz, if_neg ht, if_neg hz]
  congr 1
  rw [show ((n : ℤ) - (2 ^ (8 - 1) - 1) - (23 : ℕ)) = ((n : ℤ) - 127) - 23 by norm_num, zpow_sub₀ (by norm_num)]
  norm_num
  ring

theorem ofBits_eq (n : ℕ) (h : n ≤ 255) : Ideal.ofBits .f32 (BitVec.ofNat 32 n <<< 23)
    = if n = 255 then ⊤ else if n = 0 then 0 else (((2 : ℝ) ^ ((n : ℤ) - 127) : ℝ) : EReal) :=
  have ht := bits_table ⟨n, by omega⟩
  ieee_pos _ n ht.1 ht.2.1 ht.2.2

theorem ofBits_field (n : ℕ) (h0 : 1 ≤ n) (h : n ≤ 254) :
    Ideal.ofBits .f32 (BitVec.ofNat 32 n <<< 23) = (((2 : ℝ) ^ ((n : ℤ) - 127) : ℝ) : EReal) := by
  rw [ofBits_eq n (by omega), if_neg (by omega), if_neg (by omega)]

theorem ofBits_field_zero : Ideal.ofBits .f32 (BitVec.ofNat 32 0 <<< 23) = 0 := by
  rw [ofBits_eq 0 (by omega), if_neg (by omega), if_pos rfl]

theorem ofBits_field_top : Ideal.ofBits .f32 (BitVec.ofNat 32 255 <<< 23) = ⊤ := by
  rw [ofBits_eq 255 (by omega), if_pos rfl]

variable {q : ℝ} (hq : q = 0 ∨ (2 : ℝ) ^ (-126 : ℤ) ≤ q) (hq' : q < (2 : ℝ) ^ (120 : ℤ))

theorem zpow_le_iff {q : ℝ} (h : 0 < q) (k : ℤ) : (2 : ℝ) ^ k ≤ q ↔ k ≤ ⌊Real.log q / Real.log 2⌋ := by
  have h2 : (0 : ℝ) < Real.log 2 := Real.log_pos (by norm_num)
  rw [Int.le_floor, le_div_iff₀ h2, ← Real.log_zpow, Real.log_le_log_iff (by positivity) h]

include hq in
theorem q_nonneg : 0 ≤ q := by
  rcases hq with h | h
  · exact h.ge
  · exact le_trans (by positivity) h

include hq hq' in
theorem field_bounds (h : q ≠ 0) : -126 ≤ ⌊Real.log q / Real.log 2⌋ ∧ ⌊Real.log q / Real.log 2⌋ < 120 := by
  have hp : 0 < q := lt_of_le_of_ne (q_nonneg hq) (Ne.symm h)
  constructor
  · exact (zpow_le_iff hp _).mp (hq.resolve_left h)
  · by_contra hc
    exact absurd ((zpow_le_iff hp 120).mpr (by omega)) (not_le.mpr hq')

include hq hq' in
theorem field_lt : field q ≤ 246 := by
  unfold field
  split
  · omega
  · rename_i h; have := field_bounds hq hq' h; omega

include hq hq' in
/-- `q` is at least the float with field `n` exactly when `n` is at most `q`'s field. -/
theorem le_iff_field (n : ℕ) (hn : n ≤ 255) : Ideal.ofBits .f32 (BitVec.ofNat 32 n <<< 23) ≤ (q : EReal) ↔ n ≤ field q := by
  rcases Nat.eq_zero_or_pos n with rfl | h0
  · rw [ofBits_field_zero]
    exact ⟨fun _ => Nat.zero_le _, fun _ => by exact_mod_cast q_nonneg hq⟩
  rcases Nat.lt_or_ge n 255 with h | h
  · rw [ofBits_field n h0 (by omega), EReal.coe_le_coe_iff]
    unfold field
    split
    · rename_i hz; subst hz
      exact ⟨fun hc => absurd hc (not_le.mpr (by positivity)), fun hc => by omega⟩
    · rename_i hz
      have hb := field_bounds hq hq' hz
      rw [zpow_le_iff (lt_of_le_of_ne (q_nonneg hq) (Ne.symm hz))]
      omega
  · obtain rfl : n = 255 := by omega
    rw [ofBits_field_top]
    exact ⟨fun hc => absurd (top_le_iff.mp hc) (EReal.coe_ne_top q), fun hc => absurd hc (by have := field_lt hq hq'; omega)⟩

include hq hq' in
/-- One step of the search: from `t ≤ field < t + 2 b` to the same with half the gap. -/
theorem step (t b : ℕ) (hlo : t ≤ field q) (hhi : field q < t + 2 * b) (hb : t + b ≤ 255) :
    ∃ t', (if Ideal.cmp .oge (q : EReal) (Ideal.ofBits .f32 ((BitVec.ofNat 32 t + BitVec.ofNat 32 b) <<< 23)) = 1#1
        then BitVec.ofNat 32 t + BitVec.ofNat 32 b else BitVec.ofNat 32 t) = BitVec.ofNat 32 t'
      ∧ t' ≤ field q ∧ field q < t' + b ∧ t' + b ≤ t + 2 * b := by
  rw [← BitVec.ofNat_add]
  have hle := le_iff_field hq hq' (t + b) hb
  unfold Ideal.cmp
  by_cases h : t + b ≤ field q
  · refine ⟨t + b, ?_, h, by omega, by omega⟩
    simp only [hle, h]; rfl
  · refine ⟨t, ?_, hlo, by omega, by omega⟩
    simp only [hle, h]; rfl

/-! ## The kernel's scalars -/

/-- One step of the kernel's search at a number. -/
def st (v : EReal) (b t : BitVec 32) : BitVec 32 :=
  Scalar.select (Ideal.cmp .oge v (Ideal.ofBits .f32 (IntOp.shli .vector (t + b) 23#32))) (t + b) t

/-- The exponent field the kernel's search finds. -/
def search (v : EReal) : BitVec 32 :=
  st v 1#32 (st v 2#32 (st v 4#32 (st v 8#32 (st v 16#32 (st v 32#32 (st v 64#32 (st v 128#32 0#32)))))))

/-- The kernel's exponent from an exponent field. -/
def kexp (t : BitVec 32) : BitVec 32 := Scalar.select (IntOp.cmpi .eq t 0#32) 0#32 (t - 126#32)

/-- The kernel's scale and its inverse, from the row maximum over 448. -/
def kscale (v : EReal) : EReal := Ideal.ofBits .f32 (IntOp.shli .vector (kexp (search v) + 127#32) 23#32)
def kinv (v : EReal) : EReal := Ideal.ofBits .f32 (IntOp.shli .vector (127#32 - kexp (search v)) 23#32)

theorem shl23 (x : BitVec 32) : IntOp.shli .vector x 23#32 = x <<< 23 := by
  simp [IntOp.shli]

include hq hq' in
theorem st_eq (t b : ℕ) (hlo : t ≤ field q) (hhi : field q < t + 2 * b) (hb : t + b ≤ 255) :
    ∃ t', st (q : EReal) (BitVec.ofNat 32 b) (BitVec.ofNat 32 t) = BitVec.ofNat 32 t'
      ∧ t' ≤ field q ∧ field q < t' + b ∧ t' + b ≤ t + 2 * b := by
  obtain ⟨t', h, h'⟩ := step hq hq' t b hlo hhi hb
  exact ⟨t', by unfold st; rw [shl23]; exact h, h'⟩

include hq hq' in
/-- The search finds the exponent field. -/
theorem search_eq : search (q : EReal) = BitVec.ofNat 32 (field q) := by
  have hf := field_lt hq hq'
  unfold search
  obtain ⟨t1, e1, a1, b1, c1⟩ := st_eq hq hq' 0 128 (by omega) (by omega) (by omega)
  obtain ⟨t2, e2, a2, b2, c2⟩ := st_eq hq hq' t1 64 (by omega) (by omega) (by omega)
  obtain ⟨t3, e3, a3, b3, c3⟩ := st_eq hq hq' t2 32 (by omega) (by omega) (by omega)
  obtain ⟨t4, e4, a4, b4, c4⟩ := st_eq hq hq' t3 16 (by omega) (by omega) (by omega)
  obtain ⟨t5, e5, a5, b5, c5⟩ := st_eq hq hq' t4 8 (by omega) (by omega) (by omega)
  obtain ⟨t6, e6, a6, b6, c6⟩ := st_eq hq hq' t5 4 (by omega) (by omega) (by omega)
  obtain ⟨t7, e7, a7, b7, c7⟩ := st_eq hq hq' t6 2 (by omega) (by omega) (by omega)
  obtain ⟨t8, e8, a8, b8, c8⟩ := st_eq hq hq' t7 1 (by omega) (by omega) (by omega)
  rw [e1, e2, e3, e4, e5, e6, e7, e8]
  congr 1; omega

theorem kexp_table : ∀ n : Fin 247, kexp (BitVec.ofNat 32 n.1) + 127#32 = BitVec.ofNat 32 (if n.1 = 0 then 127 else n.1 + 1)
    ∧ 127#32 - kexp (BitVec.ofNat 32 n.1) = BitVec.ofNat 32 (if n.1 = 0 then 127 else 253 - n.1) := by
  decide +kernel

include hq hq' in
/-- The kernel's scale is two to the exponent. -/
theorem kscale_eq : kscale (q : EReal) = (((2 : ℝ) ^ expo q : ℝ) : EReal) := by
  have hf := field_lt hq hq'
  unfold kscale
  rw [search_eq hq hq', (kexp_table ⟨field q, by omega⟩).1, shl23]
  simp only
  by_cases hz : q = 0
  · have e0 : field q = 0 := by simp [field, hz]
    have x0 : expo q = 0 := by simp [expo, hz]
    rw [e0, x0, if_pos rfl, ofBits_field 127 (by omega) (by omega)]
    norm_num
  · have hb := field_bounds hq hq' hz
    have e0 : (field q : ℤ) = ⌊Real.log q / Real.log 2⌋ + 127 := by unfold field; rw [if_neg hz]; omega
    have x0 : expo q = ⌊Real.log q / Real.log 2⌋ + 1 := by unfold expo; rw [if_neg hz]
    rw [if_neg (by omega), ofBits_field _ (by omega) (by omega)]
    congr 2; push_cast; omega

include hq hq' in
/-- The kernel's inverse scale is two to minus the exponent. -/
theorem kinv_eq : kinv (q : EReal) = (((2 : ℝ) ^ (-expo q) : ℝ) : EReal) := by
  have hf := field_lt hq hq'
  unfold kinv
  rw [search_eq hq hq', (kexp_table ⟨field q, by omega⟩).2, shl23]
  simp only
  by_cases hz : q = 0
  · have e0 : field q = 0 := by simp [field, hz]
    have x0 : expo q = 0 := by simp [expo, hz]
    rw [e0, x0, if_pos rfl, ofBits_field 127 (by omega) (by omega)]
    norm_num
  · have hb := field_bounds hq hq' hz
    have e0 : (field q : ℤ) = ⌊Real.log q / Real.log 2⌋ + 127 := by unfold field; rw [if_neg hz]; omega
    have x0 : expo q = ⌊Real.log q / Real.log 2⌋ + 1 := by unfold expo; rw [if_neg hz]
    rw [if_neg (by omega), ofBits_field _ (by omega) (by omega)]
    congr 2; omega

/-! ## The constants -/

theorem ofBits_normal (b : BitVec 32) (n f : ℕ) (h1 : (b.extractLsb' 31 1 == 1#1) = false) (h2 : (b.extractLsb' 23 8).toNat = n)
    (h3 : (b.extractLsb' 0 23).toNat = f) (h0 : n ≠ 0) (hn : n ≠ 255) :
    Ideal.ofBits .f32 b = ((((2 ^ 23 + f : ℕ) : ℝ) * (2 : ℝ) ^ ((n : ℤ) - 150) : ℝ) : EReal) := by
  change Ideal.ieee 8 23 b = _
  unfold Ideal.ieee
  have h1' : (b.extractLsb' (8 + 23) 1 == 1#1) = false := h1
  simp only [h1', h2, h3]
  rw [if_neg (by omega), if_neg h0]
  congr 1
  rw [show ((n : ℤ) - (2 ^ (8 - 1) - 1) - (23 : ℕ)) = (n : ℤ) - 150 by omega]
  simp

/-- The 32-bit float nearest 1/448, as a real. -/
def k448 : ℝ := 9586981 / 2 ^ 32

theorem ofBits_k448 : Ideal.ofBits .f32 0x3B124925#32 = (k448 : EReal) := by
  rw [ofBits_normal _ 118 1198373 (by decide) (by decide) (by decide) (by decide) (by decide)]
  norm_num [k448]

theorem ofBits_bf16_max : Ideal.ofBits .f32 0x7F7F0000#32 = ((16711680 * 2 ^ 104 : ℝ) : EReal) := by
  rw [ofBits_normal _ 254 8323072 (by decide) (by decide) (by decide) (by decide) (by decide)]
  norm_num

theorem ofBits_min_normal : Ideal.ofBits .f32 0x00800000#32 = (((2 : ℝ) ^ (-126 : ℤ) : ℝ) : EReal) := by
  rw [ofBits_normal _ 1 0 (by decide) (by decide) (by decide) (by decide) (by decide)]
  norm_num

theorem ofBits_bot : Ideal.ofBits .f32 0xFF800000#32 = ⊥ := by simp [Ideal.ofBits, Ideal.ieee]

/-! ## A row -/

/-- The largest magnitude of a row. -/
def amax (f : Fin 1024 → EReal) : EReal := Finset.univ.fold max ⊥ fun k => max (f k) (-f k)

/-- The precondition on a row: finite elements, and a maximum over 448 that is zero or at least the least normal float. -/
def Tame (f : Fin 1024 → EReal) : Prop :=
  (∀ k, max (f k) (-f k) ≤ Ideal.ofBits .f32 0x7F7F0000#32)
    ∧ (amax f * Ideal.ofBits .f32 0x3B124925#32 = 0
      ∨ Ideal.ofBits .f32 0x00800000#32 ≤ amax f * Ideal.ofBits .f32 0x3B124925#32)

theorem abs_nonneg' (x : EReal) : 0 ≤ max x (-x) := by
  rcases le_total 0 x with h | h
  · exact le_max_of_le_left h
  · exact le_max_of_le_right (EReal.neg_nonneg.mpr h)

/-- A tame row's maximum is a real number whose 448th part is zero or normal and not too large. -/
theorem Tame.real {f : Fin 1024 → EReal} (h : Tame f) : ∃ a : ℝ, amax f = (a : EReal) ∧ 0 ≤ a
    ∧ (a * k448 = 0 ∨ (2 : ℝ) ^ (-126 : ℤ) ≤ a * k448) ∧ a * k448 < (2 : ℝ) ^ (120 : ℤ) := by
  obtain ⟨h1, h2⟩ := h
  have hle : amax f ≤ Ideal.ofBits .f32 0x7F7F0000#32 := by
    unfold amax; rw [Finset.fold_max_le]; exact ⟨bot_le, fun k _ => h1 k⟩
  have hge : 0 ≤ amax f := by
    unfold amax; rw [Finset.le_fold_max]; exact .inr ⟨0, Finset.mem_univ _, abs_nonneg' _⟩
  rw [ofBits_bf16_max] at hle
  obtain ⟨a, ha⟩ : ∃ a : ℝ, amax f = (a : EReal) :=
    ⟨(amax f).toReal, (EReal.coe_toReal (fun hc => by rw [hc] at hle; exact EReal.coe_ne_top _ (top_le_iff.mp hle)) (fun hc => by rw [hc] at hge; exact absurd hge (by simp))).symm⟩
  rw [ha] at hle hge
  rw [ha, ofBits_k448, ofBits_min_normal, ← EReal.coe_mul] at h2
  refine ⟨a, ha, by exact_mod_cast hge, ?_, ?_⟩
  · exact h2.imp (fun h => by exact_mod_cast h) (fun h => by exact_mod_cast h)
  · have : a ≤ 16711680 * 2 ^ 104 := by exact_mod_cast hle
    have hk : k448 = 9586981 / 2 ^ 32 := rfl
    rw [hk]
    calc a * (9586981 / 2 ^ 32) ≤ (16711680 * 2 ^ 104) * (9586981 / 2 ^ 32) := by
          apply mul_le_mul_of_nonneg_right this; norm_num
      _ < (2 : ℝ) ^ (120 : ℤ) := by norm_num

/-! ## The reference's scalars -/

/-- The reference's exponent from the row maximum. -/
def rexp (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) ((Real.log 2 : ℝ) : EReal))
      + Ideal.ofBits .f32 0x3F800000#32)

theorem rexp_eq {a : ℝ} (h : 0 ≤ a) : rexp (a : EReal) = ((expo (a * k448) : ℝ) : EReal) := by
  have hk : (0 : ℝ) < k448 := by unfold k448; norm_num
  unfold rexp Ideal.cmp expo
  rw [Ideal.ofBits_zero_f32, ofBits_k448, Ideal.ofBits_one_f32]
  by_cases hz : a = 0
  · subst hz; simp [Scalar.select]
  · have hp : 0 < a := lt_of_le_of_ne h (Ne.symm hz)
    have hq : 0 < a * k448 := mul_pos hp hk
    have hne : ¬ ((a : EReal) = 0) := by exact_mod_cast hz
    have hl : Ideal.log ((a : EReal) * (k448 : EReal)) = ((Real.log (a * k448) : ℝ) : EReal) := by
      rw [← EReal.coe_mul]; exact (if_neg (not_le.mpr hq) : (if a * k448 ≤ 0 then (⊥ : EReal) else _) = _)
    have hd : Ideal.div ((Real.log (a * k448) : ℝ) : EReal) ((Real.log 2 : ℝ) : EReal) = ((Real.log (a * k448) / Real.log 2 : ℝ) : EReal) := by
      have h2 : Real.log 2 ≠ 0 := (Real.log_pos (by norm_num)).ne'
      unfold Ideal.div
      rw [if_neg (by exact_mod_cast h2), ← EReal.coe_inv, ← EReal.coe_mul, div_eq_mul_inv]
    rw [hl, hd, if_neg hq.ne']
    have hf : ∀ r : ℝ, Ideal.liftRound Int.floor (r : EReal) = ((⌊r⌋ : ℝ) : EReal) := fun _ => rfl
    rw [hf]
    simp [Scalar.select, hne]

theorem exp2_int (n : ℤ) : Ideal.exp2 ((n : ℝ) : EReal) = (((2 : ℝ) ^ n : ℝ) : EReal) := by
  change ((Real.rpow 2 (n : ℝ) : ℝ) : EReal) = _
  congr 1; exact Real.rpow_intCast 2 n

/-! ## Kernel and reference agree on a tame row -/

theorem Tame.scale {f : Fin 1024 → EReal} (h : Tame f) :
    kscale (amax f * Ideal.ofBits .f32 0x3B124925#32) = Ideal.exp2 (rexp (amax f)) := by
  obtain ⟨a, ha, h0, hq, hq'⟩ := h.real
  rw [ha, rexp_eq h0, ofBits_k448, ← EReal.coe_mul, kscale_eq hq hq', exp2_int]

theorem Tame.inv {f : Fin 1024 → EReal} (h : Tame f) :
    kinv (amax f * Ideal.ofBits .f32 0x3B124925#32) = Ideal.exp2 (Ideal.ofBits .f32 0x00000000#32 - rexp (amax f)) := by
  obtain ⟨a, ha, h0, hq, hq'⟩ := h.real
  rw [ha, rexp_eq h0, ofBits_k448, ← EReal.coe_mul, kinv_eq hq hq', Ideal.ofBits_zero_f32, zero_sub, ← EReal.coe_neg]
  have := exp2_int (-expo (a * k448))
  push_cast at this
  exact this.symm

end Cert.Quant

end
-- ==== Proof.KernelIdeal.TabsVal.lean ====
module

public import proofs.«01_k».proof.Proof.KernelIdeal.TripVal
public import proofs.«01_k».proof.Proof.Quant
public import Idealize.ShloMosaic.Lib.Pipeline.ReadBack
public import Idealize.ShloMosaic.Lib.Pipeline.Value
public import Idealize.ShloMosaic.Lib.ValueIdxCoords
public import Idealize.ShloMosaic.Lib.ValueIdx
public import Idealize.ShloMosaic.Lib.ValueIdxRank1

/-! The four tables after the tile loop over the extended reals, element by element, from the scaled logits `lg`: the one of
row `i` in column `128 n + a` is `lg i n a`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- Row `8 g + s`. -/
def rowIx (g s : Fin 8) : Fin 64 := ⟨8 * g.1 + s.1, by omega⟩
theorem exists_rowIx (r : Fin 64) : ∃ g s, r = rowIx g s :=
  ⟨⟨r.1 / 8, by omega⟩, ⟨r.1 % 8, by omega⟩, Fin.ext (by simp only [rowIx]; omega)⟩
/-- Column `128 n + a`. -/
def colIx (n : ℕ) (hn : n < 250) (a : Fin 128) : Fin 32000 := ⟨128 * n + a.1, by omega⟩

/-! ## Scalars -/

/-- The lowest finite number, where the running maximum starts. -/
def NEG : EReal := Ideal.ofBits .f32 0xFF7FFFFF#32
/-- The running maximum of a lane after `n` columns. -/
def Mn (lg : ℕ → EReal) : ℕ → EReal
  | 0 => NEG
  | n + 1 => max (Mn lg n) (lg n)
/-- The exponential of column `n`, against the running maximum at the end of its tile. -/
def En (lg : ℕ → EReal) (n : ℕ) : EReal := Ideal.exp2 (lg n - Mn lg (10 * (n / 10) + 10))
/-- The running sum of a lane after `t` tiles. -/
def Sn (lg : ℕ → EReal) : ℕ → EReal
  | 0 => Ideal.ofBits .f32 0x00000000#32
  | t + 1 => Sn lg t * Ideal.exp2 (Mn lg (10 * t) - Mn lg (10 * t + 10))
      + ((((En lg (10 * t) + En lg (10 * t + 1)) + (En lg (10 * t + 2) + En lg (10 * t + 3)))
        + ((En lg (10 * t + 4) + En lg (10 * t + 5)) + (En lg (10 * t + 6) + En lg (10 * t + 7)))) + (En lg (10 * t + 8) + En lg (10 * t + 9)))

/-! ## Piece lists read at an element -/

theorem read_piece {sp : Space} {s : Shape} {e : EltTy} (v : View sig .tc sp s e) (f : v.ty.Contents (Elt Ideal)) (L : List (View.Piece (Elt Ideal) s e))
    (G : s.Idx → Elt Ideal e) (hG : ∀ p ∈ L, ∀ x : p.1.shape.Idx, p.2 x = G (p.1.emb x)) (p : View.Piece (Elt Ideal) s e) (hp : p ∈ L) (x : p.1.shape.Idx) :
    v.read (Elt Ideal) (v.writes (Elt Ideal) f L) (p.1.emb x) = G (p.1.emb x) :=
  View.read_writes_apply_of_pieces v f G L hG _ ⟨p, hp, by rw [← Rect.map_emb_univ]; exact Finset.mem_map_of_mem _ (Finset.mem_univ x)⟩

theorem row_emb (g : Fin 8) (s : Fin 8) (a : Fin 128) :
    (Rect.unit (s := S64x128) ![8 * g.val, 0] S8x128.size (row_inb g)).emb (ix2 s a) = ix2 (rowIx g s) a := by
  funext b; apply Fin.ext; fin_cases b <;> simp [Rect.emb, Rect.unit, rowIx]
theorem p_emb (k : Fin k0_t1_loop.trips) (g : Fin 8) (j : Fin 10) (s : Fin 8) (a : Fin 128) :
    (Rect.unit (s := S64x32000) (pOff k g j) S8x128.size (pOff_inb k g j)).emb (ix2 s a)
      = ix2 (rowIx g s) (colIx (10 * k.val + j.val) (by have h2 := k.isLt; have h3 : k0_t1_loop.trips = 25 := rfl; omega) a) := by
  have h := pCol_eq k j
  funext b; apply Fin.ext; fin_cases b
  · show 8 * g.val + 1 * s.val = 8 * g.val + s.val; omega
  · show pCol k j + 1 * a.val = 128 * (10 * k.val + j.val) + a.val; omega
theorem mt_emb (k : Fin k0_t1_loop.trips) (g : Fin 8) (s : Fin 8) (a : Fin 128) :
    (Rect.unit (s := S25x64x128) (mtOff k g) S1x8x128.size (mtOff_inb k g)).emb (ix3 0 s a) = ix3 (k.cast rfl : Fin 25) (rowIx g s) a := by
  have h := mtRow_eq k
  funext b; apply Fin.ext; fin_cases b
  · show mtRow k + 1 * 0 = k.val; omega
  · show 8 * g.val + 1 * s.val = 8 * g.val + s.val; omega
  · show 0 + 1 * a.val = a.val; omega

theorem mem_gs (g : Fin 8) : g ∈ gs := by revert g; decide
theorem mem_js (j : Fin 10) : j ∈ js := by revert j; decide

/-- A table of rows after the eight stores. -/
theorem read_rows {sp : Space} (v : View sig .tc sp S64x128 .f32) (f : v.ty.Contents (Elt Ideal)) (w : Fin 8 → FVec Ideal S8x128 .f32) (g s : Fin 8) (a : Fin 128) :
    v.read (Elt Ideal) (v.writes (Elt Ideal) f (rowPieces w)) (ix2 (rowIx g s) a) = w g (ix2 s a) := by
  have hp : (⟨Rect.unit (s := S64x128) ![8 * g.val, 0] S8x128.size (row_inb g), shapeCast S8x128 (w g) shapeCasts_S8x128_S8x128⟩ : View.Piece (Elt Ideal) S64x128 .f32)
      ∈ rowPieces w := List.mem_map.mpr ⟨g, mem_gs g, rfl⟩
  let G : S64x128.Idx → Elt Ideal .f32 := fun y => w ⟨(y 0).val / 8, by have : (y 0).val < 64 := (y 0).isLt; omega⟩ (ix2 ⟨(y 0).val % 8, by omega⟩ (y 1))
  have hGr : ∀ g s a, G (ix2 (rowIx g s) a) = w g (ix2 s a) := by
    intro g s a
    show w ⟨(8 * g.val + s.val) / 8, _⟩ (ix2 ⟨(8 * g.val + s.val) % 8, _⟩ a) = _
    have e1 : (⟨(8 * g.val + s.val) / 8, by omega⟩ : Fin 8) = g := Fin.ext (by show (8 * g.val + s.val) / 8 = g.val; omega)
    have e3 : (⟨(8 * g.val + s.val) % 8, by omega⟩ : Fin 8) = s := Fin.ext (by show (8 * g.val + s.val) % 8 = s.val; omega)
    rw [e1, e3]
  have h := read_piece v f (rowPieces w) G (by
    intro p hp x
    obtain ⟨g, -, rfl⟩ := List.mem_map.mp hp
    obtain ⟨s, a, rfl⟩ : ∃ (s : Fin 8) (a : Fin 128), x = ix2 s a := ⟨x 0, x 1, eq_ix2 x⟩
    show shapeCast S8x128 (w g) _ (ix2 s a) = G ((Rect.unit (s := S64x128) ![8 * g.val, 0] S8x128.size (row_inb g)).emb (ix2 s a))
    rw [row_emb, hGr, shapeCast_self]) _ hp (ix2 s a)
  change v.read (Elt Ideal) _ ((Rect.unit (s := S64x128) ![8 * g.val, 0] S8x128.size (row_inb g)).emb (ix2 s a)) = G ((Rect.unit (s := S64x128) ![8 * g.val, 0] S8x128.size (row_inb g)).emb (ix2 s a)) at h
  rw [row_emb, hGr] at h
  exact h

theorem mem_pPieces (k : Fin k0_t1_loop.trips) (e : Fin 8 → Fin 10 → FVec Ideal S8x128 .f32) (p : View.Piece (Elt Ideal) S64x32000 .f32) :
    p ∈ pPieces k e ↔ ∃ g j, p = ⟨Rect.unit (pOff k g j) S8x128.size (pOff_inb k g j), shapeCast S8x128 (e g j) shapeCasts_S8x128_S8x128⟩ := by
  unfold pPieces; rw [List.mem_flatMap]
  constructor
  · rintro ⟨g, -, h⟩; obtain ⟨j, -, rfl⟩ := List.mem_map.mp h; exact ⟨g, j, rfl⟩
  · rintro ⟨g, j, rfl⟩; exact ⟨g, mem_gs g, List.mem_map.mpr ⟨j, mem_js j, rfl⟩⟩

/-- The table of exponentials in the columns of trip `k`, -/
theorem read_p_new {sp : Space} (v : View sig .tc sp S64x32000 .f32) (f : v.ty.Contents (Elt Ideal)) (k : Fin k0_t1_loop.trips) (e : Fin 8 → Fin 10 → FVec Ideal S8x128 .f32)
    (g s : Fin 8) (j : Fin 10) (a : Fin 128) (hn : 10 * k.val + j.val < 250) :
    v.read (Elt Ideal) (v.writes (Elt Ideal) f (pPieces k e)) (ix2 (rowIx g s) (colIx (10 * k.val + j.val) hn a)) = e g j (ix2 s a) := by
  have hp := (mem_pPieces k e _).mpr ⟨g, j, rfl⟩
  let G : S64x32000.Idx → Elt Ideal .f32 := fun y =>
    e ⟨(y 0).val / 8, by have : (y 0).val < 64 := (y 0).isLt; omega⟩ ⟨(y 1).val / 128 % 10, by omega⟩ (ix2 ⟨(y 0).val % 8, by omega⟩ ⟨(y 1).val % 128, by omega⟩)
  have hGr : ∀ g s j a hn, G (ix2 (rowIx g s) (colIx (10 * k.val + j.val) hn a)) = e g j (ix2 s a) := by
    intro g s j a hn
    show e ⟨(8 * g.val + s.val) / 8, _⟩ ⟨(128 * (10 * k.val + j.val) + a.val) / 128 % 10, _⟩ (ix2 ⟨(8 * g.val + s.val) % 8, _⟩ ⟨(128 * (10 * k.val + j.val) + a.val) % 128, _⟩) = _
    have e1 : (⟨(8 * g.val + s.val) / 8, by omega⟩ : Fin 8) = g := Fin.ext (by show (8 * g.val + s.val) / 8 = g.val; omega)
    have e2 : (⟨(128 * (10 * k.val + j.val) + a.val) / 128 % 10, by omega⟩ : Fin 10) = j := Fin.ext (by show (128 * (10 * k.val + j.val) + a.val) / 128 % 10 = j.val; omega)
    have e3 : (⟨(8 * g.val + s.val) % 8, by omega⟩ : Fin 8) = s := Fin.ext (by show (8 * g.val + s.val) % 8 = s.val; omega)
    have e4 : (⟨(128 * (10 * k.val + j.val) + a.val) % 128, by omega⟩ : Fin 128) = a := Fin.ext (by show (128 * (10 * k.val + j.val) + a.val) % 128 = a.val; omega)
    rw [e1, e2, e3, e4]
  have h := read_piece v f (pPieces k e) G (by
    intro p hp x
    obtain ⟨g, j, rfl⟩ := (mem_pPieces k e _).mp hp
    obtain ⟨s, a, rfl⟩ : ∃ (s : Fin 8) (a : Fin 128), x = ix2 s a := ⟨x 0, x 1, eq_ix2 x⟩
    show shapeCast S8x128 (e g j) _ (ix2 s a) = G ((Rect.unit (s := S64x32000) (pOff k g j) S8x128.size (pOff_inb k g j)).emb (ix2 s a))
    rw [p_emb, hGr, shapeCast_self]) _ hp (ix2 s a)
  change v.read (Elt Ideal) _ ((Rect.unit (s := S64x32000) (pOff k g j) S8x128.size (pOff_inb k g j)).emb (ix2 s a)) = G ((Rect.unit (s := S64x32000) (pOff k g j) S8x128.size (pOff_inb k g j)).emb (ix2 s a)) at h
  rw [p_emb, hGr] at h
  exact h

/-- and in those of the trips before it. -/
theorem read_p_old {sp : Space} (v : View sig .tc sp S64x32000 .f32) (f : v.ty.Contents (Elt Ideal)) (k : Fin k0_t1_loop.trips) (e : Fin 8 → Fin 10 → FVec Ideal S8x128 .f32)
    (i : Fin 64) (n : ℕ) (hn : n < 250) (hk : n < 10 * k.val) (a : Fin 128) :
    v.read (Elt Ideal) (v.writes (Elt Ideal) f (pPieces k e)) (ix2 i (colIx n hn a)) = v.read (Elt Ideal) f (ix2 i (colIx n hn a)) := by
  refine View.read_writes_apply_of_forall_not_mem v f _ _ fun p hp => ?_
  obtain ⟨g, j, rfl⟩ := (mem_pPieces k e _).mp hp
  intro hm
  have h1 : pCol k j ≤ 128 * n + a.val := ((Rect.mem_set_unit (s := S64x32000) (off := pOff k g j) (size := S8x128.size) (inb := pOff_inb k g j)).mp hm 1).1
  have h := pCol_eq k j
  omega

theorem mem_mtPieces (k : Fin k0_t1_loop.trips) (w : Fin 8 → FVec Ideal S8x128 .f32) (p : View.Piece (Elt Ideal) S25x64x128 .f32) :
    p ∈ mtPieces k w ↔ ∃ g, p = ⟨Rect.unit (mtOff k g) S1x8x128.size (mtOff_inb k g), shapeCast S1x8x128 (w g) shapeCasts_S8x128_S1x8x128⟩ := by
  unfold mtPieces; rw [List.mem_map]
  exact ⟨fun ⟨g, _, h⟩ => ⟨g, h.symm⟩, fun ⟨g, h⟩ => ⟨g, mem_gs g, h.symm⟩⟩

theorem cast_mt (w : FVec Ideal S8x128 .f32) (s : Fin 8) (a : Fin 128) : shapeCast S1x8x128 w shapeCasts_S8x128_S1x8x128 (ix3 0 s a) = w (ix2 s a) := by
  refine (shapeCast_addUnit_apply (d := ![8, 128]) w _ (ix3 0 s a)).trans (congrArg w ?_)
  funext b; fin_cases b <;> rfl

theorem read_mt_new {sp : Space} (v : View sig .tc sp S25x64x128 .f32) (f : v.ty.Contents (Elt Ideal)) (k : Fin k0_t1_loop.trips) (w : Fin 8 → FVec Ideal S8x128 .f32)
    (g s : Fin 8) (a : Fin 128) :
    v.read (Elt Ideal) (v.writes (Elt Ideal) f (mtPieces k w)) (ix3 (k.cast rfl : Fin 25) (rowIx g s) a) = w g (ix2 s a) := by
  have hp := (mem_mtPieces k w _).mpr ⟨g, rfl⟩
  let G : S25x64x128.Idx → Elt Ideal .f32 := fun y => w ⟨(y 1).val / 8, by have : (y 1).val < 64 := (y 1).isLt; omega⟩ (ix2 ⟨(y 1).val % 8, by omega⟩ (y 2))
  have hGr : ∀ k' g s a, G (ix3 k' (rowIx g s) a) = w g (ix2 s a) := by
    intro k' g s a
    show w ⟨(8 * g.val + s.val) / 8, _⟩ (ix2 ⟨(8 * g.val + s.val) % 8, _⟩ a) = _
    have e1 : (⟨(8 * g.val + s.val) / 8, by omega⟩ : Fin 8) = g := Fin.ext (by show (8 * g.val + s.val) / 8 = g.val; omega)
    have e3 : (⟨(8 * g.val + s.val) % 8, by omega⟩ : Fin 8) = s := Fin.ext (by show (8 * g.val + s.val) % 8 = s.val; omega)
    rw [e1, e3]
  have h := read_piece v f (mtPieces k w) G (by
    intro p hp x
    obtain ⟨g, rfl⟩ := (mem_mtPieces k w _).mp hp
    obtain ⟨z, s, a, rfl⟩ : ∃ (z : Fin 1) (s : Fin 8) (a : Fin 128), x = ix3 z s a := ⟨x 0, x 1, x 2, eq_ix3 x⟩
    obtain rfl : z = 0 := Subsingleton.elim _ _
    show shapeCast S1x8x128 (w g) _ (ix3 0 s a) = G ((Rect.unit (s := S25x64x128) (mtOff k g) S1x8x128.size (mtOff_inb k g)).emb (ix3 0 s a))
    rw [mt_emb, hGr, cast_mt]) _ hp (ix3 0 s a)
  change v.read (Elt Ideal) _ ((Rect.unit (s := S25x64x128) (mtOff k g) S1x8x128.size (mtOff_inb k g)).emb (ix3 0 s a)) = G ((Rect.unit (s := S25x64x128) (mtOff k g) S1x8x128.size (mtOff_inb k g)).emb (ix3 0 s a)) at h
  rw [mt_emb, hGr] at h
  exact h

theorem read_mt_old {sp : Space} (v : View sig .tc sp S25x64x128 .f32) (f : v.ty.Contents (Elt Ideal)) (k : Fin k0_t1_loop.trips) (w : Fin 8 → FVec Ideal S8x128 .f32)
    (k' : Fin 25) (hk : k'.val < k.val) (i : Fin 64) (a : Fin 128) :
    v.read (Elt Ideal) (v.writes (Elt Ideal) f (mtPieces k w)) (ix3 k' i a) = v.read (Elt Ideal) f (ix3 k' i a) := by
  refine View.read_writes_apply_of_forall_not_mem v f _ _ fun p hp => ?_
  obtain ⟨g, rfl⟩ := (mem_mtPieces k w _).mp hp
  intro hm
  have h1 : k'.val < mtRow k + 1 ∧ mtRow k ≤ k'.val := ((Rect.mem_set_unit (s := S25x64x128) (off := mtOff k g) (size := S1x8x128.size) (inb := mtOff_inb k g)).mp hm 0).symm
  have h := mtRow_eq k
  omega

/-! ## The tables after `t` trips -/

section Tabs
variable (c : Dev nD)
  (v0 : IVec S8x128 32) (v1 : IVec S8x128 32) (v962 v963 v964 v969 v974 v979 v984 v989 : Vec Ideal S8x128 .f32) (v992 : IVec S8x128 1) (cst : Ideal .f32)
  (XA : BufOf (F := Ideal) c wH) (q : BufOf (F := Ideal) c codesV) (ws : BufOf (F := Ideal) c wsV) (sc : BufOf (F := Ideal) c scaleV)

/-- What the tables hold before trip `t`. -/
structure Holds (lg : Fin 64 → Fin 128 → ℕ → EReal) (t : ℕ) (T : TabsT (F := Ideal) c) : Prop where
  p : ∀ n (hn : n < 250), n < 10 * t → ∀ i a, pV.view.read (Elt Ideal) T.1 (ix2 i (colIx n hn a)) = En (lg i a) n
  mt : ∀ k : Fin 25, k.val < t → ∀ i a, mtV.view.read (Elt Ideal) T.2.1 (ix3 k i a) = Mn (lg i a) (10 * k.val + 10)
  m : ∀ i a, mV.view.read (Elt Ideal) T.2.2.1 (ix2 i a) = Mn (lg i a) (10 * t)
  l : ∀ i a, lV.view.read (Elt Ideal) T.2.2.2 (ix2 i a) = Sn (lg i a) t

theorem holds_step (lg : Fin 64 → Fin 128 → ℕ → EReal) (hL : ∀ k g j s a, trL c XA q ws sc k g j (ix2 s a) = lg (rowIx g s) a (10 * k.val + j.val))
    (k : Fin k0_t1_loop.trips) (T : TabsT (F := Ideal) c) (h : Holds c lg k.val T) :
    Holds c lg (k.val + 1) (tripRun c v0 v1 v962 v963 v964 v969 v974 v979 v984 v989 v992 cst XA q ws sc k T.1 T.2.1 T.2.2.1 T.2.2.2).1 := by
  have hk25 : k.val < 25 := k.isLt
  have hm : ∀ g s a, ldM c T.2.2.1 g (ix2 s a) = Mn (lg (rowIx g s) a) (10 * k.val) := fun g s a => by
    rw [← h.m]; exact congrArg (mV.view.read (Elt Ideal) T.2.2.1) (row_emb g s a)
  have hl : ∀ g s a, ldL c T.2.2.2 g (ix2 s a) = Sn (lg (rowIx g s) a) k.val := fun g s a => by
    rw [← h.l]; exact congrArg (lV.view.read (Elt Ideal) T.2.2.2) (row_emb g s a)
  have hM : ∀ g s a, trM c XA q ws sc k T.2.2.1 g (ix2 s a) = Mn (lg (rowIx g s) a) (10 * k.val + 10) := fun g s a => by
    unfold trM
    generalize hl' : trL c XA q ws sc k g = L
    have hL' : ∀ j : Fin 10, L j (ix2 s a) = lg (rowIx g s) a (10 * k.val + j.val) := fun j => by rw [← hl']; exact hL k g j s a
    show max (max (max (max (max (max (max (max (max (max (ldM c T.2.2.1 g (ix2 s a)) (L 0 (ix2 s a))) (L 1 (ix2 s a))) (L 2 (ix2 s a))) (L 3 (ix2 s a))) (L 4 (ix2 s a))) (L 5 (ix2 s a))) (L 6 (ix2 s a))) (L 7 (ix2 s a))) (L 8 (ix2 s a))) (L 9 (ix2 s a)) = _
    rw [hm, hL', hL', hL', hL', hL', hL', hL', hL', hL', hL']; rfl
  have hE : ∀ g j s a, trE c XA q ws sc k T.2.2.1 g j (ix2 s a) = En (lg (rowIx g s) a) (10 * k.val + j.val) := fun g j s a => by
    show Ideal.exp2 (trL c XA q ws sc k g j (ix2 s a) - trM c XA q ws sc k T.2.2.1 g (ix2 s a)) = _
    unfold En
    rw [hM, hL, show (10 * k.val + j.val) / 10 = k.val by omega]
  have hS : ∀ g s a, trS c XA q ws sc k T.2.2.1 T.2.2.2 g (ix2 s a) = Sn (lg (rowIx g s) a) (k.val + 1) := fun g s a => by
    unfold trS
    generalize hl' : trE c XA q ws sc k T.2.2.1 g = L
    have hL' : ∀ j : Fin 10, L j (ix2 s a) = En (lg (rowIx g s) a) (10 * k.val + j.val) := fun j => by rw [← hl']; exact hE g j s a
    show ldL c T.2.2.2 g (ix2 s a) * Ideal.exp2 (ldM c T.2.2.1 g (ix2 s a) - trM c XA q ws sc k T.2.2.1 g (ix2 s a))
      + ((((L 0 (ix2 s a) + L 1 (ix2 s a)) + (L 2 (ix2 s a) + L 3 (ix2 s a))) + ((L 4 (ix2 s a) + L 5 (ix2 s a)) + (L 6 (ix2 s a) + L 7 (ix2 s a)))) + (L 8 (ix2 s a) + L 9 (ix2 s a))) = _
    rw [hm, hl, hM, hL', hL', hL', hL', hL', hL', hL', hL', hL', hL']; rfl
  rw [trip_eq]
  refine ⟨fun n hn hlt i a => ?_, fun k' hk' i a => ?_, fun i a => ?_, fun i a => ?_⟩
  · obtain ⟨g, s, rfl⟩ := exists_rowIx i
    by_cases ho : n < 10 * k.val
    · rw [read_p_old _ _ k _ _ n hn ho a]; exact h.p n hn ho _ a
    · obtain ⟨j, rfl⟩ : ∃ j : Fin 10, n = 10 * k.val + j.val := ⟨⟨n - 10 * k.val, by omega⟩, by show n = 10 * k.val + (n - 10 * k.val); omega⟩
      rw [read_p_new, hE]
  · obtain ⟨g, s, rfl⟩ := exists_rowIx i
    by_cases ho : k'.val < k.val
    · rw [read_mt_old _ _ k _ k' ho]; exact h.mt k' ho _ a
    · obtain rfl : k' = k.cast rfl := Fin.ext (by show k'.val = k.val; omega)
      exact (read_mt_new _ _ k _ g s a).trans (hM g s a)
  · obtain ⟨g, s, rfl⟩ := exists_rowIx i
    rw [read_rows, hM]; rfl
  · obtain ⟨g, s, rfl⟩ := exists_rowIx i
    rw [read_rows, hS]

theorem holds_tabs (lg : Fin 64 → Fin 128 → ℕ → EReal) (hL : ∀ k g j s a, trL c XA q ws sc k g j (ix2 s a) = lg (rowIx g s) a (10 * k.val + j.val))
    (T : TabsT (F := Ideal) c) (h : Holds c lg 0 T) (t : ℕ) (ht : t ≤ 25) :
    Holds c lg t (tabs c v0 v1 v962 v963 v964 v969 v974 v979 v984 v989 v992 cst XA q ws sc T t) := by
  induction t with
  | zero => exact h
  | succ t ih =>
    have e := tabs_succ c v0 v1 v962 v963 v964 v969 v974 v979 v984 v989 v992 cst XA q ws sc T ⟨t, ht⟩
    rw [e]
    exact holds_step c v0 v1 v962 v963 v964 v969 v974 v979 v984 v989 v992 cst XA q ws sc lg hL ⟨t, ht⟩ _ (ih (by omega))

end Tabs
end Cert.KernelIdeal.Hand

end
-- ==== Proof.KernelIdeal.NormVal.lean ====
module

public import proofs.«01_k».proof.Proof.KernelIdeal.Out
public import proofs.«01_k».proof.Proof.KernelIdeal.TabsVal
import all proofs.«01_k».proof.Proof.KernelIdeal.Norm

/-! One trip of the normalisation loop as plain functions of what it loads, and the result read at an element. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

def nRow (k : Fin k0_t2_loop.trips) : ℕ :=
  (Scalar.indexCast (Scalar.muli (Scalar.addi 0#32 (Scalar.muli (Scf.iv 0#32 1#32 k) 1#32)) 8#32)).toNat
theorem nRow_eq : ∀ k, nRow k = 8 * k.val := by decide +kernel
abbrev npOff (k : Fin k0_t2_loop.trips) (t : Fin 25) (j : Fin 10) : Fin 2 → ℕ := ![nRow k, 128 * (10 * t.val + j.val)]
theorem npOff_inb (k : Fin k0_t2_loop.trips) (t : Fin 25) (j : Fin 10) : ∀ a, npOff k t j a + S8x128.size a ≤ S64x32000.size a := by
  have h1 := nRow_eq k; have h2 := k.isLt; have h3 : k0_t2_loop.trips = 8 := rfl; have h4 := j.isLt; have h5 := t.isLt
  intro a; fin_cases a
  · show nRow k + 8 ≤ 64; omega
  · show 128 * (10 * t.val + j.val) + 128 ≤ 32000; omega
abbrev nmOff (k : Fin k0_t2_loop.trips) : Fin 2 → ℕ := ![nRow k, 0]
theorem nmOff_inb (k : Fin k0_t2_loop.trips) : ∀ a, nmOff k a + S8x128.size a ≤ S64x128.size a := by
  have h1 := nRow_eq k; have h2 := k.isLt; have h3 : k0_t2_loop.trips = 8 := rfl
  intro a; fin_cases a
  · show nRow k + 8 ≤ 64; omega
  · show 0 + 128 ≤ 128; omega
abbrev ntOff (k : Fin k0_t2_loop.trips) (t : Fin 25) : Fin 3 → ℕ := ![t.val, nRow k, 0]
theorem ntOff_inb (k : Fin k0_t2_loop.trips) (t : Fin 25) : ∀ a, ntOff k t a + S1x8x128.size a ≤ S25x64x128.size a := by
  have h1 := nRow_eq k; have h2 := k.isLt; have h3 : k0_t2_loop.trips = 8 := rfl; have h5 := t.isLt
  intro a; fin_cases a
  · show t.val + 1 ≤ 25; omega
  · show nRow k + 8 ≤ 64; omega
  · show 0 + 128 ≤ 128; omega

def ts : List (Fin 25) := [24, 23, 22, 21, 20, 19, 18, 17, 16, 15, 14, 13, 12, 11, 10, 9, 8, 7, 6, 5, 4, 3, 2, 1, 0]
theorem mem_ts (t : Fin 25) : t ∈ ts := by revert t; decide

section Pieces
variable {F : FTy → Type} [FloatOps F] [Named F]
variable (c : Dev nD) (k : Fin k0_t2_loop.trips) (fp : BufOf (F := F) c pV) (fmt : BufOf (F := F) c mtV) (fm : BufOf (F := F) c mV) (fl : BufOf (F := F) c lV)

/-- The factor of tile `t`. -/
def nF (t : Fin 25) : FVec F S8x128 .f32 :=
  mulf (exp2 (subf (shapeCast S8x128 (View.readAt (Elt F) mtV.view (Rect.unit (s := S25x64x128) (ntOff k t) S1x8x128.size (ntOff_inb k t)).toLoadRect fmt) shapeCasts_S1x8x128_S8x128)
      (View.readAt (Elt F) mV.view (Rect.unit (s := S64x128) (nmOff k) S8x128.size (nmOff_inb k)).toLoadRect fm)))
    (View.readAt (Elt F) lV.view (Rect.unit (s := S64x128) (nmOff k) S8x128.size (nmOff_inb k)).toLoadRect fl)

def nVal (t : Fin 25) (j : Fin 10) : FVec F S8x128 .f32 :=
  mulf (View.readAt (Elt F) pV.view (Rect.unit (s := S64x32000) (npOff k t j) S8x128.size (npOff_inb k t j)).toLoadRect fp) (nF c k fmt fm fl t)

def nPieces (e : Fin 25 → Fin 10 → FVec F S8x128 .f32) : List (View.Piece (Elt F) S64x32000 .f32) :=
  ts.flatMap fun t => js.map fun j => ⟨Rect.unit (npOff k t j) S8x128.size (npOff_inb k t j), shapeCast S8x128 (e t j) shapeCasts_S8x128_S8x128⟩

set_option maxHeartbeats 8000000 in
theorem norm_p : normRun.sl.Hp_250 c k fp fmt fm fl = nPieces k (nVal c k fp fmt fm fl) := rfl

theorem norm_eq (v1165 : FVec F S8x128 .f32) (v1171 : FVec F S8 .f32) :
    (normRun c v1165 v1171 k fp fmt fm fl).1 = pV.view.writes (Elt F) fp (nPieces k (nVal c k fp fmt fm fl)) := by
  rw [← norm_p]; rfl

end Pieces

theorem mem_nPieces (k : Fin k0_t2_loop.trips) (e : Fin 25 → Fin 10 → FVec Ideal S8x128 .f32) (p : View.Piece (Elt Ideal) S64x32000 .f32) :
    p ∈ nPieces k e ↔ ∃ t j, p = ⟨Rect.unit (npOff k t j) S8x128.size (npOff_inb k t j), shapeCast S8x128 (e t j) shapeCasts_S8x128_S8x128⟩ := by
  unfold nPieces; rw [List.mem_flatMap]
  constructor
  · rintro ⟨g, -, h⟩; obtain ⟨j, -, rfl⟩ := List.mem_map.mp h; exact ⟨g, j, rfl⟩
  · rintro ⟨g, j, rfl⟩; exact ⟨g, mem_ts g, List.mem_map.mpr ⟨j, mem_js j, rfl⟩⟩

theorem np_emb (k : Fin k0_t2_loop.trips) (t : Fin 25) (j : Fin 10) (s : Fin 8) (a : Fin 128) :
    (Rect.unit (s := S64x32000) (npOff k t j) S8x128.size (npOff_inb k t j)).emb (ix2 s a)
      = ix2 (rowIx (k.cast rfl) s) (colIx (10 * t.val + j.val) (by have := t.isLt; omega) a) := by
  have h := nRow_eq k
  funext b; apply Fin.ext; fin_cases b
  · show nRow k + 1 * s.val = 8 * k.val + s.val; omega
  · show 128 * (10 * t.val + j.val) + 1 * a.val = 128 * (10 * t.val + j.val) + a.val; omega
theorem nm_emb (k : Fin k0_t2_loop.trips) (s : Fin 8) (a : Fin 128) :
    (Rect.unit (s := S64x128) (nmOff k) S8x128.size (nmOff_inb k)).emb (ix2 s a) = ix2 (rowIx (k.cast rfl) s) a := by
  have h := nRow_eq k
  funext b; apply Fin.ext; fin_cases b
  · show nRow k + 1 * s.val = 8 * k.val + s.val; omega
  · show 0 + 1 * a.val = a.val; omega
theorem nt_emb (k : Fin k0_t2_loop.trips) (t : Fin 25) (s : Fin 8) (a : Fin 128) :
    (Rect.unit (s := S25x64x128) (ntOff k t) S1x8x128.size (ntOff_inb k t)).emb (ix3 0 s a) = ix3 t (rowIx (k.cast rfl) s) a := by
  have h := nRow_eq k
  funext b; apply Fin.ext; fin_cases b
  · show t.val + 1 * 0 = t.val; omega
  · show nRow k + 1 * s.val = 8 * k.val + s.val; omega
  · show 0 + 1 * a.val = a.val; omega

theorem read_n {sp : Space} (v : View sig .tc sp S64x32000 .f32) (f : v.ty.Contents (Elt Ideal)) (k : Fin k0_t2_loop.trips) (e : Fin 25 → Fin 10 → FVec Ideal S8x128 .f32)
    (t : Fin 25) (s : Fin 8) (j : Fin 10) (a : Fin 128) (hn : 10 * t.val + j.val < 250) :
    v.read (Elt Ideal) (v.writes (Elt Ideal) f (nPieces k e)) (ix2 (rowIx (k.cast rfl) s) (colIx (10 * t.val + j.val) hn a)) = e t j (ix2 s a) := by
  have hp := (mem_nPieces k e _).mpr ⟨t, j, rfl⟩
  let G : S64x32000.Idx → Elt Ideal .f32 := fun y =>
    e ⟨(y 1).val / 1280, by have : (y 1).val < 32000 := (y 1).isLt; omega⟩ ⟨(y 1).val / 128 % 10, by omega⟩ (ix2 ⟨(y 0).val % 8, by omega⟩ ⟨(y 1).val % 128, by omega⟩)
  have hGr : ∀ t g s j a hn, G (ix2 (rowIx g s) (colIx (10 * t.val + j.val) hn a)) = e t j (ix2 s a) := by
    intro t g s j a hn
    show e ⟨(128 * (10 * t.val + j.val) + a.val) / 1280, _⟩ ⟨(128 * (10 * t.val + j.val) + a.val) / 128 % 10, _⟩ (ix2 ⟨(8 * g.val + s.val) % 8, _⟩ ⟨(128 * (10 * t.val + j.val) + a.val) % 128, _⟩) = _
    have e1 : (⟨(128 * (10 * t.val + j.val) + a.val) / 1280, by omega⟩ : Fin 25) = t := Fin.ext (by show (128 * (10 * t.val + j.val) + a.val) / 1280 = t.val; omega)
    have e2 : (⟨(128 * (10 * t.val + j.val) + a.val) / 128 % 10, by omega⟩ : Fin 10) = j := Fin.ext (by show (128 * (10 * t.val + j.val) + a.val) / 128 % 10 = j.val; omega)
    have e3 : (⟨(8 * g.val + s.val) % 8, by omega⟩ : Fin 8) = s := Fin.ext (by show (8 * g.val + s.val) % 8 = s.val; omega)
    have e4 : (⟨(128 * (10 * t.val + j.val) + a.val) % 128, by omega⟩ : Fin 128) = a := Fin.ext (by show (128 * (10 * t.val + j.val) + a.val) % 128 = a.val; omega)
    rw [e1, e2, e3, e4]
  have h := read_piece v f (nPieces k e) G (by
    intro p hp x
    obtain ⟨t, j, rfl⟩ := (mem_nPieces k e _).mp hp
    obtain ⟨s, a, rfl⟩ : ∃ (s : Fin 8) (a : Fin 128), x = ix2 s a := ⟨x 0, x 1, eq_ix2 x⟩
    show shapeCast S8x128 (e t j) _ (ix2 s a) = G ((Rect.unit (s := S64x32000) (npOff k t j) S8x128.size (npOff_inb k t j)).emb (ix2 s a))
    rw [np_emb, hGr, shapeCast_self]) _ hp (ix2 s a)
  change v.read (Elt Ideal) _ ((Rect.unit (s := S64x32000) (npOff k t j) S8x128.size (npOff_inb k t j)).emb (ix2 s a)) = G ((Rect.unit (s := S64x32000) (npOff k t j) S8x128.size (npOff_inb k t j)).emb (ix2 s a)) at h
  rw [np_emb, hGr] at h
  exact h

/-- An element of the result: the stored exponential, brought to the row's maximum, times the reciprocal of the row's sum. -/
theorem targetOf_apply (c : Dev nD) (v1165 : FVec Ideal S8x128 .f32) (v1171 : FVec Ideal S8 .f32)
    (fp : BufOf (F := Ideal) c pV) (fmt : BufOf (F := Ideal) c mtV) (fm : BufOf (F := Ideal) c mV) (fl : BufOf (F := Ideal) c lV)
    (i : Fin 64) (n : ℕ) (hn : n < 250) (a : Fin 128) :
    (targetOf c (finalRows c v1165 v1171 fp fmt fm fl) : S64x32000.Idx → EReal) (ix2 i (colIx n hn a))
      = pV.view.read (Elt Ideal) fp (ix2 i (colIx n hn a))
        * (Ideal.exp2 (mtV.view.read (Elt Ideal) fmt (ix3 ⟨n / 10, by omega⟩ i a) - mV.view.read (Elt Ideal) fm (ix2 i a))
          * lV.view.read (Elt Ideal) fl (ix2 i a)) := by
  obtain ⟨g, s, rfl⟩ := exists_rowIx i
  obtain ⟨t, j, rfl⟩ : ∃ (t : Fin 25) (j : Fin 10), n = 10 * t.val + j.val := ⟨⟨n / 10, by omega⟩, ⟨n % 10, by omega⟩, by show n = 10 * (n / 10) + n % 10; omega⟩
  have et : (⟨(10 * t.val + j.val) / 10, by omega⟩ : Fin 25) = t := Fin.ext (by show (10 * t.val + j.val) / 10 = t.val; omega)
  have eg : (⟨(8 * g.val + s.val) / 8, by omega⟩ : Fin 8) = g := Fin.ext (by show (8 * g.val + s.val) / 8 = g.val; omega)
  rw [et]
  have e : (targetOf c (finalRows c v1165 v1171 fp fmt fm fl) : S64x32000.Idx → EReal) (ix2 (rowIx g s) (colIx (10 * t.val + j.val) hn a))
      = pV.view.read (Elt Ideal) (finalRows c v1165 v1171 fp fmt fm fl g) (ix2 (rowIx g s) (colIx (10 * t.val + j.val) hn a)) := by
    show pV.view.read (Elt Ideal) (finalRows c v1165 v1171 fp fmt fm fl ⟨(8 * g.val + s.val) / 8, _⟩) _ = _
    rw [eg]
  rw [e]
  unfold finalRows
  rw [norm_eq]
  refine (read_n pV.view fp (g.cast trips8.symm) _ t s j a hn).trans ?_
  show View.readAt (Elt Ideal) pV.view (Rect.unit (s := S64x32000) (npOff (g.cast trips8.symm) t j) S8x128.size (npOff_inb (g.cast trips8.symm) t j)).toLoadRect fp (ix2 s a)
      * (Ideal.exp2 (shapeCast S8x128 (View.readAt (Elt Ideal) mtV.view (Rect.unit (s := S25x64x128) (ntOff (g.cast trips8.symm) t) S1x8x128.size (ntOff_inb (g.cast trips8.symm) t)).toLoadRect fmt) shapeCasts_S1x8x128_S8x128 (ix2 s a)
          - View.readAt (Elt Ideal) mV.view (Rect.unit (s := S64x128) (nmOff (g.cast trips8.symm)) S8x128.size (nmOff_inb (g.cast trips8.symm))).toLoadRect fm (ix2 s a))
        * View.readAt (Elt Ideal) lV.view (Rect.unit (s := S64x128) (nmOff (g.cast trips8.symm)) S8x128.size (nmOff_inb (g.cast trips8.symm))).toLoadRect fl (ix2 s a)) = _
  have h1 : View.readAt (Elt Ideal) pV.view (Rect.unit (s := S64x32000) (npOff (g.cast trips8.symm) t j) S8x128.size (npOff_inb (g.cast trips8.symm) t j)).toLoadRect fp (ix2 s a)
      = pV.view.read (Elt Ideal) fp (ix2 (rowIx g s) (colIx (10 * t.val + j.val) hn a)) := congrArg (pV.view.read (Elt Ideal) fp) (np_emb (g.cast trips8.symm) t j s a)
  have h2 : View.readAt (Elt Ideal) mV.view (Rect.unit (s := S64x128) (nmOff (g.cast trips8.symm)) S8x128.size (nmOff_inb (g.cast trips8.symm))).toLoadRect fm (ix2 s a)
      = mV.view.read (Elt Ideal) fm (ix2 (rowIx g s) a) := congrArg (mV.view.read (Elt Ideal) fm) (nm_emb (g.cast trips8.symm) s a)
  have h3 : View.readAt (Elt Ideal) lV.view (Rect.unit (s := S64x128) (nmOff (g.cast trips8.symm)) S8x128.size (nmOff_inb (g.cast trips8.symm))).toLoadRect fl (ix2 s a)
      = lV.view.read (Elt Ideal) fl (ix2 (rowIx g s) a) := congrArg (lV.view.read (Elt Ideal) fl) (nm_emb (g.cast trips8.symm) s a)
  have h4 : shapeCast S8x128 (View.readAt (Elt Ideal) mtV.view (Rect.unit (s := S25x64x128) (ntOff (g.cast trips8.symm) t) S1x8x128.size (ntOff_inb (g.cast trips8.symm) t)).toLoadRect fmt) shapeCasts_S1x8x128_S8x128 (ix2 s a)
      = mtV.view.read (Elt Ideal) fmt (ix3 t (rowIx g s) a) := by
    refine (shapeCast_dropUnit_apply (d := ![8, 128]) _ _ (ix2 s a)).trans ?_
    refine (congrArg (mtV.view.read (Elt Ideal) fmt) ?_ : _)
    refine Eq.trans ?_ (nt_emb (g.cast trips8.symm) t s a)
    refine congrArg (Rect.unit (s := S25x64x128) (ntOff (g.cast trips8.symm) t) S1x8x128.size (ntOff_inb (g.cast trips8.symm) t)).emb ?_
    funext b; fin_cases b <;> rfl
  rw [h1, h2, h3, h4]

end Cert.KernelIdeal.Hand

end
-- ==== Proof.KernelIdeal.Names.lean ====
module

public import proofs.«01_k».proof.Proof.KernelIdeal.Split

/-! The canonical names of the slices the body spells with constants: slots, tiles and row blocks 0–7. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

@[sl_canon] theorem semL0 (hh) : (cc0_scratch11.slice (Rect.unit (s := S8) ![0] S1.size hh)).squeeze S_ squeezes_S1_S_ = csm 0 := csm_congr (by decide) _
@[sl_canon] theorem slotL0 (hh hs) : (wV.slice (Rect.unit (s := S8x1024x1280) ![0, 0, 0] S1x1024x1280.size hh) hs).squeeze S1024x1280 squeezes_S1x1024x1280_S1024x1280 = rslot 0 := rslot_congr (by decide) _ _
@[sl_canon] theorem tileL0 (hh hs) : wH.slice (Rect.unit (s := S1024x32000) ![0, 0] S1024x1280.size hh) hs = tile 0 := tile_congr (by decide) _ _
@[sl_canon] theorem prowL0 (hh hs) : pV.slice (Rect.unit (s := S64x32000) ![0, 0] S8x32000.size hh) hs = prow (Ring.bk 8 0) := prow_congr (by decide) _ _
@[sl_canon] theorem trowL0 (hh hs) : targetH.slice (Rect.unit (s := S64x32000) ![0, 0] S8x32000.size hh) hs = trow (Ring.bk 8 0) := trow_congr (by decide) _ _
@[sl_canon] theorem semL1 (hh) : (cc0_scratch11.slice (Rect.unit (s := S8) ![1] S1.size hh)).squeeze S_ squeezes_S1_S_ = csm 1 := csm_congr (by decide) _
@[sl_canon] theorem slotL1 (hh hs) : (wV.slice (Rect.unit (s := S8x1024x1280) ![1, 0, 0] S1x1024x1280.size hh) hs).squeeze S1024x1280 squeezes_S1x1024x1280_S1024x1280 = rslot 1 := rslot_congr (by decide) _ _
@[sl_canon] theorem tileL1 (hh hs) : wH.slice (Rect.unit (s := S1024x32000) ![0, 1280] S1024x1280.size hh) hs = tile 1 := tile_congr (by decide) _ _
@[sl_canon] theorem prowL1 (hh hs) : pV.slice (Rect.unit (s := S64x32000) ![8, 0] S8x32000.size hh) hs = prow (Ring.bk 8 1) := prow_congr (by decide) _ _
@[sl_canon] theorem trowL1 (hh hs) : targetH.slice (Rect.unit (s := S64x32000) ![8, 0] S8x32000.size hh) hs = trow (Ring.bk 8 1) := trow_congr (by decide) _ _
@[sl_canon] theorem semL2 (hh) : (cc0_scratch11.slice (Rect.unit (s := S8) ![2] S1.size hh)).squeeze S_ squeezes_S1_S_ = csm 2 := csm_congr (by decide) _
@[sl_canon] theorem slotL2 (hh hs) : (wV.slice (Rect.unit (s := S8x1024x1280) ![2, 0, 0] S1x1024x1280.size hh) hs).squeeze S1024x1280 squeezes_S1x1024x1280_S1024x1280 = rslot 2 := rslot_congr (by decide) _ _
@[sl_canon] theorem tileL2 (hh hs) : wH.slice (Rect.unit (s := S1024x32000) ![0, 2560] S1024x1280.size hh) hs = tile 2 := tile_congr (by decide) _ _
@[sl_canon] theorem prowL2 (hh hs) : pV.slice (Rect.unit (s := S64x32000) ![16, 0] S8x32000.size hh) hs = prow (Ring.bk 8 2) := prow_congr (by decide) _ _
@[sl_canon] theorem trowL2 (hh hs) : targetH.slice (Rect.unit (s := S64x32000) ![16, 0] S8x32000.size hh) hs = trow (Ring.bk 8 2) := trow_congr (by decide) _ _
@[sl_canon] theorem semL3 (hh) : (cc0_scratch11.slice (Rect.unit (s := S8) ![3] S1.size hh)).squeeze S_ squeezes_S1_S_ = csm 3 := csm_congr (by decide) _
@[sl_canon] theorem slotL3 (hh hs) : (wV.slice (Rect.unit (s := S8x1024x1280) ![3, 0, 0] S1x1024x1280.size hh) hs).squeeze S1024x1280 squeezes_S1x1024x1280_S1024x1280 = rslot 3 := rslot_congr (by decide) _ _
@[sl_canon] theorem tileL3 (hh hs) : wH.slice (Rect.unit (s := S1024x32000) ![0, 3840] S1024x1280.size hh) hs = tile 3 := tile_congr (by decide) _ _
@[sl_canon] theorem prowL3 (hh hs) : pV.slice (Rect.unit (s := S64x32000) ![24, 0] S8x32000.size hh) hs = prow (Ring.bk 8 3) := prow_congr (by decide) _ _
@[sl_canon] theorem trowL3 (hh hs) : targetH.slice (Rect.unit (s := S64x32000) ![24, 0] S8x32000.size hh) hs = trow (Ring.bk 8 3) := trow_congr (by decide) _ _
@[sl_canon] theorem semL4 (hh) : (cc0_scratch11.slice (Rect.unit (s := S8) ![4] S1.size hh)).squeeze S_ squeezes_S1_S_ = csm 4 := csm_congr (by decide) _
@[sl_canon] theorem slotL4 (hh hs) : (wV.slice (Rect.unit (s := S8x1024x1280) ![4, 0, 0] S1x1024x1280.size hh) hs).squeeze S1024x1280 squeezes_S1x1024x1280_S1024x1280 = rslot 4 := rslot_congr (by decide) _ _
@[sl_canon] theorem tileL4 (hh hs) : wH.slice (Rect.unit (s := S1024x32000) ![0, 5120] S1024x1280.size hh) hs = tile 4 := tile_congr (by decide) _ _
@[sl_canon] theorem prowL4 (hh hs) : pV.slice (Rect.unit (s := S64x32000) ![32, 0] S8x32000.size hh) hs = prow (Ring.bk 8 4) := prow_congr (by decide) _ _
@[sl_canon] theorem trowL4 (hh hs) : targetH.slice (Rect.unit (s := S64x32000) ![32, 0] S8x32000.size hh) hs = trow (Ring.bk 8 4) := trow_congr (by decide) _ _
@[sl_canon] theorem semL5 (hh) : (cc0_scratch11.slice (Rect.unit (s := S8) ![5] S1.size hh)).squeeze S_ squeezes_S1_S_ = csm 5 := csm_congr (by decide) _
@[sl_canon] theorem slotL5 (hh hs) : (wV.slice (Rect.unit (s := S8x1024x1280) ![5, 0, 0] S1x1024x1280.size hh) hs).squeeze S1024x1280 squeezes_S1x1024x1280_S1024x1280 = rslot 5 := rslot_congr (by decide) _ _
@[sl_canon] theorem tileL5 (hh hs) : wH.slice (Rect.unit (s := S1024x32000) ![0, 6400] S1024x1280.size hh) hs = tile 5 := tile_congr (by decide) _ _
@[sl_canon] theorem prowL5 (hh hs) : pV.slice (Rect.unit (s := S64x32000) ![40, 0] S8x32000.size hh) hs = prow (Ring.bk 8 5) := prow_congr (by decide) _ _
@[sl_canon] theorem trowL5 (hh hs) : targetH.slice (Rect.unit (s := S64x32000) ![40, 0] S8x32000.size hh) hs = trow (Ring.bk 8 5) := trow_congr (by decide) _ _
@[sl_canon] theorem semL6 (hh) : (cc0_scratch11.slice (Rect.unit (s := S8) ![6] S1.size hh)).squeeze S_ squeezes_S1_S_ = csm 6 := csm_congr (by decide) _
@[sl_canon] theorem slotL6 (hh hs) : (wV.slice (Rect.unit (s := S8x1024x1280) ![6, 0, 0] S1x1024x1280.size hh) hs).squeeze S1024x1280 squeezes_S1x1024x1280_S1024x1280 = rslot 6 := rslot_congr (by decide) _ _
@[sl_canon] theorem tileL6 (hh hs) : wH.slice (Rect.unit (s := S1024x32000) ![0, 7680] S1024x1280.size hh) hs = tile 6 := tile_congr (by decide) _ _
@[sl_canon] theorem prowL6 (hh hs) : pV.slice (Rect.unit (s := S64x32000) ![48, 0] S8x32000.size hh) hs = prow (Ring.bk 8 6) := prow_congr (by decide) _ _
@[sl_canon] theorem trowL6 (hh hs) : targetH.slice (Rect.unit (s := S64x32000) ![48, 0] S8x32000.size hh) hs = trow (Ring.bk 8 6) := trow_congr (by decide) _ _
@[sl_canon] theorem semL7 (hh) : (cc0_scratch11.slice (Rect.unit (s := S8) ![7] S1.size hh)).squeeze S_ squeezes_S1_S_ = csm 7 := csm_congr (by decide) _
@[sl_canon] theorem slotL7 (hh hs) : (wV.slice (Rect.unit (s := S8x1024x1280) ![7, 0, 0] S1x1024x1280.size hh) hs).squeeze S1024x1280 squeezes_S1x1024x1280_S1024x1280 = rslot 7 := rslot_congr (by decide) _ _
@[sl_canon] theorem tileL7 (hh hs) : wH.slice (Rect.unit (s := S1024x32000) ![0, 8960] S1024x1280.size hh) hs = tile 7 := tile_congr (by decide) _ _
@[sl_canon] theorem prowL7 (hh hs) : pV.slice (Rect.unit (s := S64x32000) ![56, 0] S8x32000.size hh) hs = prow (Ring.bk 8 7) := prow_congr (by decide) _ _
@[sl_canon] theorem trowL7 (hh hs) : targetH.slice (Rect.unit (s := S64x32000) ![56, 0] S8x32000.size hh) hs = trow (Ring.bk 8 7) := trow_congr (by decide) _ _

end Cert.KernelIdeal.Hand

end
-- ==== Proof.KernelIdeal.Run.lean ====
module

public import proofs.«01_k».proof.Proof.KernelIdeal.Names
public import proofs.«01_k».proof.Proof.KernelIdeal.Loop1
public import proofs.«01_k».proof.Proof.KernelIdeal.Loop2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- At the start, trip `p`'s role is the prologue's copy. -/
theorem role_start (c : Dev nD) (XA : BufOf (F := F) c wH) (p : ℕ) (h : p < 25) :
    iprop(∃ f, flightP c XA (Ring.sl 8 p) (Ring.bk 25 p) f) ⊢ role c XA p := by rw [role_lt c XA h]

/-- The target result's exit batch semaphore, and the two of the small results. -/
abbrev cellD (c : Dev nD) (j : Fin 20) : sProp 𝕄 := semVal ((c : Thread nD τ), SemLoc.dma j) 0
abbrev cellT (c : Dev nD) : sProp 𝕄 :=
  semVal ((c : Thread nD τ), SemLoc.dma ((cc0_scratch12.slice (Rect.unit (s := S6) ![0] S1.size inb_S6_S1_0)).squeeze S_ squeezes_S1_S_).sem) 0

/-- The tile loop's entry. -/
theorem inv1_start (c : Dev nD)
    (v0 : IVec S8x128 32) (v1 : IVec S8x128 32) (v962 v963 v964 v969 v974 v979 v984 v989 : Vec F S8x128 .f32) (v992 : IVec S8x128 1) (cst : F .f32)
    (XA : BufOf (F := F) c wH) (q : BufOf (F := F) c codesV) (ws : BufOf (F := F) c wsV) (sc : BufOf (F := F) c scaleV)
    (p : BufOf (F := F) c pV) (mt : BufOf (F := F) c mtV) (m : BufOf (F := F) c mV) (l : BufOf (F := F) c lV) (f : BufOf (F := F) c wV) :
    iprop(flightP c XA 0 0 f ∗ flightP c XA 1 1 f ∗ flightP c XA 2 2 f ∗ flightP c XA 3 3 f ∗ flightP c XA 4 4 f ∗ flightP c XA 5 5 f
        ∗ flightP c XA 6 6 f ∗ flightP c XA 7 7 f ∗ bigSep (Ring.homeSet 8 0) (homeP c XA) ∗ pt c codesV q ∗ pt c wsV ws ∗ pt c scaleV sc
        ∗ pt c pV p ∗ pt c mtV mt ∗ pt c mV m ∗ pt c lV l ∗ (∃ W, owes (c : Thread nD τ) 0 W))
      ⊢ inv1 c v0 v1 v962 v963 v964 v969 v974 v979 v984 v989 v992 cst XA q ws sc (p, mt, m, l) 0 () := by
  unfold inv1 ringP tabs
  iintro ⟨Hc0, Hc1, Hc2, Hc3, Hc4, Hc5, Hc6, Hc7, H⟩
  isplitl [Hc0 Hc1 Hc2 Hc3 Hc4 Hc5 Hc6 Hc7]
  · isplitl [Hc0]; · iapply (role_start c XA 0 (by decide)); iexists f; iexact Hc0
    isplitl [Hc1]; · iapply (role_start c XA 1 (by decide)); iexists f; iexact Hc1
    isplitl [Hc2]; · iapply (role_start c XA 2 (by decide)); iexists f; iexact Hc2
    isplitl [Hc3]; · iapply (role_start c XA 3 (by decide)); iexists f; iexact Hc3
    isplitl [Hc4]; · iapply (role_start c XA 4 (by decide)); iexists f; iexact Hc4
    isplitl [Hc5]; · iapply (role_start c XA 5 (by decide)); iexists f; iexact Hc5
    isplitl [Hc6]; · iapply (role_start c XA 6 (by decide)); iexists f; iexact Hc6
    iapply (role_start c XA 7 (by decide)); iexists f; iexact Hc7
  iexact H

/-- The tile loop's exit: every tile at home, every slot free. -/
theorem inv1_end (c : Dev nD)
    (v0 : IVec S8x128 32) (v1 : IVec S8x128 32) (v962 v963 v964 v969 v974 v979 v984 v989 : Vec F S8x128 .f32) (v992 : IVec S8x128 1) (cst : F .f32)
    (XA : BufOf (F := F) c wH) (q : BufOf (F := F) c codesV) (ws : BufOf (F := F) c wsV) (sc : BufOf (F := F) c scaleV)
    (S0 : TabsT (F := F) c) (acc : Unit) :
    inv1 c v0 v1 v962 v963 v964 v969 v974 v979 v984 v989 v992 cst XA q ws sc S0 k0_t1_loop.trips acc
      ⊢ iprop(iprop(cellP c 0 ∗ cellP c 1 ∗ cellP c 2 ∗ cellP c 3 ∗ cellP c 4 ∗ cellP c 5 ∗ cellP c 6 ∗ cellP c 7) ∗ (∃ f, pt c wV f) ∗ pt c wH XA ∗ pt c codesV q ∗ pt c wsV ws ∗ pt c scaleV sc
        ∗ pt c pV (tabs c v0 v1 v962 v963 v964 v969 v974 v979 v984 v989 v992 cst XA q ws sc S0 25).1
        ∗ pt c mtV (tabs c v0 v1 v962 v963 v964 v969 v974 v979 v984 v989 v992 cst XA q ws sc S0 25).2.1
        ∗ pt c mV (tabs c v0 v1 v962 v963 v964 v969 v974 v979 v984 v989 v992 cst XA q ws sc S0 25).2.2.1
        ∗ pt c lV (tabs c v0 v1 v962 v963 v964 v969 v974 v979 v984 v989 v992 cst XA q ws sc S0 25).2.2.2
        ∗ (∃ W, owes (c : Thread nD τ) 0 W)) := by
  rw [show k0_t1_loop.trips = 25 from rfl]
  unfold inv1 ringP
  rw [role_ge c XA (p := 25) (by decide), role_ge c XA (p := 25 + 1) (by decide), role_ge c XA (p := 25 + 2) (by decide), role_ge c XA (p := 25 + 3) (by decide),
    role_ge c XA (p := 25 + 4) (by decide), role_ge c XA (p := 25 + 5) (by decide), role_ge c XA (p := 25 + 6) (by decide), role_ge c XA (p := 25 + 7) (by decide),
    Ring.homeSet_last 8 25 le_rfl, ← w_eq]
  iintro ⟨⟨⟨Hc1, Hs1⟩, ⟨Hc2, Hs2⟩, ⟨Hc3, Hs3⟩, ⟨Hc4, Hs4⟩, ⟨Hc5, Hs5⟩, ⟨Hc6, Hs6⟩, ⟨Hc7, Hs7⟩, ⟨Hc0, Hs0⟩⟩, H⟩
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [Hs0 Hs1 Hs2 Hs3 Hs4 Hs5 Hs6 Hs7]
  · iapply (ring_join c)
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iexact H

set_option maxHeartbeats 4000000 in
/-- The body run. -/
noncomputable def kernelRun (c : Dev nD) (fx : BufOf (F := F) c xH) (fw : BufOf (F := F) c wH) (fs : BufOf (F := F) c wsH)
    (g0 : BufOf (F := F) c targetH) (g1 : BufOf (F := F) c codesH) (g2 : BufOf (F := F) c scalesH)
    (f0 : BufOf (F := F) c xV) (f1 : BufOf (F := F) c codesV) (f2 : BufOf (F := F) c wV) (f3 : BufOf (F := F) c wsV) (f4 : BufOf (F := F) c pV)
    (f5 : BufOf (F := F) c mtV) (f6 : BufOf (F := F) c scaleV) (f7 : BufOf (F := F) c mV) (f8 : BufOf (F := F) c lV) (f9 : BufOf (F := F) c rowV) :
    { G : (Fin 8 → BufOf (F := F) c pV) × BufOf (F := F) c codesH × BufOf (F := F) c scalesH //
      ∀ (W : Waits sig Unit) (K : PUnit → sProp 𝕄),
        iprop(pt c xH fx ∗ pt c wH fw ∗ pt c wsH fs ∗ pt c targetH g0 ∗ pt c codesH g1 ∗ pt c scalesH g2
            ∗ pt c xV f0 ∗ pt c codesV f1 ∗ pt c wV f2 ∗ pt c wsV f3 ∗ pt c pV f4 ∗ pt c mtV f5 ∗ pt c scaleV f6 ∗ pt c mV f7 ∗ pt c lV f8 ∗ pt c rowV f9
            ∗ iprop(cellP c 0 ∗ cellP c 1 ∗ cellP c 2 ∗ cellP c 3 ∗ cellP c 4 ∗ cellP c 5 ∗ cellP c 6 ∗ cellP c 7)
            ∗ cellD c 0 ∗ cellD c 1 ∗ cellT c ∗ cellD c 18 ∗ cellD c 19
            ∗ owes (c : Thread nD τ) 0 W
            ∗ (iprop(pt c xH fx ∗ pt c wH fw ∗ pt c wsH fs ∗ bigSep Finset.univ (outD c G.1) ∗ pt c codesH G.2.1 ∗ pt c scalesH G.2.2
                ∗ (∃ f, pt c xV f) ∗ (∃ f, pt c codesV f) ∗ (∃ f, pt c wV f) ∗ (∃ f, pt c wsV f) ∗ (∃ f, pt c mtV f)
                ∗ (∃ f, pt c scaleV f) ∗ (∃ f, pt c mV f) ∗ (∃ f, pt c lV f) ∗ (∃ f, pt c rowV f)
                ∗ iprop(cellP c 0 ∗ cellP c 1 ∗ cellP c 2 ∗ cellP c 3 ∗ cellP c 4 ∗ cellP c 5 ∗ cellP c 6 ∗ cellP c 7)
                ∗ cellD c 0 ∗ cellD c 1 ∗ cellT c ∗ cellD c 18 ∗ cellD c 19
                ∗ (∃ W', owes (c : Thread nD τ) 0 W')) -∗ K ⟨⟩))
          ⊢ wp frame (wpE (defs₀ (F := F)) Variants.none c none) Set.univ
              (cc0_spectr_verify xH (Memref.isWhole_whole _) wH (Memref.isWhole_whole _) wsH (Memref.isWhole_whole _)
                targetH (Memref.isWhole_whole _) codesH (Memref.isWhole_whole _) scalesH (Memref.isWhole_whole _)
                xV (Memref.isWhole_whole _) codesV (Memref.isWhole_whole _) wV (Memref.isWhole_whole _) wsV (Memref.isWhole_whole _)
                pV (Memref.isWhole_whole _) mtV (Memref.isWhole_whole _) scaleV (Memref.isWhole_whole _) mV (Memref.isWhole_whole _)
                lV (Memref.isWhole_whole _) rowV (Memref.isWhole_whole _) cc0_scratch10 cc0_scratch11 cc0_scratch12) K } := by
  refine ⟨(?_, ?_, ?_), fun W K => ?run⟩
  case run =>
    simp only [cc0_spectr_verify_eq_skeleton]; unfold cc0_spectr_verify_skel
    iintro ⟨Hx, Hw, Hs, Ht, Hc, Hsr, H0, H1, H2, H3, H4, H5, H6, H7, H8, H9, ⟨Hc0, Hc1, Hc2, Hc3, Hc4, Hc5, Hc6, Hc7⟩, Hd0, Hd1, Hdt, Hd18, Hd19, HW, Hk⟩
    ihave Hw2 := (Entails.of_eq ((w_eq c fw).trans (homes_zero c fw))) $$ [Hw]
    · iexact Hw
    icases Hw2 with ⟨Ht0, Ht1, Ht2, Ht3, Ht4, Ht5, Ht6, Ht7, Hh⟩
    ihave Hr2 := (ring_split c f2) $$ [H2]
    · iexact H2
    icases Hr2 with ⟨Hr0, Hr1, Hr2, Hr3, Hr4, Hr5, Hr6, Hr7⟩
    sl_exec
    sl_for (inv1 c kernelRun.sl.v0 kernelRun.sl.v1 (kernelRun.sl.v962 c fx f0) (kernelRun.sl.v963 c fx f0) (kernelRun.sl.v964 c fx f0)
        (kernelRun.sl.v969 c fx f0) (kernelRun.sl.v974 c fx f0) (kernelRun.sl.v979 c fx f0) (kernelRun.sl.v984 c fx f0) (kernelRun.sl.v989 c fx f0)
        kernelRun.sl.v992 kernelRun.sl.cst_376 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1)) $$ [Hc0 Hc1 Hc2 Hc3 Hc4 Hc5 Hc6 Hc7 Hh H1 H3 H6 H4 H5 H7 H8 HW]
    · intro k acc; exact inv1_step c _ _ _ _ _ _ _ _ _ _ _ _ _ _ _ _ _ k acc
    · iapply (inv1_start c _ _ _ _ _ _ _ _ _ _ _ _ fw _ _ _ _ _ _ _ f2)
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hh]; · iexact Hh
      isplitl [H1]; · iexact H1
      isplitl [H3]; · iexact H3
      isplitl [H6]; · iexact H6
      isplitl [H4]; · iexact H4
      isplitl [H5]; · iexact H5
      isplitl [H7]; · iexact H7
      isplitl [H8]; · iexact H8
      iexists _; iexact HW
    iintro %acc HL
    ihave HL2 := (inv1_end c _ _ _ _ _ _ _ _ _ _ _ _ fw _ _ _ _ acc) $$ [HL]
    · iexact HL
    icases HL2 with ⟨Hcells, ⟨%fw2, H2⟩, Hw, H1, H3, H6, H4, H5, H7, H8, ⟨%W1, HW⟩⟩
    sl_exec
    imod (inv2_start c (kernelRun.sl.v962 c fx f0) (fun _ => kernelRun.sl.cst_376)
      (tabs c kernelRun.sl.v0 kernelRun.sl.v1 (kernelRun.sl.v962 c fx f0) (kernelRun.sl.v963 c fx f0) (kernelRun.sl.v964 c fx f0)
        (kernelRun.sl.v969 c fx f0) (kernelRun.sl.v974 c fx f0) (kernelRun.sl.v979 c fx f0) (kernelRun.sl.v984 c fx f0) (kernelRun.sl.v989 c fx f0)
        kernelRun.sl.v992 kernelRun.sl.cst_376 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).1
      (tabs c kernelRun.sl.v0 kernelRun.sl.v1 (kernelRun.sl.v962 c fx f0) (kernelRun.sl.v963 c fx f0) (kernelRun.sl.v964 c fx f0)
        (kernelRun.sl.v969 c fx f0) (kernelRun.sl.v974 c fx f0) (kernelRun.sl.v979 c fx f0) (kernelRun.sl.v984 c fx f0) (kernelRun.sl.v989 c fx f0)
        kernelRun.sl.v992 kernelRun.sl.cst_376 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).2.1
      (mV.view.writes (Elt F) mV.view.junk (kernelRun.sl.H7_8 c fx fw fs f0 f3 f4 f5)) (lV.view.writes (Elt F) lV.view.junk (kernelRun.sl.H8_8 c fx fw fs f0 f3 f4 f5)) g0) $$ [Hdt H5 H7 H8 H4 Ht] with HI
    · isplitl [Hdt]; · iexact Hdt
      isplitl [H5]; · iexact H5
      isplitl [H7]; · iexact H7
      isplitl [H8]; · iexact H8
      isplitl [H4]; · iexact H4
      iexact Ht
    sl_for (inv2 c (kernelRun.sl.v962 c fx f0) (fun _ => kernelRun.sl.cst_376)
      (tabs c kernelRun.sl.v0 kernelRun.sl.v1 (kernelRun.sl.v962 c fx f0) (kernelRun.sl.v963 c fx f0) (kernelRun.sl.v964 c fx f0)
        (kernelRun.sl.v969 c fx f0) (kernelRun.sl.v974 c fx f0) (kernelRun.sl.v979 c fx f0) (kernelRun.sl.v984 c fx f0) (kernelRun.sl.v989 c fx f0)
        kernelRun.sl.v992 kernelRun.sl.cst_376 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).1
      (tabs c kernelRun.sl.v0 kernelRun.sl.v1 (kernelRun.sl.v962 c fx f0) (kernelRun.sl.v963 c fx f0) (kernelRun.sl.v964 c fx f0)
        (kernelRun.sl.v969 c fx f0) (kernelRun.sl.v974 c fx f0) (kernelRun.sl.v979 c fx f0) (kernelRun.sl.v984 c fx f0) (kernelRun.sl.v989 c fx f0)
        kernelRun.sl.v992 kernelRun.sl.cst_376 fw (codesV.view.writes (Elt F) codesV.view.junk (kernelRun.sl.H1_1 c fx f0))
        (View.write (Elt F) wsV.view f3 (kernelRun.sl.dma0_1 c fs) Finset.univ) (scaleV.view.writes (Elt F) scaleV.view.junk (kernelRun.sl.H6_8 c fx f0))
        (pV.view.writes (Elt F) f4 (kernelRun.sl.H4_8 c fx f0), f5, mV.view.writes (Elt F) mV.view.junk kernelRun.sl.H7_1,
          lV.view.writes (Elt F) lV.view.junk kernelRun.sl.H8_1) 25).2.1
      (mV.view.writes (Elt F) mV.view.junk (kernelRun.sl.H7_8 c fx fw fs f0 f3 f4 f5)) (lV.view.writes (Elt F) lV.view.junk (kernelRun.sl.H8_8 c fx fw fs f0 f3 f4 f5)) g0) $$ [HI]
    · intro k acc; exact inv2_step c _ _ _ _ _ _ _ k acc
    · iexact HI
    iintro %acc2 HL2
    ihave HL3 := (inv2_end c _ _ _ _ _ _ _ acc2) $$ [HL2]
    · iexact HL2
    icases HL3 with ⟨HB, H5, H7, H8, Hpr, Htr⟩
    sl_exec
    sl_step
    iapply Hk
    isplitl [Hx]; · iexact Hx
    isplitl [Hw]; · iexact Hw
    isplitl [Hs]; · iexact Hs
    isplitl [HB_dst0 HB_src0 HB_dst1 HB_src1 HB_dst2 HB_src2 HB_dst3 HB_src3 HB_dst4 HB_src4 HB_dst5 HB_src5 HB_dst6 HB_src6 HB_dst7 HB_src7]
    · iapply (Entails.of_eq (bigSep_fin8 (outD c _)).symm)
      isplitl [HB_dst0 HB_src0]
      · isplitl [HB_dst0]; · iexact HB_dst0
        iexact HB_src0
      isplitl [HB_dst1 HB_src1]
      · isplitl [HB_dst1]; · iexact HB_dst1
        iexact HB_src1
      isplitl [HB_dst2 HB_src2]
      · isplitl [HB_dst2]; · iexact HB_dst2
        iexact HB_src2
      isplitl [HB_dst3 HB_src3]
      · isplitl [HB_dst3]; · iexact HB_dst3
        iexact HB_src3
      isplitl [HB_dst4 HB_src4]
      · isplitl [HB_dst4]; · iexact HB_dst4
        iexact HB_src4
      isplitl [HB_dst5 HB_src5]
      · isplitl [HB_dst5]; · iexact HB_dst5
        iexact HB_src5
      isplitl [HB_dst6 HB_src6]
      · isplitl [HB_dst6]; · iexact HB_dst6
        iexact HB_src6
      isplitl [HB_dst7]; · iexact HB_dst7
      iexact HB_src7
    isplitl [Hc]; · iexact Hc
    isplitl [Hsr]; · iexact Hsr
    isplitl [H0]; · iexists _; iexact H0
    isplitl [H1]; · iexists _; iexact H1
    isplitl [H2]; · iexists _; iexact H2
    isplitl [H3]; · iexists _; iexact H3
    isplitl [H5]; · iexists _; iexact H5
    isplitl [H6]; · iexists _; iexact H6
    isplitl [H7]; · iexists _; iexact H7
    isplitl [H8]; · iexists _; iexact H8
    isplitl [H9]; · iexists _; iexact H9
    isplitl [Hcells]; · iexact Hcells
    isplitl [Hd0]; · iexact Hd0
    isplitl [Hd1]; · iexact Hd1
    isplitl [HB]; · iexact HB
    isplitl [Hd18]; · iexact Hd18
    isplitl [Hd19]; · iexact Hd19
    iexists _; iexact HW

end Cert.KernelIdeal.Hand

end
-- ==== Proof.KernelIdeal.Values.lean ====
module

public import proofs.«01_k».proof.Proof.KernelIdeal.NormVal
public import proofs.«01_k».proof.Proof.KernelIdeal.Run
public import Idealize.ShloMosaic.Lib.Pipeline.ReadBack

/-! What the body run leaves in the two results, as plain functions of the input: the row quantiser of eight rows, and the
two results assembled from the eight groups. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The float whose exponent field is `t`, lane by lane. -/
def floatOf (t : IVec S8x128 32) : FVec F S8x128 .f32 := bitcastToFloat .f32 (shli t (broadcast S8x128 23#32))

/-- One step of the search for the exponent field of `v`: add `b` where `v` is at least the float of the sum. -/
def fieldStep (v : FVec F S8x128 .f32) (b : BitVec 32) (t : IVec S8x128 32) : IVec S8x128 32 :=
  select (cmpf .oge v (floatOf (F := F) (addi t (broadcast S8x128 b)))) (addi t (broadcast S8x128 b)) t

/-- The exponent field of `v`. -/
def fieldOf (v : FVec F S8x128 .f32) : IVec S8x128 32 :=
  fieldStep v 1#32 (fieldStep v 2#32 (fieldStep v 4#32 (fieldStep v 8#32 (fieldStep v 16#32 (fieldStep v 32#32
    (fieldStep v 64#32 (fieldStep v 128#32 (broadcast S8x128 0#32))))))))

/-- The row maxima of `|x|` over 448, spread over the lanes. -/
def amaxOf (x : Vec F S8x1024 .bf16) : FVec F S8x128 .f32 :=
  mulf (broadcastTo S8x128 (shapeCast S8x1 (shapeCast S8x1 (multiReduction .maximumf [1] S8 (absf (extf .f32 x bitsLt_bf16_f32)) 0xFF800000#32
      reduces_S8x1024_S8 (.inl rfl) rfl) shapeCasts_S8_S8x1) shapeCasts_S8x1_S8x1) broadcasts_S8x1_S8x128)
    (broadcast S8x128 (Scalar.ofBits .f32 0x3B124925#32))

/-- The row exponents. -/
def expOf (t : IVec S8x128 32) : IVec S8x128 32 :=
  select (cmpi .eq t (broadcast S8x128 0#32)) (broadcast S8x128 0#32) (subi t (broadcast S8x128 126#32))

/-- The row scales `2 ^ e`. -/
def scaleOf (x : Vec F S8x1024 .bf16) : FVec F S8x128 .f32 :=
  shapeCast S8x128 (floatOf (addi (expOf (fieldOf (amaxOf x))) (broadcast S8x128 127#32))) shapeCasts_S8x128_S8x128

/-- The rows divided by their scales and clipped. -/
def quantOf (x : Vec F S8x1024 .bf16) : FVec F S8x1024 .f32 :=
  shapeCast S8x1024 (minimumf (broadcast S8x1024 (Scalar.ofBits .f32 0x43E00000#32)) (maximumf (broadcast S8x1024 (Scalar.ofBits .f32 0xC3E00000#32))
    (mulf (extf .f32 x bitsLt_bf16_f32) (broadcastTo S8x1024 (shapeCast S8x1 (extractStridedSlice S8x1 ![0, 0]
      (floatOf (subi (broadcast S8x128 127#32) (expOf (fieldOf (amaxOf x))))) slices_S8x128_o0_0_S8x1) shapeCasts_S8x1_S8x1)
      broadcasts_S8x1_S8x1024)))) shapeCasts_S8x1024_S8x1024

theorem inb_x (g : Fin 8) : ∀ a, (![8 * g.1, 0] : Fin 2 → ℕ) a + S8x1024.size a ≤ S64x1024.size a := by
  revert g; decide
/-- Rows `8 g` to `8 g + 7` of the input. -/
def grp (X : Vec F S64x1024 .bf16) (g : Fin 8) : Vec F S8x1024 .bf16 :=
  fun j => X ((Rect.unit (s := S64x1024) ![8 * g.1, 0] S8x1024.size (inb_x g)).emb j)

/-- The eight quantised groups as the pieces of the wide buffer the run leaves, the last one first. -/
def quantPieces (Y : Fin 8 → Vec F S8x1024 .bf16) : List (View.Piece (Elt F) S64x32000 .f32) :=
  [⟨Rect.unit ![56, 0] S8x1024.size inb_S64x32000_S8x1024_56_0, quantOf (Y 7)⟩,
    ⟨Rect.unit ![48, 0] S8x1024.size inb_S64x32000_S8x1024_48_0, quantOf (Y 6)⟩,
    ⟨Rect.unit ![40, 0] S8x1024.size inb_S64x32000_S8x1024_40_0, quantOf (Y 5)⟩,
    ⟨Rect.unit ![32, 0] S8x1024.size inb_S64x32000_S8x1024_32_0, quantOf (Y 4)⟩,
    ⟨Rect.unit ![24, 0] S8x1024.size inb_S64x32000_S8x1024_24_0, quantOf (Y 3)⟩,
    ⟨Rect.unit ![16, 0] S8x1024.size inb_S64x32000_S8x1024_16_0, quantOf (Y 2)⟩,
    ⟨Rect.unit ![8, 0] S8x1024.size inb_S64x32000_S8x1024_8_0, quantOf (Y 1)⟩,
    ⟨Rect.unit ![0, 0] S8x1024.size inb_S64x32000_S8x1024_0_0, quantOf (Y 0)⟩]

/-- The eight groups' scales as the pieces of the scale buffer. -/
def scalePieces (Y : Fin 8 → Vec F S8x1024 .bf16) : List (View.Piece (Elt F) S64x128 .f32) :=
  [⟨Rect.unit ![56, 0] S8x128.size inb_S64x128_S8x128_56_0, scaleOf (Y 7)⟩,
    ⟨Rect.unit ![48, 0] S8x128.size inb_S64x128_S8x128_48_0, scaleOf (Y 6)⟩,
    ⟨Rect.unit ![40, 0] S8x128.size inb_S64x128_S8x128_40_0, scaleOf (Y 5)⟩,
    ⟨Rect.unit ![32, 0] S8x128.size inb_S64x128_S8x128_32_0, scaleOf (Y 4)⟩,
    ⟨Rect.unit ![24, 0] S8x128.size inb_S64x128_S8x128_24_0, scaleOf (Y 3)⟩,
    ⟨Rect.unit ![16, 0] S8x128.size inb_S64x128_S8x128_16_0, scaleOf (Y 2)⟩,
    ⟨Rect.unit ![8, 0] S8x128.size inb_S64x128_S8x128_8_0, scaleOf (Y 1)⟩,
    ⟨Rect.unit ![0, 0] S8x128.size inb_S64x128_S8x128_0_0, scaleOf (Y 0)⟩]

/-- Group `g` as the run loads it from the input's buffer at contents `X`. -/
def loadGrp (c : Dev nD) (X : BufOf (F := F) c xV) (g : Fin 8) : Vec F S8x1024 .bf16 :=
  View.readAt (Elt F) xV.view (Rect.unit (s := S64x1024) ![8 * g.1, 0] S8x1024.size (inb_x g)).toLoadRect X

theorem load_grp (c : Dev nD) (X : BufOf (F := F) c xV) : loadGrp c X = grp X := rfl

set_option maxHeartbeats 1000000 in
theorem H4_eq (c : Dev nD) (fx : BufOf (F := F) c xH) (f0 : BufOf (F := F) c xV) :
    kernelRun.sl.H4_8 c fx f0 = quantPieces (loadGrp c (View.write (Elt F) xV.view f0 (kernelRun.sl.dma0 c fx) Finset.univ)) := rfl

set_option maxHeartbeats 1000000 in
theorem H6_eq (c : Dev nD) (fx : BufOf (F := F) c xH) (f0 : BufOf (F := F) c xV) :
    kernelRun.sl.H6_8 c fx f0 = scalePieces (loadGrp c (View.write (Elt F) xV.view f0 (kernelRun.sl.dma0 c fx) Finset.univ)) := rfl
/-- The codes: the wide buffer's first columns read back and rounded to the 8-bit type. -/
def codesOf (X : Vec F S64x1024 .bf16) : Vec F S64x1024 .fp8e4m3 :=
  k0_pay690 (pV.view.readCov (quantPieces (grp X)) (Rect.unit (s := S64x32000) ![0, 0] S64x1024.size inb_S64x32000_S64x1024_0_0).toLoadRect)

def laneIx : IVec S8x128 32 := iota .tc S8x128 32 [1] iota_S8x128_d1_w32
def subIx : IVec S8x128 32 := iota .tc S8x128 32 [0] iota_S8x128_d0_w32

/-- The scales as one row: lane `l` picks the scale of row `l`, the eight groups added up and the sublanes summed. -/
def rowOf (X : Vec F S64x1024 .bf16) : Vec F S1x64 .f32 :=
  let s : Fin 8 → Vec F S8x128 .f32 := fun g => scaleOf (grp X g)
  k0_pay697 laneIx subIx (s 5) (s 6) (s 7) (k0_pay691 laneIx subIx (s 0)) (k0_pay692 laneIx subIx (s 1)) (k0_pay693 laneIx subIx (s 2)) (k0_pay694 laneIx subIx (s 3)) (k0_pay695 laneIx subIx (s 4)) (k0_pay696 laneIx subIx) (Scalar.ofBits .f32 0x00000000#32)

theorem emb_whole (n m : ℕ) (h : ∀ a, (![0, 0] : Fin 2 → ℕ) a + (![n, m] : Fin 2 → ℕ) a ≤ (⟨2, ![n, m]⟩ : Shape).size a)
    (y : (⟨2, ![n, m]⟩ : Shape).Idx) : (Rect.unit (s := ⟨2, ![n, m]⟩) ![0, 0] ![n, m] h).emb y = y := by
  funext a; apply Fin.ext; fin_cases a <;> simp [Rect.emb, Rect.unit]

theorem read_whole_piece {sp : Space} {n m : ℕ} {e : EltTy} (v : View sig .tc sp ⟨2, ![n, m]⟩ e) (f : v.ty.Contents (Elt F))
    (h : ∀ a, (![0, 0] : Fin 2 → ℕ) a + (![n, m] : Fin 2 → ℕ) a ≤ (⟨2, ![n, m]⟩ : Shape).size a)
    (w : (⟨2, ![n, m]⟩ : Shape).Idx → Elt F e) :
    v.read (Elt F) (v.writes (Elt F) f [⟨Rect.unit (s := ⟨2, ![n, m]⟩) ![0, 0] ![n, m] h, w⟩]) = w := by
  funext y
  have := View.read_writes_cons_emb v f (Rect.unit (s := ⟨2, ![n, m]⟩) ![0, 0] ![n, m] h) w [] y
  rwa [emb_whole] at this

/-- The codes' buffer before the tile loop. -/
theorem codes_back (c : Dev nD) (fx : BufOf (F := F) c xH) (f0 : BufOf (F := F) c xV) :
    View.read (Elt F) codesV.view (codesV.view.writes (Elt F) codesV.view.junk (kernelRun.sl.H1_1 c fx f0)) = codesOf (F := F) fx := by
  change View.read (Elt F) codesV.view (codesV.view.writes (Elt F) _ [⟨Rect.unit ![0, 0] S64x1024.size _, k0_pay690 (kernelRun.sl.v952 c fx f0)⟩]) = _
  refine (read_whole_piece _ _ _ _).trans ?_
  unfold kernelRun.sl.v952 codesOf
  rw [H4_eq, View.write_whole_univ]; rfl

theorem run_codes (c : Dev nD) (fx : BufOf (F := F) c xH) (fw : BufOf (F := F) c wH) (fs : BufOf (F := F) c wsH)
    (g0 : BufOf (F := F) c targetH) (g1 : BufOf (F := F) c codesH) (g2 : BufOf (F := F) c scalesH)
    (f0 : BufOf (F := F) c xV) (f1 : BufOf (F := F) c codesV) (f2 : BufOf (F := F) c wV) (f3 : BufOf (F := F) c wsV) (f4 : BufOf (F := F) c pV)
    (f5 : BufOf (F := F) c mtV) (f6 : BufOf (F := F) c scaleV) (f7 : BufOf (F := F) c mV) (f8 : BufOf (F := F) c lV) (f9 : BufOf (F := F) c rowV) :
    (kernelRun c fx fw fs g0 g1 g2 f0 f1 f2 f3 f4 f5 f6 f7 f8 f9).1.2.1 = codesOf (F := F) fx := by
  change View.write (Elt F) codesH.view g1 (kernelRun.sl.dma0_11 c fx f0) Finset.univ = _
  rw [View.write_whole_univ]
  exact codes_back c fx f0

/-- A block of scales read back after the eight stores is that group's. -/
theorem scale_back (Y : Fin 8 → Vec F S8x1024 .bf16) (g : Fin 8) (h : ∀ a, (![8 * g.1, 0] : Fin 2 → ℕ) a + S8x128.size a ≤ S64x128.size a) :
    scaleV.view.readCov (scalePieces Y) (Rect.unit (s := S64x128) ![8 * g.1, 0] S8x128.size h).toLoadRect = scaleOf (Y g) := by
  unfold scalePieces
  match g, h with
  | ⟨0, _⟩, h =>
    refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; exact View.readCov_cons_toLoadRect _ _ _ _
  | ⟨1, _⟩, h =>
    refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; exact View.readCov_cons_toLoadRect _ _ _ _
  | ⟨2, _⟩, h =>
    refine (View.readCov_skip _ _ _ _ _ rfl).trans ?_; refine (View.readCov_skip _ _ _ _ _ rfl).trans ?_; refine (View.readCov_skip _ _ _ _ _ rfl).trans ?_; refine (View.readCov_skip _ _ _ _ _ rfl).trans ?_; refine (View.readCov_skip _ _ _ _ _ rfl).trans ?_; exact View.readCov_cons_toLoadRect _ _ _ _
  | ⟨3, _⟩, h =>
    refine (View.readCov_skip _ _ _ _ _ rfl).trans ?_; refine (View.readCov_skip _ _ _ _ _ rfl).trans ?_; refine (View.readCov_skip _ _ _ _ _ rfl).trans ?_; refine (View.readCov_skip _ _ _ _ _ rfl).trans ?_; exact View.readCov_cons_toLoadRect _ _ _ _
  | ⟨4, _⟩, h =>
    refine (View.readCov_skip _ _ _ _ _ rfl).trans ?_; refine (View.readCov_skip _ _ _ _ _ rfl).trans ?_; refine (View.readCov_skip _ _ _ _ _ rfl).trans ?_; exact View.readCov_cons_toLoadRect _ _ _ _
  | ⟨5, _⟩, h =>
    refine (View.readCov_skip _ _ _ _ _ rfl).trans ?_; refine (View.readCov_skip _ _ _ _ _ rfl).trans ?_; exact View.readCov_cons_toLoadRect _ _ _ _
  | ⟨6, _⟩, h =>
    refine (View.readCov_skip _ _ _ _ _ rfl).trans ?_; exact View.readCov_cons_toLoadRect _ _ _ _
  | ⟨7, _⟩, h =>
    exact View.readCov_cons_toLoadRect _ _ _ _

theorem run_scales (c : Dev nD) (fx : BufOf (F := F) c xH) (fw : BufOf (F := F) c wH) (fs : BufOf (F := F) c wsH)
    (g0 : BufOf (F := F) c targetH) (g1 : BufOf (F := F) c codesH) (g2 : BufOf (F := F) c scalesH)
    (f0 : BufOf (F := F) c xV) (f1 : BufOf (F := F) c codesV) (f2 : BufOf (F := F) c wV) (f3 : BufOf (F := F) c wsV) (f4 : BufOf (F := F) c pV)
    (f5 : BufOf (F := F) c mtV) (f6 : BufOf (F := F) c scaleV) (f7 : BufOf (F := F) c mV) (f8 : BufOf (F := F) c lV) (f9 : BufOf (F := F) c rowV) :
    (kernelRun c fx fw fs g0 g1 g2 f0 f1 f2 f3 f4 f5 f6 f7 f8 f9).1.2.2 = rowOf (F := F) fx := by
  change View.write (Elt F) scalesH.view g2 (kernelRun.sl.dma0_12 c fx f0) Finset.univ = _
  rw [View.write_whole_univ]
  change View.read (Elt F) rowV.view (rowV.view.writes (Elt F) rowV.view.junk (kernelRun.sl.H9_1 c fx f0)) = _
  unfold kernelRun.sl.H9_1
  refine (read_whole_piece _ _ _ _).trans ?_
  have hs := fun g h => scale_back (loadGrp c (View.write (Elt F) xV.view f0 (kernelRun.sl.dma0 c fx) Finset.univ)) g h
  rw [← H6_eq, View.write_whole_univ] at hs
  have e0 : kernelRun.sl.v957 c fx f0 = scaleOf (grp (F := F) fx 0) := hs 0 _
  have e1 : kernelRun.sl.v958 c fx f0 = scaleOf (grp (F := F) fx 1) := hs 1 _
  have e2 : kernelRun.sl.v959 c fx f0 = scaleOf (grp (F := F) fx 2) := hs 2 _
  have e3 : kernelRun.sl.v960 c fx f0 = scaleOf (grp (F := F) fx 3) := hs 3 _
  have e4 : kernelRun.sl.v961 c fx f0 = scaleOf (grp (F := F) fx 4) := hs 4 _
  have e5 : kernelRun.sl.v962 c fx f0 = scaleOf (grp (F := F) fx 5) := hs 5 _
  have e6 : kernelRun.sl.v963 c fx f0 = scaleOf (grp (F := F) fx 6) := hs 6 _
  have e7 : kernelRun.sl.v964 c fx f0 = scaleOf (grp (F := F) fx 7) := hs 7 _
  unfold kernelRun.sl.v969 kernelRun.sl.v974 kernelRun.sl.v979 kernelRun.sl.v984 kernelRun.sl.v989
  rw [e0, e1, e2, e3, e4, e5, e6, e7]
  rfl

end Cert.KernelIdeal.Hand

end
-- ==== Proof.KernelIdeal.AtIdeal.lean ====
module

public import proofs.«01_k».proof.Proof.KernelIdeal.Values
public import proofs.«01_k».proof.Proof.Quant
public import Idealize.ShloMosaic.Lib.ValueIdxCoords
public import Idealize.ShloMosaic.Lib.ValueIdx
public import Idealize.ShloMosaic.Lib.ValueIdxRank1

/-! The two results over the extended reals, element by element. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Quant

/-- The row maximum over 448 at row `s` of a group. -/
def rowQ (x : Vec Ideal S8x1024 .bf16) (s : Fin 8) : EReal := amax (fun k => x (ix2 s k)) * Ideal.ofBits .f32 0x3B124925#32

theorem fieldStep_apply (v : FVec Ideal S8x128 .f32) (b : BitVec 32) (t : IVec S8x128 32) (i : S8x128.Idx) :
    fieldStep v b t i = st (v i) b (t i) := rfl

theorem fieldOf_apply (v : FVec Ideal S8x128 .f32) (i : S8x128.Idx) : fieldOf v i = search (v i) := by
  unfold fieldOf search
  simp only [fieldStep_apply]
  rfl

theorem expOf_apply (t : IVec S8x128 32) (i : S8x128.Idx) : expOf t i = kexp (t i) := rfl

theorem floatOf_apply (t : IVec S8x128 32) (i : S8x128.Idx) :
    floatOf (F := Ideal) t i = Ideal.ofBits .f32 (IntOp.shli .vector (t i) 23#32) := rfl

theorem lift_row (s : Fin 8) (k : Fin 1024) : reduces_S8x1024_S8.lift (ix1 s) k = ix2 s k := by
  funext c; apply Fin.ext; fin_cases c <;> rfl

/-- The kernel's row maxima over 448, the same in every lane. -/
theorem amaxOf_apply (x : Vec Ideal S8x1024 .bf16) (s : Fin 8) (l : Fin 128) : amaxOf x (ix2 s l) = rowQ x s := by
  unfold amaxOf rowQ
  change broadcastTo S8x128 _ _ (ix2 s l) * _ = _
  congr 1
  refine (broadcastTo_apply _ _ (ix2 s l) (ix2 s 0) ?_).trans ?_
  · intro a; fin_cases a <;> rfl
  rw [shapeCast_self]
  refine (shapeCast_apply _ _ (ix2 s 0) (ix1 s) ?_).trans ?_
  · revert s; decide
  refine (Ideal.multiReduction_maximumf_single _ _ _ _ _ _).trans ?_
  unfold amax
  rw [show (FloatOps.ofBits .f32 0xFF800000#32 : Ideal .f32) = ⊥ from ofBits_bot]
  refine Finset.fold_congr fun k _ => ?_
  exact congrArg (fun y => max (x y) (-x y)) (lift_row s k)

/-- The scale of a row, the same in every lane. -/
theorem scaleOf_apply (x : Vec Ideal S8x1024 .bf16) (s : Fin 8) (l : Fin 128) : scaleOf x (ix2 s l) = kscale (rowQ x s) := by
  unfold scaleOf
  rw [shapeCast_self, floatOf_apply]
  unfold kscale
  rw [← amaxOf_apply x s l, ← fieldOf_apply, ← expOf_apply]
  rfl

/-- The first lane spread over a row. -/
theorem spread_apply (w : FVec Ideal S8x128 .f32) (s : Fin 8) (k : Fin 1024) :
    broadcastTo S8x1024 (shapeCast S8x1 (extractStridedSlice S8x1 ![0, 0] w slices_S8x128_o0_0_S8x1) shapeCasts_S8x1_S8x1)
      broadcasts_S8x1_S8x1024 (ix2 s k) = w (ix2 s 0) := by
  refine (broadcastTo_apply _ _ (ix2 s k) (ix2 s 0) ?_).trans ?_
  · intro a; fin_cases a <;> rfl
  rw [shapeCast_self]
  refine extractStridedSlice_apply _ _ _ (ix2 s 0) (ix2 s 0) ?_
  intro a; fin_cases a <;> simp

theorem inv_apply (x : Vec Ideal S8x1024 .bf16) (s : Fin 8) :
    floatOf (F := Ideal) (subi (broadcast S8x128 127#32) (expOf (fieldOf (amaxOf x)))) (ix2 s 0) = kinv (rowQ x s) := by
  unfold kinv
  rw [floatOf_apply, ← amaxOf_apply x s 0, ← fieldOf_apply, ← expOf_apply]
  rfl

/-- A quantised element: times the inverse scale of its row, clipped. -/
theorem quantOf_apply (x : Vec Ideal S8x1024 .bf16) (s : Fin 8) (k : Fin 1024) : quantOf x (ix2 s k)
    = min (Ideal.ofBits .f32 0x43E00000#32) (max (Ideal.ofBits .f32 0xC3E00000#32) (x (ix2 s k) * kinv (rowQ x s))) := by
  have h := (spread_apply (floatOf (F := Ideal) (subi (broadcast S8x128 127#32) (expOf (fieldOf (amaxOf x))))) s k).trans (inv_apply x s)
  unfold quantOf
  rw [shapeCast_self]
  generalize floatOf (F := Ideal) (subi (broadcast S8x128 127#32) (expOf (fieldOf (amaxOf x)))) = w at h ⊢
  rw [← h]; rfl

theorem grp_apply (X : Vec Ideal S64x1024 .bf16) (g s : Fin 8) (k : Fin 1024) : grp X g (ix2 s k) = X (ix2 (rowIx g s) k) := by
  unfold grp
  congr 1
  funext a; apply Fin.ext; fin_cases a <;> simp [Rect.emb, Rect.unit, rowIx]

/-- The row maximum over 448 at row `r`. -/
def arrQ (X : Vec Ideal S64x1024 .bf16) (r : Fin 64) : EReal := amax (fun k => X (ix2 r k)) * Ideal.ofBits .f32 0x3B124925#32

theorem rowQ_grp (X : Vec Ideal S64x1024 .bf16) (g s : Fin 8) : rowQ (grp X g) s = arrQ X (rowIx g s) := by
  unfold rowQ arrQ; simp only [grp_apply]

theorem inb_p (g : Fin 8) : ∀ a, (![8 * g.1, 0] : Fin 2 → ℕ) a + S8x1024.size a ≤ S64x32000.size a := by
  revert g; decide

/-- A block of the wide buffer read back after the eight stores is that group's. -/
theorem quant_back (Y : Fin 8 → Vec Ideal S8x1024 .bf16) (g : Fin 8) (h : ∀ a, (![8 * g.1, 0] : Fin 2 → ℕ) a + S8x1024.size a ≤ S64x32000.size a) :
    pV.view.readCov (quantPieces Y) (Rect.unit (s := S64x32000) ![8 * g.1, 0] S8x1024.size h).toLoadRect = quantOf (Y g) := by
  unfold quantPieces
  match g, h with
  | ⟨0, _⟩, h => iterate 7 refine (View.readCov_skip _ _ _ _ _ rfl).trans ?_
                 exact View.readCov_cons_toLoadRect _ _ _ _
  | ⟨1, _⟩, h => iterate 6 refine (View.readCov_skip _ _ _ _ _ rfl).trans ?_
                 exact View.readCov_cons_toLoadRect _ _ _ _
  | ⟨2, _⟩, h => iterate 5 refine (View.readCov_skip _ _ _ _ _ rfl).trans ?_
                 exact View.readCov_cons_toLoadRect _ _ _ _
  | ⟨3, _⟩, h => iterate 4 refine (View.readCov_skip _ _ _ _ _ rfl).trans ?_
                 exact View.readCov_cons_toLoadRect _ _ _ _
  | ⟨4, _⟩, h => iterate 3 refine (View.readCov_skip _ _ _ _ _ rfl).trans ?_
                 exact View.readCov_cons_toLoadRect _ _ _ _
  | ⟨5, _⟩, h => iterate 2 refine (View.readCov_skip _ _ _ _ _ rfl).trans ?_
                 exact View.readCov_cons_toLoadRect _ _ _ _
  | ⟨6, _⟩, h => iterate 1 refine (View.readCov_skip _ _ _ _ _ rfl).trans ?_
                 exact View.readCov_cons_toLoadRect _ _ _ _
  | ⟨7, _⟩, h => exact View.readCov_cons_toLoadRect _ _ _ _

theorem codes_read (X : Vec Ideal S64x1024 .bf16) (y : S64x1024.Idx) : codesOf X y
    = pV.view.readCov (quantPieces (grp X)) (Rect.unit (s := S64x32000) ![0, 0] S64x1024.size inb_S64x32000_S64x1024_0_0).toLoadRect y := by
  unfold codesOf k0_pay690
  rw [shapeCast_self]
  generalize pV.view.readCov (quantPieces (grp X)) (Rect.unit (s := S64x32000) ![0, 0] S64x1024.size inb_S64x32000_S64x1024_0_0).toLoadRect = w
  rfl

/-- A code: the element times the inverse scale of its row, clipped. -/
theorem codesOf_apply (X : Vec Ideal S64x1024 .bf16) (r : Fin 64) (k : Fin 1024) : codesOf X (ix2 r k)
    = min (Ideal.ofBits .f32 0x43E00000#32) (max (Ideal.ofBits .f32 0xC3E00000#32) (X (ix2 r k) * kinv (arrQ X r))) := by
  obtain ⟨g, s, rfl⟩ := exists_rowIx r
  have h := congrFun (quant_back (grp X) g (inb_p g)) (ix2 s k)
  rw [quantOf_apply, rowQ_grp, grp_apply] at h
  refine (codes_read X _).trans (Eq.trans ?_ h)
  generalize quantPieces (grp X) = L
  rw [View.readCov_eq_canon', View.readCov_eq_canon']
  refine congrArg (View.canon L) ?_
  funext a; apply Fin.ext; fin_cases a <;> simp [Rect.toLoadRect, Rect.emb, Rect.unit, rowIx]

/-- Group `g`'s scales, each kept in the lane of its row only. -/
def pick (g : Fin 8) (w : Vec Ideal S8x128 .f32) : Vec Ideal S8x128 .f32 :=
  select (cmpi .eq laneIx (addi subIx (broadcast S8x128 (BitVec.ofNat 32 (8 * g.1))))) w (broadcast S8x128 (Scalar.ofBits (F := Ideal) .f32 0x00000000#32))

theorem pick_apply (g : Fin 8) (w : Vec Ideal S8x128 .f32) (s : Fin 8) (l : Fin 128) :
    pick g w (ix2 s l) = if l.1 = 8 * g.1 + s.1 then w (ix2 s l) else (0 : EReal) := by
  have hw : (BitVec.ofNat 32 l.1 == BitVec.ofNat 32 s.1 + BitVec.ofNat 32 (8 * g.1)) = decide (l.1 = 8 * g.1 + s.1) := by
    rw [← BitVec.ofNat_add, Bool.eq_iff_iff, beq_iff_eq, decide_eq_true_iff, ← BitVec.toNat_inj, BitVec.toNat_ofNat, BitVec.toNat_ofNat]
    omega
  have hl : laneIx (ix2 s l) = BitVec.ofNat 32 l.1 := by
    change BitVec.ofNat 32 (0 * 128 + l.1) = _; rw [zero_mul, zero_add]
  have hs : subIx (ix2 s l) = BitVec.ofNat 32 s.1 := by
    change BitVec.ofNat 32 (0 * 8 + s.1) = _; rw [zero_mul, zero_add]
  change Scalar.select (BitVec.ofBool (laneIx (ix2 s l) == subIx (ix2 s l) + BitVec.ofNat 32 (8 * g.1))) (w (ix2 s l)) (Ideal.ofBits .f32 0x00000000#32) = _
  rw [hl, hs, hw, Ideal.ofBits_zero_f32]
  by_cases h : l.1 = 8 * g.1 + s.1 <;> simp [h, Scalar.select]

theorem lift_lane (l : Fin 128) (s : Fin 8) : reduces_S8x128_S128.lift (ix1 l) s = ix2 s l := by
  funext c; apply Fin.ext; fin_cases c <;> rfl

/-- The eight groups added up. -/
def picked (w : Fin 8 → Vec Ideal S8x128 .f32) : FVec Ideal S8x128 .f32 :=
  addf (addf (addf (pick 0 (w 0)) (pick 1 (w 1))) (addf (pick 2 (w 2)) (pick 3 (w 3))))
    (addf (addf (pick 4 (w 4)) (pick 5 (w 5))) (addf (pick 6 (w 6)) (pick 7 (w 7))))

theorem pay697_eq (w : Fin 8 → Vec Ideal S8x128 .f32) :
    k0_pay697 laneIx subIx (w 5) (w 6) (w 7) (k0_pay691 laneIx subIx (w 0)) (k0_pay692 laneIx subIx (w 1)) (k0_pay693 laneIx subIx (w 2)) (k0_pay694 laneIx subIx (w 3)) (k0_pay695 laneIx subIx (w 4)) (k0_pay696 laneIx subIx) (Scalar.ofBits .f32 0x00000000#32)
      = shapeCast S1x64 (extractStridedSlice S1x64 ![0, 0] (shapeCast S1x128
          (multiReduction .add [0] S128 (picked w) 0x00000000#32 reduces_S8x128_S128 (.inl rfl) rfl) shapeCasts_S128_S1x128)
          slices_S1x128_o0_0_S1x64) shapeCasts_S1x64_S1x64 := rfl

/-- A lane of the row sums the groups and the sublanes. -/
theorem row_sum (v : FVec Ideal S8x128 .f32) (r : Fin 64) :
    shapeCast S1x64 (extractStridedSlice S1x64 ![0, 0] (shapeCast S1x128
          (multiReduction .add [0] S128 v 0x00000000#32 reduces_S8x128_S128 (.inl rfl) rfl) shapeCasts_S128_S1x128)
          slices_S1x128_o0_0_S1x64) shapeCasts_S1x64_S1x64 (ix2 0 r) = ∑ s : Fin 8, v (ix2 s ⟨r.1, by omega⟩) := by
  rw [shapeCast_self]
  refine (extractStridedSlice_apply _ _ _ (ix2 0 r) (ix2 (0 : Fin 1) (⟨r.1, by omega⟩ : Fin 128)) ?_).trans ?_
  · intro a; fin_cases a <;> simp
  refine (shapeCast_apply _ _ _ (ix1 (⟨r.1, by omega⟩ : Fin 128)) ?_).trans ?_
  · revert r; decide
  refine (Ideal.multiReduction_add_single _ _ _ _ _ _).trans ?_
  exact Finset.sum_congr rfl fun s _ => congrArg v (lift_lane _ s)

theorem picked_apply (w : Fin 8 → Vec Ideal S8x128 .f32) (s : Fin 8) (l : Fin 128) :
    picked w (ix2 s l) = ∑ g : Fin 8, (if l.1 = 8 * g.1 + s.1 then w g (ix2 s l) else (0 : EReal)) := by
  rw [Fin.sum_univ_eight]
  rw [← pick_apply 0, ← pick_apply 1, ← pick_apply 2, ← pick_apply 3, ← pick_apply 4, ← pick_apply 5, ← pick_apply 6, ← pick_apply 7]
  change ((pick 0 (w 0) (ix2 s l) + pick 1 (w 1) (ix2 s l)) + (pick 2 (w 2) (ix2 s l) + pick 3 (w 3) (ix2 s l)))
    + ((pick 4 (w 4) (ix2 s l) + pick 5 (w 5) (ix2 s l)) + (pick 6 (w 6) (ix2 s l) + pick 7 (w 7) (ix2 s l)) : EReal) = _
  simp only [← add_assoc]

/-- Lane `r` of the scales' row is the scale of row `r`. -/
theorem rowOf_apply (X : Vec Ideal S64x1024 .bf16) (r : Fin 64) : rowOf X (ix2 0 r) = kscale (arrQ X r) := by
  obtain ⟨g, s, rfl⟩ := exists_rowIx r
  unfold rowOf
  refine (congrFun (pay697_eq fun g => scaleOf (grp X g)) _).trans ?_
  rw [row_sum, Finset.sum_eq_single s, picked_apply, Finset.sum_eq_single g]
  · refine (if_pos (by rfl)).trans ?_
    rw [scaleOf_apply, rowQ_grp]
  · intro g' _ h
    exact if_neg fun hc => h (Fin.ext (by simp only [rowIx] at hc; omega))
  · exact fun h => absurd (Finset.mem_univ _) h
  · intro s' _ h
    rw [picked_apply]
    refine Finset.sum_eq_zero fun g' _ => if_neg fun hc => h (Fin.ext (by simp only [rowIx] at hc; omega))
  · exact fun h => absurd (Finset.mem_univ _) h

end Cert.KernelIdeal.Hand

end
-- ==== Proof.Softmax.lean ====
module

public import proofs.«01_k».proof.Proof.KernelIdeal.TabsVal

/-! The running softmax of one row over the extended reals. The kernel keeps per lane a running maximum and a running sum of
powers of two; the reference takes the row's maximum first and uses the natural exponential. The two agree at every row,
infinite entries included. -/

@[expose] public section

set_option maxRecDepth 16384

noncomputable section

namespace Cert.Softmax

open Idealize.ShloMosaic Cert.KernelIdeal.Hand

/-- `1 / log 2`. -/
def c2 : ℝ := (Real.log 2)⁻¹
theorem c2_pos : 0 < c2 := inv_pos.mpr (Real.log_pos (by norm_num))

theorem exp2_coe (r : ℝ) : Ideal.exp2 (r : EReal) = (((2 : ℝ) ^ r : ℝ) : EReal) := rfl
theorem exp_coe (r : ℝ) : Ideal.exp (r : EReal) = ((Real.exp r : ℝ) : EReal) := rfl
theorem exp2_bot : Ideal.exp2 ⊥ = 0 := rfl
theorem exp_bot : Ideal.exp ⊥ = 0 := rfl

theorem exp2_nonneg (x : EReal) : 0 ≤ Ideal.exp2 x := by
  induction x with
  | bot => exact le_refl _
  | top => exact le_top
  | coe r => rw [exp2_coe]; exact EReal.coe_nonneg.mpr (Real.rpow_nonneg (by norm_num) _)

theorem neg_real : ∃ r : ℝ, NEG = (r : EReal) := by
  unfold NEG
  change ∃ r : ℝ, Ideal.ieee 8 23 0xFF7FFFFF#32 = (r : EReal)
  unfold Ideal.ieee
  have h2 : ((0xFF7FFFFF#32 : BitVec 32).extractLsb' 23 8).toNat = 254 := by decide
  simp only [h2]
  exact ⟨_, rfl⟩

variable (lg : ℕ → EReal)

theorem Mn_ge (n : ℕ) : NEG ≤ Mn lg n := by
  induction n with
  | zero => exact le_refl _
  | succ n ih => exact ih.trans (le_max_left _ _)
theorem Mn_mono {n k : ℕ} (h : n ≤ k) : Mn lg n ≤ Mn lg k := by
  induction h with
  | refl => exact le_refl _
  | step _ ih => exact ih.trans (le_max_left _ _)
theorem le_Mn {n k : ℕ} (h : n < k) : lg n ≤ Mn lg k := (le_max_right _ _ : lg n ≤ Mn lg (n + 1)).trans (Mn_mono lg h)
theorem Mn_lt (h : ∀ n, lg n < ⊤) (n : ℕ) : Mn lg n < ⊤ := by
  induction n with
  | zero => obtain ⟨r, hr⟩ := neg_real; show NEG < ⊤; rw [hr]; exact EReal.coe_lt_top r
  | succ n ih => exact max_lt ih (h n)
theorem Mn_real (h : ∀ n, lg n < ⊤) (n : ℕ) : ∃ r : ℝ, Mn lg n = (r : EReal) := by
  obtain ⟨r, hr⟩ := neg_real
  have h1 : Mn lg n ≠ ⊥ := fun hb => by have := Mn_ge lg n; rw [hb, hr] at this; exact absurd (le_bot_iff.mp this) (EReal.coe_ne_bot r)
  exact ⟨(Mn lg n).toReal, (EReal.coe_toReal (Mn_lt lg h n).ne h1).symm⟩

/-- Two steps of rescaling are one. -/
theorem rescale (x : EReal) (hx : x < ⊤) (m M : ℝ) : Ideal.exp2 (x - m) * Ideal.exp2 ((m : EReal) - M) = Ideal.exp2 (x - M) := by
  induction x with
  | bot => rw [EReal.bot_sub, EReal.bot_sub, exp2_bot, zero_mul]
  | top => exact absurd hx (lt_irrefl _)
  | coe r =>
    rw [← EReal.coe_sub, ← EReal.coe_sub, ← EReal.coe_sub, exp2_coe, exp2_coe, exp2_coe, ← EReal.coe_mul,
      ← Real.rpow_add (by norm_num : (0 : ℝ) < 2)]
    congr 2; ring

theorem En_rescale (h : ∀ n, lg n < ⊤) (n : ℕ) (M : ℝ) :
    En lg n * Ideal.exp2 (Mn lg (10 * (n / 10) + 10) - M) = Ideal.exp2 (lg n - M) := by
  obtain ⟨m, hm⟩ := Mn_real lg h (10 * (n / 10) + 10)
  unfold En
  rw [hm]; exact rescale _ (h n) m M

theorem En_nonneg (n : ℕ) : 0 ≤ En lg n := exp2_nonneg _

theorem ten (f : ℕ → EReal) (t : ℕ) : (∑ n ∈ Finset.range (10 * (t + 1)), f n) = (∑ n ∈ Finset.range (10 * t), f n)
      + ((((f (10 * t) + f (10 * t + 1)) + (f (10 * t + 2) + f (10 * t + 3)))
        + ((f (10 * t + 4) + f (10 * t + 5)) + (f (10 * t + 6) + f (10 * t + 7)))) + (f (10 * t + 8) + f (10 * t + 9))) := by
  rw [show 10 * (t + 1) = 10 * t + 10 by ring, Finset.sum_range_add]
  simp only [Finset.sum_range_succ, Finset.sum_range_zero, zero_add, add_zero, add_assoc]

/-- The running sum, rescaled to any bound of the lane. -/
theorem Sn_rescale (h : ∀ n, lg n < ⊤) (M : ℝ) (t : ℕ) :
    0 ≤ Sn lg t ∧ Sn lg t * Ideal.exp2 (Mn lg (10 * t) - M) = ∑ n ∈ Finset.range (10 * t), Ideal.exp2 (lg n - M) := by
  induction t with
  | zero =>
    have h0 : Sn lg 0 = 0 := Ideal.ofBits_zero_f32
    rw [h0]; exact ⟨le_refl _, by rw [zero_mul]; rfl⟩
  | succ t ih =>
    obtain ⟨h0, ih⟩ := ih
    have hE := En_nonneg lg
    have hs : 0 ≤ Sn lg t * Ideal.exp2 (Mn lg (10 * t) - Mn lg (10 * t + 10)) := mul_nonneg h0 (exp2_nonneg _)
    have e1 := fun n => En_rescale lg h (10 * t + n) M
    have hh : ∀ n, n < 10 → (10 * t + n) / 10 = t := fun n hn => by omega
    obtain ⟨m, hm⟩ := Mn_real lg h (10 * t + 10)
    refine ⟨add_nonneg hs (add_nonneg (add_nonneg (add_nonneg (add_nonneg (hE _) (hE _)) (add_nonneg (hE _) (hE _))) (add_nonneg (add_nonneg (hE _) (hE _)) (add_nonneg (hE _) (hE _)))) (add_nonneg (hE _) (hE _))), ?_⟩
    rw [ten, ← ih]
    have hl : Sn lg t * Ideal.exp2 (Mn lg (10 * t) - M)
        = Sn lg t * Ideal.exp2 (Mn lg (10 * t) - Mn lg (10 * t + 10)) * Ideal.exp2 (Mn lg (10 * t + 10) - M) := by
      rw [mul_assoc, hm, rescale _ (Mn_lt lg h _)]
    have e : ∀ n, n < 10 → Ideal.exp2 (lg (10 * t + n) - M) = En lg (10 * t + n) * Ideal.exp2 (Mn lg (10 * t + 10) - M) := fun n hn => by
      rw [← e1, hh n hn]
    rw [hl, show Ideal.exp2 (lg (10 * t) - M) = En lg (10 * t) * Ideal.exp2 (Mn lg (10 * t + 10) - M) from e 0 (by norm_num),
      e 1 (by norm_num), e 2 (by norm_num), e 3 (by norm_num), e 4 (by norm_num), e 5 (by norm_num), e 6 (by norm_num), e 7 (by norm_num),
      e 8 (by norm_num), e 9 (by norm_num)]
    have ad : ∀ {a b : EReal}, 0 ≤ a → 0 ≤ b → ∀ x, (a + b) * x = a * x + b * x := fun ha hb x => EReal.right_distrib_of_nonneg ha hb
    have hp : ∀ {a b : EReal}, 0 ≤ a → 0 ≤ b → 0 ≤ a + b := fun ha hb => add_nonneg ha hb
    show (Sn lg t * Ideal.exp2 (Mn lg (10 * t) - Mn lg (10 * t + 10)) + _) * Ideal.exp2 (Mn lg (10 * t + 10) - M) = _
    rw [ad hs (hp (hp (hp (hp (hE _) (hE _)) (hp (hE _) (hE _))) (hp (hp (hE _) (hE _)) (hp (hE _) (hE _)))) (hp (hE _) (hE _))),
      ad (hp (hp (hp (hE _) (hE _)) (hp (hE _) (hE _))) (hp (hp (hE _) (hE _)) (hp (hE _) (hE _)))) (hp (hE _) (hE _)),
      ad (hp (hp (hE _) (hE _)) (hp (hE _) (hE _))) (hp (hp (hE _) (hE _)) (hp (hE _) (hE _))),
      ad (hp (hE _) (hE _)) (hp (hE _) (hE _)), ad (hp (hE _) (hE _)) (hp (hE _) (hE _)),
      ad (hE _) (hE _), ad (hE _) (hE _), ad (hE _) (hE _), ad (hE _) (hE _), ad (hE _) (hE _)]

/-! ## A whole row -/

/-- Column `128 n + a` of a row. -/
def lanes (L : Fin 32000 → EReal) (a : Fin 128) (n : ℕ) : EReal := L ⟨(128 * n + a.1) % 32000, Nat.mod_lt _ (by norm_num)⟩

/-- The maximum of the lanes' running maxima. -/
def MM (lg : Fin 128 → ℕ → EReal) : EReal := Finset.univ.fold max ⊥ fun a => Mn (lg a) 250
/-- The sum of the lanes' running sums. -/
def SS (lg : Fin 128 → ℕ → EReal) : EReal := ∑ a : Fin 128, Sn (lg a) 25 * Ideal.exp2 (Mn (lg a) 250 - MM lg)
/-- What the kernel leaves in column `128 n + a`. -/
def kernelRow (lg : Fin 128 → ℕ → EReal) (a : Fin 128) (n : ℕ) : EReal :=
  En (lg a) n * (Ideal.exp2 (Mn (lg a) (10 * (n / 10) + 10) - MM lg) * Ideal.div 1 (SS lg))
/-- The plain softmax. -/
def refRow (z : Fin 32000 → EReal) (j : Fin 32000) : EReal :=
  Ideal.exp (z j - Finset.univ.fold max ⊥ z) * Ideal.div 1 (∑ k, Ideal.exp (z k - Finset.univ.fold max ⊥ z))

theorem le_fold {ι : Type} [Fintype ι] (f : ι → EReal) (i : ι) : f i ≤ Finset.univ.fold max ⊥ f :=
  (Finset.le_fold_max _).mpr (Or.inr ⟨i, Finset.mem_univ _, le_refl _⟩)
theorem fold_lt {ι : Type} [Fintype ι] (f : ι → EReal) (h : ∀ i, f i < ⊤) : Finset.univ.fold max ⊥ f < ⊤ :=
  (Finset.fold_max_lt _).mpr ⟨bot_lt_top, fun i _ => h i⟩

theorem sum_lanes (f : Fin 32000 → EReal) : (∑ a : Fin 128, ∑ n ∈ Finset.range 250, f ⟨(128 * n + a.1) % 32000, Nat.mod_lt _ (by norm_num)⟩) = ∑ j, f j := by
  have h : (∑ j, f j) = ∑ p : Fin 250 × Fin 128, f (Fin.cast (by norm_num) (finProdFinEquiv p : Fin (250 * 128))) :=
    (Fintype.sum_equiv (finProdFinEquiv.trans (finCongr (by norm_num : 250 * 128 = 32000))) _ _ fun p => rfl).symm
  rw [Fintype.sum_prod_type, Finset.sum_comm] at h
  rw [h]
  refine Finset.sum_congr rfl fun a _ => ?_
  rw [Finset.sum_range]
  refine Finset.sum_congr rfl fun n _ => congrArg f (Fin.ext ?_)
  have h1 := n.2; have h2 := a.2
  show (128 * n.1 + a.1) % 32000 = a.1 + 128 * n.1
  omega

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

theorem row_eq (z L : Fin 32000 → EReal) (hL : ∀ j, L j = z j * (c2 : EReal)) (a : Fin 128) (n : ℕ) (hn : n < 250) :
    kernelRow (lanes L) a n = refRow z ⟨128 * n + a.1, by omega⟩ := by
  have hj : lanes L a n = L ⟨128 * n + a.1, by omega⟩ := by
    exact congrArg L (Fin.ext (Nat.mod_eq_of_lt (by omega)))
  generalize hJ : (⟨128 * n + a.1, by omega⟩ : Fin 32000) = J at hj ⊢
  unfold kernelRow refRow
  by_cases hb : z J = ⊥
  · have hLb : L J = ⊥ := by rw [hL, hb]; exact EReal.bot_mul_coe_of_pos c2_pos
    unfold En
    rw [hj, hLb, hb, EReal.bot_sub, EReal.bot_sub, exp2_bot, exp_bot, zero_mul, zero_mul]
  by_cases ht : ∃ j, z j = ⊤
  · obtain ⟨j, htj⟩ := ht
    have hLt : L j = ⊤ := by rw [hL, htj]; exact EReal.top_mul_coe_of_pos c2_pos
    have hZ : Finset.univ.fold max ⊥ z = ⊤ := top_le_iff.mp (htj ▸ le_fold z j)
    have hM : MM (lanes L) = ⊤ := by
      refine top_le_iff.mp (le_trans ?_ (le_fold _ (⟨j.1 % 128, by omega⟩ : Fin 128)))
      refine le_trans (le_of_eq ?_) (le_Mn _ (show j.1 / 128 < 250 by omega))
      unfold lanes
      rw [← hLt]; have := j.2
      refine congrArg L (Fin.ext ?_)
      show j.1 = (128 * (j.1 / 128) + j.1 % 128) % 32000
      omega
    rw [hZ, hM, EReal.sub_top, EReal.sub_top, exp2_bot, exp_bot, zero_mul, zero_mul, mul_zero]
  · have hz : ∀ j, z j < ⊤ := fun j => lt_top_iff_ne_top.mpr fun h => ht ⟨j, h⟩
    have hLz : ∀ j, L j < ⊤ := fun j => by
      rw [hL]
      have := hz j
      generalize z j = x at this ⊢
      induction x with
      | bot => rw [EReal.bot_mul_coe_of_pos c2_pos]; exact bot_lt_top
      | top => exact absurd this (lt_irrefl _)
      | coe r => rw [← EReal.coe_mul]; exact EReal.coe_lt_top _
    have hlg : ∀ a n, lanes L a n < ⊤ := fun a n => hLz _
    obtain ⟨M, hM⟩ : ∃ M : ℝ, MM (lanes L) = (M : EReal) := by
      obtain ⟨r, hr⟩ := Mn_real _ (hlg 0) 250
      have h1 : MM (lanes L) ≠ ⊥ := fun h => by
        have := le_fold (fun a => Mn (lanes L a) 250) 0
        change Mn (lanes L 0) 250 ≤ MM (lanes L) at this
        rw [h, hr] at this; exact absurd (le_bot_iff.mp this) (EReal.coe_ne_bot r)
      exact ⟨_, (EReal.coe_toReal (fold_lt _ fun a => Mn_lt _ (hlg a) 250).ne h1).symm⟩
    obtain ⟨Z, hZ⟩ : ∃ Z : ℝ, Finset.univ.fold max ⊥ z = (Z : EReal) :=
      ⟨_, (EReal.coe_toReal (fold_lt _ hz).ne fun h => hb (le_bot_iff.mp (h ▸ le_fold z J))).symm⟩
    have hS : SS (lanes L) = ∑ j, Ideal.exp2 (L j - M) := by
      unfold SS
      rw [hM, ← sum_lanes]
      exact Finset.sum_congr rfl fun a _ => (Sn_rescale _ (hlg a) M 25).2
    rw [hS, hM, ← mul_assoc, En_rescale _ (hlg a), hj, hZ]
    have key : ∀ j, ∃ r : ℝ, 0 ≤ r ∧ (z j ≠ ⊥ → 0 < r) ∧ Ideal.exp2 (L j - M) = (r : EReal) ∧ Ideal.exp (z j - Z) = (((2 : ℝ) ^ (M - Z * c2) * r : ℝ) : EReal) := fun j => by
      have h := hz j
      rw [hL]
      generalize z j = x at h ⊢
      induction x with
      | bot => exact ⟨0, le_refl _, fun h => absurd rfl h, by rw [EReal.bot_mul_coe_of_pos c2_pos, EReal.bot_sub, exp2_bot]; rfl, by rw [EReal.bot_sub, exp_bot, mul_zero]; rfl⟩
      | top => exact absurd h (lt_irrefl _)
      | coe x =>
        refine ⟨(2 : ℝ) ^ (x * c2 - M), Real.rpow_nonneg (by norm_num) _, fun _ => Real.rpow_pos_of_pos (by norm_num) _, by rw [← EReal.coe_mul, ← EReal.coe_sub, exp2_coe], ?_⟩
        rw [← EReal.coe_sub, exp_coe, ← Real.rpow_add (by norm_num), Real.rpow_def_of_pos (by norm_num)]
        refine congrArg (fun x : ℝ => (x : EReal)) (congrArg Real.exp ?_)
        have h2 : Real.log 2 ≠ 0 := (Real.log_pos (by norm_num)).ne'
        unfold c2; field_simp; ring
    choose r hr0 hrp hr2 hre using key
    simp only [hr2, hre]
    rw [coe_sum, coe_sum, ← Finset.mul_sum]
    have hpos : 0 < ∑ j, r j := Finset.sum_pos' (fun j _ => hr0 j) ⟨J, Finset.mem_univ _, hrp J hb⟩
    have hc : 0 < (2 : ℝ) ^ (M - Z * c2) := Real.rpow_pos_of_pos (by norm_num) _
    generalize (2 : ℝ) ^ (M - Z * c2) = c at hc ⊢
    generalize (∑ j, r j) = S at hpos ⊢
    unfold Ideal.div
    rw [if_neg (EReal.coe_ne_zero.mpr hpos.ne'), if_neg (EReal.coe_ne_zero.mpr (mul_pos hc hpos).ne'), one_mul, one_mul, ← EReal.coe_inv, ← EReal.coe_inv,
      ← EReal.coe_mul, ← EReal.coe_mul]
    refine congrArg (fun x : ℝ => (x : EReal)) ?_
    field_simp

end Cert.Softmax

end
-- ==== Proof.KernelIdeal.TargetVal.lean ====
module

public import proofs.«01_k».proof.Proof.KernelIdeal.AtIdeal
public import proofs.«01_k».proof.Proof.Softmax
public import Idealize.ShloMosaic.Lib.MatmulPlain
import all proofs.«01_k».proof.Proof.KernelIdeal.Trip
import all proofs.«01_k».proof.Proof.KernelIdeal.Run

/-! The target result over the extended reals, element by element: the scaled logits a trip of the tile loop computes, the
row statistics after the loop, and the softmax they leave. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Cert.Quant Cert.Softmax

/-! ## The scaled logits -/

/-- The kernel's constant: `1 / (0.7 log 2)`. -/
theorem log2e_over_temp : Named.named (F := Ideal) κ "log2e_over_temp" (φ := .f32) 0x4003E74F#32 = (((Real.log 2)⁻¹ * ((7 / 10 : ℝ))⁻¹ : ℝ) : EReal) :=
  IdealRules.named_const.ideal_named_scalar _ _ _ _ rfl

/-- The scaled logit of row `i` in column `j`. -/
def logitE (Q : S64x1024.Idx → EReal) (W : S1024x32000.Idx → EReal) (sc : Fin 64 → EReal) (ws : S250x128.Idx → EReal) (i : Fin 64) (j : Fin 32000) : EReal :=
  ((∑ k : Fin 1024, Q (ix2 i k) * W (ix2 k j)) * sc i)
    * (ws (ix2 ⟨j.1 / 128, by omega⟩ ⟨j.1 % 128, by omega⟩) * (((Real.log 2)⁻¹ * ((7 / 10 : ℝ))⁻¹ : ℝ) : EReal))

theorem read_slot (s : Fin 8) (f : wV.view.ty.Contents (Elt Ideal)) (off : Fin 3 → ℕ) (e : off = slotOff s) (inb : ∀ a, off a + S1x1024x1280.size a ≤ S8x1024x1280.size a) :
    shapeCast S1024x1280 (View.readAt (Elt Ideal) wV.view (Rect.unit (s := S8x1024x1280) off S1x1024x1280.size inb).toLoadRect f) shapeCasts_S1x1024x1280_S1024x1280
      = (rslot s).view.read (Elt Ideal) f := by
  subst e; rfl

theorem read_tile (c : Dev nD) (b : Fin 25) (XA : BufOf (F := Ideal) c wH) (r : Fin 1024) (j : Fin 1280) :
    (tile b).view.read (Elt Ideal) XA (ix2 r j) = (XA : S1024x32000.Idx → EReal) (ix2 r ⟨1280 * b.1 + j.1, by omega⟩) := by
  refine congrArg (XA : S1024x32000.Idx → EReal) ?_
  funext a; apply Fin.ext; fin_cases a
  · show 0 + 1 * r.val = r.val; omega
  · show 1280 * b.val + 1 * j.val = 1280 * b.val + j.val; omega

theorem v1280_apply (c : Dev nD) (XA : BufOf (F := Ideal) c wH) (k : Fin k0_t1_loop.trips) (r : Fin 1024) (j : Fin 1280) :
    shapeCast S1024x1280 (tripRun.sl.v1280 c XA k) shapeCasts_S1x1024x1280_S1024x1280 (ix2 r j)
      = (XA : S1024x32000.Idx → EReal) (ix2 r ⟨1280 * k.val + j.1, by have h2 := k.isLt; have h3 : k0_t1_loop.trips = 25 := rfl; omega⟩) := by
  have hb : Ring.bk 25 k.val = k.cast rfl := Fin.ext (Ring.bk_val (NB := 25) k.isLt)
  unfold tripRun.sl.v1280
  refine (congrFun (read_slot (Ring.sl 8 k.val) _ _ (off4_eq k) _) _).trans ?_
  refine (congrFun (View.read_writes_whole (Val := Elt Ideal) (rslot (Ring.sl 8 k.val)).view _ _) _).trans ?_
  rw [hb]
  exact read_tile c (k.cast rfl) XA r j

theorem dot_tile (lhs : FVec Ideal S64x1024 .fp8e4m3) (rhs : FVec Ideal S1024x1280 .fp8e4m3) (i : Fin 64) (j : Fin 1280) :
    matmul dot_S64x1024_S1024x1280_S64x1280_1_0_0_1_n_n none lhs rhs (constant S64x1280 .f32 0x00000000#32) (ix2 i j)
      = ∑ k : Fin 1024, lhs (ix2 i k) * rhs (ix2 k j) := by
  refine (Ideal.matmul_plain_apply (M := 64) (K := 1024) (N := 1280) none lhs rhs (constant S64x1280 .f32 0x00000000#32) i j).trans ?_
  have : (constant (F := Ideal) S64x1280 .f32 0x00000000#32 : S64x1280.Idx → EReal) (ix2 i j) = 0 := Ideal.ofBits_zero_f32
  rw [this, zero_add]

section Trip
variable (c : Dev nD) (XA : BufOf (F := Ideal) c wH) (q : BufOf (F := Ideal) c codesV) (ws : BufOf (F := Ideal) c wsV) (sc : BufOf (F := Ideal) c scaleV)
variable (Q : S64x1024.Idx → EReal) (S : Fin 64 → EReal)

theorem ldAcc_apply (hq : codesV.view.read (Elt Ideal) q = Q) (k : Fin k0_t1_loop.trips) (i : Fin 64) (j : Fin 1280) :
    ldAcc c XA q k (ix2 i j)
      = ∑ r : Fin 1024, Q (ix2 i r) * (XA : S1024x32000.Idx → EReal) (ix2 r ⟨1280 * k.val + j.1, by have h2 := k.isLt; have h3 : k0_t1_loop.trips = 25 := rfl; omega⟩) := by
  unfold ldAcc tripRun.sl.r k0_pay1
  refine (dot_tile _ _ i j).trans (Finset.sum_congr rfl fun r _ => ?_)
  rw [v1280_apply, ← hq]
  refine congrArg (· * _) ?_
  exact congrArg (codesV.view.read (Elt Ideal) q) (emb_whole 64 1024 _ (ix2 i r))

theorem ldXs_apply (hsc : ∀ i a, scaleV.view.read (Elt Ideal) sc (ix2 i a) = S i) (g s : Fin 8) (a : Fin 128) : ldXs c sc g (ix2 s a) = S (rowIx g s) := by
  rw [← hsc _ a]
  exact congrArg (scaleV.view.read (Elt Ideal) sc) (row_emb g s a)

theorem ldKs_apply (W : S250x128.Idx → EReal) (hws : wsV.view.read (Elt Ideal) ws = W) (k : Fin k0_t1_loop.trips) (j : Fin 10) (a : Fin 128) :
    ldKs c ws k j (ix2 0 a) = W (ix2 ⟨10 * k.val + j.val, by have h2 := k.isLt; have h3 : k0_t1_loop.trips = 25 := rfl; omega⟩ a)
      * (((Real.log 2)⁻¹ * ((7 / 10 : ℝ))⁻¹ : ℝ) : EReal) := by
  rw [← log2e_over_temp, ← hws]
  refine congrArg (· * _) ?_
  refine congrArg (wsV.view.read (Elt Ideal) ws) ?_
  have h := wsRow_eq k j
  funext b; apply Fin.ext; fin_cases b
  · show wsRow k j + 1 * 0 = 10 * k.val + j.val; omega
  · show 0 + 1 * a.val = a.val; omega

/-- A scaled logit of a trip. -/
theorem trL_apply (W : S250x128.Idx → EReal) (hq : codesV.view.read (Elt Ideal) q = Q) (hws : wsV.view.read (Elt Ideal) ws = W)
    (hsc : ∀ i a, scaleV.view.read (Elt Ideal) sc (ix2 i a) = S i) (k : Fin k0_t1_loop.trips) (g : Fin 8) (j : Fin 10) (s : Fin 8) (a : Fin 128) :
    trL c XA q ws sc k g j (ix2 s a) = lanes (logitE Q (XA : S1024x32000.Idx → EReal) S W (rowIx g s)) a (10 * k.val + j.val) := by
  have hk : k.val < 25 := k.isLt
  have h1 : extractStridedSlice S8x128 ![8 * g.val, 128 * j.val] (ldAcc c XA q k) (slice_inb g j) (ix2 s a)
      = ldAcc c XA q k (ix2 (rowIx g s) (⟨128 * j.val + a.val, by omega⟩ : Fin 1280)) := by
    refine extractStridedSlice_apply _ _ _ (ix2 s a) _ ?_
    intro b; fin_cases b <;> simp [rowIx]
  have h2 : broadcastTo S8x128 (ldKs c ws k j) broadcasts_S1x128_S8x128 (ix2 s a) = ldKs c ws k j (ix2 0 a) := by
    refine broadcastTo_apply _ _ (ix2 s a) (ix2 0 a) ?_
    intro b; fin_cases b <;> rfl
  show (extractStridedSlice S8x128 ![8 * g.val, 128 * j.val] (ldAcc c XA q k) (slice_inb g j) (ix2 s a) * ldXs c sc g (ix2 s a))
    * broadcastTo S8x128 (ldKs c ws k j) broadcasts_S1x128_S8x128 (ix2 s a) = _
  rw [h1, h2, ldXs_apply c sc S hsc, ldKs_apply c ws W hws, ldAcc_apply c XA q Q hq]
  unfold lanes logitE
  have e1 : (⟨1280 * k.val + (128 * j.val + a.val), by omega⟩ : Fin 32000) = ⟨(128 * (10 * k.val + j.val) + a.val) % 32000, Nat.mod_lt _ (by norm_num)⟩ :=
    Fin.ext (by show 1280 * k.val + (128 * j.val + a.val) = (128 * (10 * k.val + j.val) + a.val) % 32000; omega)
  have e2 : (⟨10 * k.val + j.val, by omega⟩ : Fin 250) = ⟨(1280 * k.val + (128 * j.val + a.val)) / 128, by omega⟩ :=
    Fin.ext (by show 10 * k.val + j.val = (1280 * k.val + (128 * j.val + a.val)) / 128; omega)
  have e3 : a = (⟨(1280 * k.val + (128 * j.val + a.val)) % 128, by omega⟩ : Fin 128) :=
    Fin.ext (by show a.val = (1280 * k.val + (128 * j.val + a.val)) % 128; omega)
  rw [← e1, show W (ix2 ⟨10 * k.val + j.val, by omega⟩ a) = W (ix2 ⟨(1280 * k.val + (128 * j.val + a.val)) / 128, by omega⟩ ⟨(1280 * k.val + (128 * j.val + a.val)) % 128, by omega⟩)
    from congrArg W (congrArg₂ ix2 e2 e3)]

end Trip

/-! ## The row statistics -/

section Rows
variable (c : Dev nD) (fm : BufOf (F := Ideal) c mV) (fl : BufOf (F := Ideal) c lV)

/-- The maximum over the lanes of a group's rows, in every lane. -/
def mxOf (g : Fin 8) : FVec Ideal S8x128 .f32 :=
  broadcastTo S8x128 (shapeCast S8x1 (shapeCast S8x1 (multiReduction .maximumf [1] S8 (ldM c fm g) 0xFF800000#32 reduces_S8x128_S8 (.inl rfl) rfl) shapeCasts_S8_S8x1) shapeCasts_S8x1_S8x1) broadcasts_S8x1_S8x128
/-- The reciprocal of the rescaled sums' total, in every lane. -/
def invOf (g : Fin 8) : FVec Ideal S8x128 .f32 :=
  divf (broadcast S8x128 (Scalar.ofBits .f32 0x3F800000#32))
    (broadcastTo S8x128 (shapeCast S8x1 (shapeCast S8x1 (multiReduction .add [1] S8 (mulf (ldL c fl g) (exp2 (subf (ldM c fm g) (mxOf c fm g)))) 0x00000000#32 reduces_S8x128_S8 (.inl rfl) rfl)
      shapeCasts_S8_S8x1) shapeCasts_S8x1_S8x1) broadcasts_S8x1_S8x128)

theorem lift_lanes (s : Fin 8) (a : Fin 128) : reduces_S8x128_S8.lift (ix1 s) a = ix2 s a := by
  funext b; apply Fin.ext; fin_cases b <;> rfl

theorem spread8 (w : FVec Ideal S8 .f32) (s : Fin 8) (a : Fin 128) :
    broadcastTo S8x128 (shapeCast S8x1 (shapeCast S8x1 w shapeCasts_S8_S8x1) shapeCasts_S8x1_S8x1) broadcasts_S8x1_S8x128 (ix2 s a) = w (ix1 s) := by
  refine (broadcastTo_apply _ _ (ix2 s a) (ix2 s 0) ?_).trans ?_
  · intro b; fin_cases b <;> rfl
  rw [shapeCast_self]
  refine shapeCast_apply _ _ (ix2 s 0) (ix1 s) ?_
  revert s; decide

variable (lg : Fin 64 → Fin 128 → ℕ → EReal)

theorem mxOf_apply (hm : ∀ i a, mV.view.read (Elt Ideal) fm (ix2 i a) = Mn (lg i a) 250) (g s : Fin 8) (a : Fin 128) :
    mxOf c fm g (ix2 s a) = MM (lg (rowIx g s)) := by
  unfold mxOf
  rw [spread8]
  refine (Ideal.multiReduction_maximumf_single _ _ _ _ _ _).trans ?_
  unfold MM
  rw [show (FloatOps.ofBits .f32 0xFF800000#32 : Ideal .f32) = ⊥ from ofBits_bot]
  refine Finset.fold_congr fun (a : Fin 128) _ => ?_
  exact ((congrArg (ldM c fm g) (lift_lanes s a)).trans (congrArg (mV.view.read (Elt Ideal) fm) (row_emb g s a))).trans (hm (rowIx g s) a)

theorem invOf_apply (hm : ∀ i a, mV.view.read (Elt Ideal) fm (ix2 i a) = Mn (lg i a) 250) (hl : ∀ i a, lV.view.read (Elt Ideal) fl (ix2 i a) = Sn (lg i a) 25)
    (g s : Fin 8) (a : Fin 128) : invOf c fm fl g (ix2 s a) = Ideal.div 1 (SS (lg (rowIx g s))) := by
  unfold invOf
  refine (congrArg (Ideal.div (Ideal.ofBits .f32 0x3F800000#32)) (spread8 _ s a)).trans ?_
  rw [Ideal.ofBits_one_f32]
  refine congrArg (Ideal.div 1) ?_
  refine (Ideal.multiReduction_add_single _ _ _ _ _ _).trans ?_
  unfold SS
  refine Finset.sum_congr rfl fun (a : Fin 128) _ => ?_
  have h1 : ldM c fm g (ix2 s a) = Mn (lg (rowIx g s) a) 250 := (congrArg (mV.view.read (Elt Ideal) fm) (row_emb g s a)).trans (hm (rowIx g s) a)
  have h2 : ldL c fl g (ix2 s a) = Sn (lg (rowIx g s) a) 25 := (congrArg (lV.view.read (Elt Ideal) fl) (row_emb g s a)).trans (hl (rowIx g s) a)
  refine (congrArg (mulf (ldL c fl g) (exp2 (subf (ldM c fm g) (mxOf c fm g)))) (lift_lanes s a)).trans ?_
  rw [← h1, ← h2, ← mxOf_apply c fm lg hm g s a]
  rfl

end Rows

section Final
variable (c : Dev nD) (fx : BufOf (F := Ideal) c xH) (fw : BufOf (F := Ideal) c wH) (fs : BufOf (F := Ideal) c wsH)
    (f0 : BufOf (F := Ideal) c xV) (f3 : BufOf (F := Ideal) c wsV) (f4 : BufOf (F := Ideal) c pV) (f5 : BufOf (F := Ideal) c mtV)

/-- The four tables after the tile loop. -/
def tabsEnd : TabsT (F := Ideal) c :=
  tabs c kernelRun.sl.v0 kernelRun.sl.v1 (kernelRun.sl.v962 c fx f0) (kernelRun.sl.v963 c fx f0) (kernelRun.sl.v964 c fx f0) (kernelRun.sl.v969 c fx f0)
    (kernelRun.sl.v974 c fx f0) (kernelRun.sl.v979 c fx f0) (kernelRun.sl.v984 c fx f0) (kernelRun.sl.v989 c fx f0) kernelRun.sl.v992 kernelRun.sl.cst_376
    fw (codesV.view.writes (Elt Ideal) codesV.view.junk (kernelRun.sl.H1_1 c fx f0)) (View.write (Elt Ideal) wsV.view f3 (kernelRun.sl.dma0_1 c fs) Finset.univ)
    (scaleV.view.writes (Elt Ideal) scaleV.view.junk (kernelRun.sl.H6_8 c fx f0))
    (pV.view.writes (Elt Ideal) f4 (kernelRun.sl.H4_8 c fx f0), f5, mV.view.writes (Elt Ideal) mV.view.junk kernelRun.sl.H7_1, lV.view.writes (Elt Ideal) lV.view.junk kernelRun.sl.H8_1) 25

set_option maxHeartbeats 4000000 in
theorem H7_rows : kernelRun.sl.H7_8 c fx fw fs f0 f3 f4 f5 = rowPieces (mxOf c (tabsEnd c fx fw fs f0 f3 f4 f5).2.2.1) := rfl
set_option maxHeartbeats 4000000 in
theorem H8_rows : kernelRun.sl.H8_8 c fx fw fs f0 f3 f4 f5
    = rowPieces (invOf c (tabsEnd c fx fw fs f0 f3 f4 f5).2.2.1 (tabsEnd c fx fw fs f0 f3 f4 f5).2.2.2) := rfl

/-- The scales' buffer before the tile loop. -/
theorem scale_rows (i : Fin 64) (a : Fin 128) :
    scaleV.view.read (Elt Ideal) (scaleV.view.writes (Elt Ideal) scaleV.view.junk (kernelRun.sl.H6_8 c fx f0)) (ix2 i a) = kscale (arrQ fx i) := by
  obtain ⟨g, s, rfl⟩ := exists_rowIx i
  rw [H6_eq, View.write_whole_univ]
  have e : scalePieces (loadGrp c fx) = rowPieces fun g => floatOf (F := Ideal) (addi (expOf (fieldOf (amaxOf (grp fx g)))) (broadcast S8x128 127#32)) := rfl
  refine (congrArg (fun L => scaleV.view.read (Elt Ideal) (scaleV.view.writes (Elt Ideal) scaleV.view.junk L) (ix2 (rowIx g s) a)) e).trans ?_
  rw [read_rows, ← rowQ_grp, ← scaleOf_apply (grp fx g) s a]
  unfold scaleOf
  rw [shapeCast_self]

/-- The row's scaled logits. -/
abbrev rowLogits (X : S64x1024.Idx → EReal) (W : S1024x32000.Idx → EReal) (ws : S250x128.Idx → EReal) (i : Fin 64) : Fin 32000 → EReal :=
  logitE (codesOf (F := Ideal) X) W (fun i => kscale (arrQ X i)) ws i

theorem holds_end : Holds c (fun i => lanes (rowLogits fx fw fs i)) 25 (tabsEnd c fx fw fs f0 f3 f4 f5) := by
  unfold tabsEnd
  refine holds_tabs c _ _ _ _ _ _ _ _ _ _ _ _ fw _ _ _ _ ?_ _ ?_ 25 (le_refl _)
  · intro k g j s a
    refine trL_apply c fw _ _ _ (codesOf (F := Ideal) fx) _ fs (codes_back c fx f0) ?_ (scale_rows c fx f0) k g j s a
    rw [View.write_whole_univ]; rfl
  · refine ⟨fun n hn h => absurd h (by omega), fun k h => absurd h (by omega), fun i a => ?_, fun i a => ?_⟩
    · refine (congrFun (read_whole_piece (F := Ideal) mV.view _ _ (k0_pay698 (F := Ideal))) _).trans ?_
      unfold k0_pay698
      rw [shapeCast_self]; rfl
    · refine (congrFun (read_whole_piece (F := Ideal) lV.view _ _ (k0_pay699 (F := Ideal))) _).trans ?_
      unfold k0_pay699
      rw [shapeCast_self]; rfl

/-- The target result. -/
def targetE (X : S64x1024.Idx → EReal) (W : S1024x32000.Idx → EReal) (ws : S250x128.Idx → EReal) : S64x32000.Idx → EReal := fun y =>
  kernelRow (lanes (rowLogits X W ws (y 0))) ⟨(y 1).val % 128, by omega⟩ ((y 1).val / 128)

theorem run_target (g0 : BufOf (F := Ideal) c targetH) (g1 : BufOf (F := Ideal) c codesH) (g2 : BufOf (F := Ideal) c scalesH)
    (f1 : BufOf (F := Ideal) c codesV) (f2 : BufOf (F := Ideal) c wV) (f6 : BufOf (F := Ideal) c scaleV) (f7 : BufOf (F := Ideal) c mV) (f8 : BufOf (F := Ideal) c lV) (f9 : BufOf (F := Ideal) c rowV) :
    (targetOf c (kernelRun c fx fw fs g0 g1 g2 f0 f1 f2 f3 f4 f5 f6 f7 f8 f9).1.1 : S64x32000.Idx → EReal) = targetE fx fw fs := by
  obtain ⟨v, w, e⟩ : ∃ v w, (kernelRun c fx fw fs g0 g1 g2 f0 f1 f2 f3 f4 f5 f6 f7 f8 f9).1.1
      = finalRows c v w (tabsEnd c fx fw fs f0 f3 f4 f5).1 (tabsEnd c fx fw fs f0 f3 f4 f5).2.1
        (mV.view.writes (Elt Ideal) mV.view.junk (kernelRun.sl.H7_8 c fx fw fs f0 f3 f4 f5)) (lV.view.writes (Elt Ideal) lV.view.junk (kernelRun.sl.H8_8 c fx fw fs f0 f3 f4 f5)) :=
    ⟨kernelRun.sl.v962 c fx f0, fun _ => kernelRun.sl.cst_376, rfl⟩
  rw [e]
  have h := holds_end c fx fw fs f0 f3 f4 f5
  rw [H7_rows, H8_rows]
  generalize tabsEnd c fx fw fs f0 f3 f4 f5 = T at h ⊢
  funext y
  obtain ⟨i, j, rfl⟩ : ∃ (i : Fin 64) (j : Fin 32000), y = ix2 i j := ⟨y 0, y 1, eq_ix2 y⟩
  have hj := j.2
  have hn : j.val / 128 < 250 := by omega
  have ej : j = colIx (j.val / 128) hn ⟨j.val % 128, by omega⟩ := Fin.ext (by show j.val = 128 * (j.val / 128) + j.val % 128; omega)
  have hT : targetE fx fw fs (ix2 i j) = kernelRow (lanes (rowLogits fx fw fs i)) ⟨j.val % 128, by omega⟩ (j.val / 128) := rfl
  rw [hT]
  refine (congrArg (fun j => (targetOf c (finalRows c v w T.1 T.2.1 _ _) : S64x32000.Idx → EReal) (ix2 i j)) ej).trans ?_
  refine (targetOf_apply c _ _ _ _ _ _ i (j.val / 128) hn ⟨j.val % 128, by omega⟩).trans ?_
  obtain ⟨g, s, rfl⟩ := exists_rowIx i
  rw [read_rows, read_rows, h.p _ hn (by omega), h.mt _ (by show j.val / 128 / 10 < 25; omega),
    mxOf_apply c _ (fun i => lanes (rowLogits fx fw fs i)) h.m, invOf_apply c _ _ (fun i => lanes (rowLogits fx fw fs i)) h.m h.l]
  rfl

end Final

end Cert.KernelIdeal.Hand

end
-- ==== Proof.KernelIdeal.Launched.lean ====
module

public import proofs.«01_k».proof.Proof.KernelIdeal.TargetVal
public import proofs.«01_k».proof.Proof.KernelIdeal.Out

/-! The whole program from any memory: it ends, every semaphore at zero, the arguments unchanged and the
three results at their closed forms over the extended reals. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The kernel's own semaphores, -/
abbrev osem0 : Fin 20 → SemLoc sig := fun j => SemLoc.dma j
/-- the written results and the inputs the kernel reads. -/
abbrev R0 : Finset (Ref sig .tc) := {main_v2_0, main_v2_1, main_v2_2}
abbrev H0 : Finset (Ref sig .tc) := {main_v0, main_arg1, main_v1}
theorem H0_sub : H0 ⊆ Pipeline.restRefs sig (cfg0).spec := by decide
theorem R0_sub : R0 ⊆ Pipeline.restRefs sig (cfg0).spec \ H0 := by decide
theorem ownSemFacts0 : Pipeline.OwnSemFacts (cfg0).spec osem0 := by decide

/-- The results' contents at the end. -/
def G (c : Dev nD) : (b : Ref sig .tc) → Buf (Elt Ideal) ((c.tc : Thread nD τ).loc b) :=
  Function.update (Function.update (Function.update (V m c) main_v2_0 (targetE (V m c main_v0) (V m c main_arg1) (V m c main_v1)))
    main_v2_1 (codesOf (F := Ideal) (V m c main_v0))) main_v2_2 (rowOf (F := Ideal) (V m c main_v0))

theorem G_target (c : Dev nD) : G m c main_v2_0 = targetE (V m c main_v0) (V m c main_arg1) (V m c main_v1) := by
  unfold G; rw [Function.update_of_ne (by decide), Function.update_of_ne (by decide), Function.update_self]
theorem G_codes (c : Dev nD) : G m c main_v2_1 = codesOf (F := Ideal) (V m c main_v0) := by
  unfold G; rw [Function.update_of_ne (by decide), Function.update_self]
theorem G_scales (c : Dev nD) : G m c main_v2_2 = rowOf (F := Ideal) (V m c main_v0) := by
  unfold G; rw [Function.update_self]

theorem routed_eq (c : Dev nD) (W : (b : Ref sig .tc) → Buf (Elt Ideal) ((c.tc : Thread nD τ).loc b)) :
    (Pipeline.routed R0 c W : sProp 𝕄) = iprop(pt c targetH (W main_v2_0) ∗ pt c codesH (W main_v2_1) ∗ pt c scalesH (W main_v2_2)) := by
  unfold Pipeline.routed; rw [BI.bigSep_eq_bigSepL_of_eq [main_v2_0, main_v2_1, main_v2_2] (by decide) (by decide)]; rfl

theorem hbm_eq (c : Dev nD) :
    (bigSep H0 (fun b => ((c : Thread nD τ).loc b) ↦{fullShare} V m c b) : sProp 𝕄)
      = iprop(pt c xH (V m c main_v0) ∗ pt c wH (V m c main_arg1) ∗ pt c wsH (V m c main_v1)) := by
  rw [BI.bigSep_eq_bigSepL_of_eq [main_v0, main_arg1, main_v1] (by decide) (by decide)]; rfl

/-- The semaphores the body uses, and the ones it does not. -/
def semsUsed (c : Dev nD) : sProp 𝕄 :=
  iprop(iprop(cellP c 0 ∗ cellP c 1 ∗ cellP c 2 ∗ cellP c 3 ∗ cellP c 4 ∗ cellP c 5 ∗ cellP c 6 ∗ cellP c 7)
            ∗ cellD c 0 ∗ cellD c 1 ∗ cellT c ∗ cellD c 18 ∗ cellD c 19)
def semsIdle (c : Dev nD) : sProp 𝕄 := BI.bigSepL [2, 3, 4, 5, 15, 16, 17] (fun j : Fin 20 => semVal ((c : Thread nD τ), SemLoc.dma j) 0)

theorem ownSems_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma 6) 0 ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0
          ∗ cellD c 0 ∗ cellD c 1 ∗ semVal ((c : Thread nD τ), SemLoc.dma 14) 0 ∗ cellD c 18 ∗ cellD c 19 ∗ semsIdle c) := by
  rw [Pipeline.ownSems0_eq_of_list c osem0 [6, 7, 8, 9, 10, 11, 12, 13, 0, 1, 14, 18, 19, 2, 3, 4, 5, 15, 16, 17] (by decide) (by decide)]; rfl

theorem sems_split (c : Dev nD) :
    (Pipeline.ownSems0 (Ix := Unit) (Name := ℕ) (U := Pipeline.UD sig nD τ) (Lvl := ℕ) (Val := Elt Ideal) (τ := τ) osem0 c : sProp 𝕄) ⊢ iprop(semsUsed c ∗ semsIdle c) := by
  rw [ownSems_eq]; unfold semsUsed
  iintro ⟨A0, A1, A2, A3, A4, A5, A6, A7, B0, B1, B2, B3, B4, HI⟩
  isplitr [HI]
  · isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0]; · iexact B0
    isplitl [B1]; · iexact B1
    isplitl [B2]; · iexact B2
    isplitl [B3]; · iexact B3
    iexact B4
  iexact HI

theorem sems_join (c : Dev nD) :
    iprop(semsUsed c ∗ semsIdle c) ⊢ (Pipeline.ownSems0 (Ix := Unit) (Name := ℕ) (U := Pipeline.UD sig nD τ) (Lvl := ℕ) (Val := Elt Ideal) (τ := τ) osem0 c : sProp 𝕄) := by
  rw [ownSems_eq]; unfold semsUsed
  iintro ⟨⟨⟨A0, A1, A2, A3, A4, A5, A6, A7⟩, B0, B1, B2, B3, B4⟩, HI⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  iexact HI

/-- The kernel's buffers. -/
def scr (c : Dev nD) : sProp 𝕄 :=
  iprop((∃ f, pt c xV f) ∗ (∃ f, pt c codesV f) ∗ (∃ f, pt c wV f) ∗ (∃ f, pt c wsV f) ∗ (∃ f, pt c pV f) ∗ (∃ f, pt c mtV f)
    ∗ (∃ f, pt c scaleV f) ∗ (∃ f, pt c mV f) ∗ (∃ f, pt c lV f) ∗ (∃ f, pt c rowV f))

theorem Phi_eq (W : (c : Dev nD) → (b : Ref sig .tc) → Buf (Elt Ideal) ((c.tc : Thread nD τ).loc b)) (c : Dev nD) :
    (Pipeline.ΦDRG osem0 (cfg0).spec H0 R0 (V m) W c : sProp 𝕄)
      = iprop(scr c ∗ (∃ r, prngReg c r) ∗ Pipeline.ownSems0 (Ix := Unit) (Name := ℕ) (U := Pipeline.UD sig nD τ) (Lvl := ℕ) (Val := Elt Ideal) (τ := τ) osem0 c
          ∗ iprop(pt c xH (V m c main_v0) ∗ pt c wH (V m c main_arg1) ∗ pt c wsH (V m c main_v1))
          ∗ iprop(pt c targetH (W c main_v2_0) ∗ pt c codesH (W c main_v2_1) ∗ pt c scalesH (W c main_v2_2))) := by
  rw [Pipeline.ΦDRG_eq, scopedRest0_eq, hbm_eq, routed_eq]; rfl

/-- The proof data of the one point: no windows; the results at the region's entry before it and at `G` after it. -/
def dats (_ : Fin 1) (c : Dev nD) : Dat τ (Elt Ideal) Unit ℕ (Pipeline.UD sig nD τ) ℕ cfg0 c where
  A w := V m c (Pipeline.arrRef (cfg0).spec w)
  after w t := w.elim0
  Φ t := Pipeline.ΦDRG osem0 (cfg0).spec H0 R0 (V m) (if t = 0 then V m else G m) c
  q _ := fullShare
  owed _ := 0

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := Ideal)) Variants.none c none) Set.univ (bodyAt0 t) (fun _ => bodyPost m c t) := by
  have ht := fin_N0 t
  subst ht
  unfold bodyPre bodyPost bodyAt0
  rw [show (dats m 0 c).Φ t0_0.castSucc = Pipeline.ΦDRG osem0 (cfg0).spec H0 R0 (V m) (V m) c from rfl,
    show (dats m 0 c).Φ t0_0.succ = Pipeline.ΦDRG osem0 (cfg0).spec H0 R0 (V m) (G m) c from rfl, Phi_eq, Phi_eq, G_target, G_codes, G_scales]
  unfold Dat.owesAt Pipeline.owesWithin
  rw [show (dats m 0 c).owed t0_0.castSucc = 0 from rfl, show (dats m 0 c).owed t0_0.succ = 0 from rfl]
  unfold scr
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hg, Hq, ⟨Hx, Hw, Hs⟩, ⟨Ht, Hc, Hl⟩⟩, ⟨%W, -, HW⟩⟩
  ihave Hqq := (sems_split c) $$ Hq
  icases Hqq with ⟨Hu, HI⟩
  unfold semsUsed
  icases Hu with ⟨HP, D0, D1, DT, D18, D19⟩
  iapply ((kernelRun c (V m c main_v0) (V m c main_arg1) (V m c main_v1) (V m c main_v2_0) (V m c main_v2_1) (V m c main_v2_2) f0 f1 f2 f3 f4 f5 f6 f7 f8 f9).2 W _)
  isplitl [Hx]; · iexact Hx
  isplitl [Hw]; · iexact Hw
  isplitl [Hs]; · iexact Hs
  isplitl [Ht]; · iexact Ht
  isplitl [Hc]; · iexact Hc
  isplitl [Hl]; · iexact Hl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HP]; · iexact HP
  isplitl [D0]; · iexact D0
  isplitl [D1]; · iexact D1
  isplitl [DT]; · iexact DT
  isplitl [D18]; · iexact D18
  isplitl [D19]; · iexact D19
  isplitl [HW]; · iexact HW
  rw [run_codes, run_scales]
  iintro ⟨Hx, Hw, Hs, HO, Hc, Hl, H0, H1, H2, H3, H5, H6, H7, H8, H9, HP, D0, D1, DT, D18, D19, ⟨%W', HW'⟩⟩
  ihave HOO := (out_join c _) $$ HO
  rw [run_target]
  icases HOO with ⟨Ht, H4⟩
  isplitr [HW']
  · isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [Hg]; · iexact Hg
    isplitl [HP D0 D1 DT D18 D19 HI]
    · iapply (sems_join c)
      unfold semsUsed
      isplitr [HI]
      · isplitl [HP]; · iexact HP
        isplitl [D0]; · iexact D0
        isplitl [D1]; · iexact D1
        isplitl [DT]; · iexact DT
        isplitl [D18]; · iexact D18
        iexact D19
      iexact HI
    isplitl [Hx Hw Hs]
    · isplitl [Hx]; · iexact Hx
      isplitl [Hw]; · iexact Hw
      iexact Hs
    isplitl [Ht]; · iexact Ht
    isplitl [Hc]; · iexact Hc
    iexact Hl
  iexists W'; isplitr; · ipureintro; exact fun _ _ => Or.inl trivial
  iexact HW'

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [defs₀_row]
  refine triple_restated (sound_body m c t) rfl ?_ fun _ => ?_
  · unfold bodyPre; iintro ⟨HΦ, HW, -⟩
    isplitl [HΦ]; · iexact HΦ
    iexact HW
  · unfold bodyPost; iintro ⟨HΦ, HW⟩
    isplitl [HΦ]; · iexact HΦ
    isplitl [HW]; · iexact HW
    rw [show (Finset.univ : Finset (Fin cfg0.W)) = ∅ from rfl, BI.bigSep_empty]
    iempintro

set_option maxHeartbeats 800000 in
theorem hmain : Pipeline.HMain (Ix := Unit) (Name := ℕ) (U := Pipeline.UD sig nD τ) (Lvl := ℕ) cfgs 0 defs₀ Variants.none m (main (F := Ideal)) (V m) :=
  Pipeline.hmain_prefix cfgs 0 defs₀ Variants.none m main hostOps0 hostOps0_sub hostOps0_fresh main_chain

set_option backward.isDefEq.respectTransparency.types false in
theorem run_main : θ_run defs (onTc (τ := τ) (main (F := Ideal))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c w => w.elim0)
    (howed := fun _ _ => rfl) (V := V m) (hmain := hmain m) (hA := fun c w => w.elim0) (G := G m)
    (hin := fun _ => .rfl) (hout := fun _ => .rfl)

/-- The whole program, any memory: the arguments unchanged, the results named, every semaphore at zero. -/
theorem run_value : θ_run defs (onTc (τ := τ) (main (F := Ideal))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.mem ((c.tc : Thread nD τ).loc main_v2_0) = targetE (V m c main_v0) (V m c main_arg1) (V m c main_v1)
      ∧ r.2.mem ((c.tc : Thread nD τ).loc main_v2_1) = codesOf (F := Ideal) (V m c main_v0)
      ∧ r.2.mem ((c.tc : Thread nD τ).loc main_v2_2) = rowOf (F := Ideal) (V m c main_v0))
      ∧ r.2.sem = fun _ => 0) :=
  (θ_run defs _ _).mono (fun r h => ⟨fun c => ⟨⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c)⟩,
      (h.1.2 c main_v2_0 (by decide)).trans (G_target m c), (h.1.2 c main_v2_1 (by decide)).trans (G_codes m c),
      (h.1.2 c main_v2_2 (by decide)).trans (G_scales m c)⟩, h.2⟩) (run_main m ρ)

end Cert.KernelIdeal.Hand

end
-- ==== Proof.ReferenceIdeal.AtIdeal.lean ====
module

public import proofs.«01_k».proof.Proof.Gen.ReferenceIdeal.Frame
public import proofs.«01_k».proof.Proof.Quant
public import proofs.«01_k».proof.Proof.Softmax
public import Idealize.ShloMosaic.Lib.Pipeline.Value
public import Idealize.ShloMosaic.Lib.MatmulPlain
public import Idealize.ShloMosaic.Lib.ValueIdxCoords
public import Idealize.ShloMosaic.Lib.ValueIdx
public import Idealize.ShloMosaic.Lib.ValueIdxRank1

/-! What the reference computes over the extended reals, element by element. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)
open Cert.Quant Cert.Softmax

variable {F : FTy → Type} [FloatOps F] [Named F]
variable (m : (ℓ : Loc nD τ sig) → Buf (Elt F) ℓ) (ρ : Dev nD → PrngReg)

/-! ## The one point's blocks are the whole arrays -/

theorem emb_0 (t : Fin cfg0.N) (y : S64x1024.Idx) : ((cfg0.win 0).blk t).view.emb y = y := by
  funext a; apply Fin.ext
  match a with
  | ⟨0, _⟩ => show 0 * 64 + 1 * (y 0).val = (y 0).val; omega
  | ⟨1, _⟩ => show 0 * 1024 + 1 * (y 1).val = (y 1).val; omega

theorem emb_1 (t : Fin cfg0.N) (y : S1024x32000.Idx) : ((cfg0.win 1).blk t).view.emb y = y := by
  funext a; apply Fin.ext
  match a with
  | ⟨0, _⟩ => show 0 * 1024 + 1 * (y 0).val = (y 0).val; omega
  | ⟨1, _⟩ => show 0 * 32000 + 1 * (y 1).val = (y 1).val; omega

theorem emb_2 (t : Fin cfg0.N) (y : S1x32000.Idx) : ((cfg0.win 2).blk t).view.emb y = y := by
  funext a; apply Fin.ext
  match a with
  | ⟨0, _⟩ => show 0 * 1 + 1 * (y 0).val = (y 0).val; omega
  | ⟨1, _⟩ => show 0 * 32000 + 1 * (y 1).val = (y 1).val; omega

theorem emb_3 (t : Fin cfg0.N) (y : S64x32000.Idx) : ((cfg0.win 3).blk t).view.emb y = y := by
  funext a; apply Fin.ext
  match a with
  | ⟨0, _⟩ => show 0 * 64 + 1 * (y 0).val = (y 0).val; omega
  | ⟨1, _⟩ => show 0 * 32000 + 1 * (y 1).val = (y 1).val; omega

theorem emb_4 (t : Fin cfg0.N) (y : S64x1024.Idx) : ((cfg0.win 4).blk t).view.emb y = y := by
  funext a; apply Fin.ext
  match a with
  | ⟨0, _⟩ => show 0 * 64 + 1 * (y 0).val = (y 0).val; omega
  | ⟨1, _⟩ => show 0 * 1024 + 1 * (y 1).val = (y 1).val; omega

theorem emb_5 (t : Fin cfg0.N) (y : S1x64.Idx) : ((cfg0.win 5).blk t).view.emb y = y := by
  funext a; apply Fin.ext
  match a with
  | ⟨0, _⟩ => show 0 * 1 + 1 * (y 0).val = (y 0).val; omega
  | ⟨1, _⟩ => show 0 * 64 + 1 * (y 1).val = (y 1).val; omega

theorem r0_0_emb (y : S64x1024.Idx) : r0_0.emb y = y := by
  funext a; apply Fin.ext; fin_cases a <;> simp [Rect.emb, Rect.unit]

theorem r0_1_emb (y : S1024x32000.Idx) : r0_1.emb y = y := by
  funext a; apply Fin.ext; fin_cases a <;> simp [Rect.emb, Rect.unit]

theorem r0_2_emb (y : S1x32000.Idx) : r0_2.emb y = y := by
  funext a; apply Fin.ext; fin_cases a <;> simp [Rect.emb, Rect.unit]

theorem r0_3_emb (y : S64x32000.Idx) : r0_3.emb y = y := by
  funext a; apply Fin.ext; fin_cases a <;> simp [Rect.emb, Rect.unit]

theorem r0_4_emb (y : S1x64.Idx) : r0_4.emb y = y := by
  funext a; apply Fin.ext; fin_cases a <;> simp [Rect.emb, Rect.unit]

variable (x : Vec F S64x1024 .bf16) (w : Vec F S1024x32000 .fp8e4m3) (ws : Vec F S1x32000 .f32)

theorem ld_x : View.ld x r0_0 = x := funext fun y => congrArg x (r0_0_emb y)
theorem ld_w : View.ld w r0_1 = w := funext fun y => congrArg w (r0_1_emb y)
theorem ld_ws : View.ld ws r0_2 = ws := funext fun y => congrArg ws (r0_2_emb y)

theorem out3_eq : out0_3 x w ws = k0_pay1 (k0_pay7 x w ws) (k0_pay8 x w ws) := by
  funext y
  unfold out0_3
  rw [ld_x, ld_w, ld_ws]
  have := View.canon_cons_emb (Val := Elt F) (e := .f32) r0_3 (k0_pay1 (k0_pay7 x w ws) (k0_pay8 x w ws)) [] y
  rwa [r0_3_emb] at this

theorem out4_eq : out0_4 x w ws = k0_pay5 x := by
  funext y
  unfold out0_4
  rw [ld_x]
  have := View.canon_cons_emb (Val := Elt F) (e := .fp8e4m3) r0_0 (k0_pay5 x) [] y
  rwa [r0_0_emb] at this

theorem out5_eq : out0_5 x w ws = k0_pay2 (k0_pay6 x) := by
  funext y
  unfold out0_5
  rw [ld_x]
  have := View.canon_cons_emb (Val := Elt F) (e := .f32) r0_4 (k0_pay2 (k0_pay6 x)) [] y
  rwa [r0_4_emb] at this

theorem iblk0_eq (c : Dev nD) (t : Fin cfg0.N) : iblk m c 0 t = V m c main_v0 :=
  funext fun y => congrArg (V m c main_v0) (emb_0 t y)
theorem iblk1_eq (c : Dev nD) (t : Fin cfg0.N) : iblk m c 1 t = V m c main_arg1 :=
  funext fun y => congrArg (V m c main_arg1) (emb_1 t y)
theorem iblk2_eq (c : Dev nD) (t : Fin cfg0.N) : iblk m c 2 t = V m c main_v1 :=
  funext fun y => congrArg (V m c main_v1) (emb_2 t y)

/-! ## The results' arrays after the run -/

theorem idx_inj3 : ∀ t t' : Fin cfg0.N, win0_3.index t = win0_3.index t' → t = t' :=
  (by decide +kernel : ∀ t t' : Fin grid0.N, win0_3.index t = win0_3.index t' → t = t')

theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 (fun t t' _ _ hne => (cfg0.win 3).disjoint_blk fun h => hne (idx_inj3 t t' h)) cfg0.N t t.isLt hf

/-- The target's array after the run. -/
theorem arr3 (c : Dev nD) : (dats m 0 c).arrAt 3 cfg0.N = k0_pay1 (k0_pay7 (V m c main_v0) (V m c main_arg1) (V m c main_v1)) (k0_pay8 (V m c main_v0) (V m c main_arg1) (V m c main_v1)) := by
  have h := (blocks3 m c t0_0 rfl).trans (flushed3 m c _)
  rw [iblk0_eq, iblk1_eq, iblk2_eq, out3_eq] at h
  have hread : ∀ A : S64x32000.Idx → Elt F .f32, ((cfg0.win 3).blk t0_0).view.read (Elt F) A = A := fun A => funext fun y => congrArg A (emb_3 t0_0 y)
  have hc : ∀ v : S64x32000.Idx → Elt F .f32, (cfg0.win 3).cut (grid0.coords t0_0) v = v := fun v => funext fun y => congrArg v (funext fun a => Fin.ext rfl)
  refine (hread _).symm.trans (h.trans (hc _))

theorem idx_inj4 : ∀ t t' : Fin cfg0.N, win0_4.index t = win0_4.index t' → t = t' :=
  (by decide +kernel : ∀ t t' : Fin grid0.N, win0_4.index t = win0_4.index t' → t = t')

theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 (fun t t' _ _ hne => (cfg0.win 4).disjoint_blk fun h => hne (idx_inj4 t t' h)) cfg0.N t t.isLt hf

/-- The codes' array after the run. -/
theorem arr4 (c : Dev nD) : (dats m 0 c).arrAt 4 cfg0.N = k0_pay5 (V m c main_v0) := by
  funext y
  have h := congrFun ((blocks4 m c ⟨0, by decide⟩ rfl).trans (flushed4 m c _)) y
  rw [iblk0_eq, iblk1_eq, iblk2_eq, out4_eq] at h
  exact (congrArg ((dats m 0 c).arrAt 4 cfg0.N) (emb_4 ⟨0, by decide⟩ y).symm).trans h

theorem idx_inj5 : ∀ t t' : Fin cfg0.N, win0_5.index t = win0_5.index t' → t = t' :=
  (by decide +kernel : ∀ t t' : Fin grid0.N, win0_5.index t = win0_5.index t' → t = t')

theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 (fun t t' _ _ hne => (cfg0.win 5).disjoint_blk fun h => hne (idx_inj5 t t' h)) cfg0.N t t.isLt hf

/-- The scales' array after the run. -/
theorem arr5 (c : Dev nD) : (dats m 0 c).arrAt 5 cfg0.N = k0_pay2 (k0_pay6 (V m c main_v0)) := by
  funext y
  have h := congrFun ((blocks5 m c ⟨0, by decide⟩ rfl).trans (flushed5 m c _)) y
  rw [iblk0_eq, iblk1_eq, iblk2_eq, out5_eq] at h
  exact (congrArg ((dats m 0 c).arrAt 5 cfg0.N) (emb_5 ⟨0, by decide⟩ y).symm).trans h

/-- The frame run with each result named. -/
theorem run_value : θ_run defs (onTc (τ := τ) (main (F := F))) ⟨m, fun _ => 0, ρ⟩ fun r => ∀ c : Dev nD,
      r.2.mem ((c : Thread nD τ).loc main_v2_0) = k0_pay1 (k0_pay7 (V m c main_v0) (V m c main_arg1) (V m c main_v1)) (k0_pay8 (V m c main_v0) (V m c main_arg1) (V m c main_v1))
      ∧ r.2.mem ((c : Thread nD τ).loc main_v2_1) = k0_pay5 (V m c main_v0)
      ∧ r.2.mem ((c : Thread nD τ).loc main_v2_2) = k0_pay2 (k0_pay6 (V m c main_v0)) :=
  (θ_run defs _ _).mono (fun r h c => ⟨((h c).1 3).trans (arr3 m c), ((h c).1 4).trans (arr4 m c), ((h c).1 5).trans (arr5 m c)⟩) (run_main m ρ)

/-- The arrays as the reference finds them: the arguments, the first and the last reshaped. -/
theorem V_main_v0 (c : Dev nD) : V m c main_v0 = shapeCast S64x1024 (m ((c : Thread nD τ).loc main_arg0)) shapeCasts_S64x1x1024_S64x1024 := rfl
theorem V_main_v1 (c : Dev nD) : V m c main_v1 = shapeCast S1x32000 (m ((c : Thread nD τ).loc main_arg2)) shapeCasts_S32000_S1x32000 := rfl

/-! ## The codes and the scales -/

theorem ln2 : Named.named (F := Ideal) κ "ln2" (φ := .f32) 0x3F317218#32 = ((Real.log 2 : ℝ) : EReal) :=
  IdealRules.named_const.ideal_named_scalar _ _ _ _ rfl

theorem lift_row (r : Fin 64) (k : Fin 1024) : reduces_S64x1024_S64.lift (ix1 r) k = ix2 r k := by
  funext c; apply Fin.ext; fin_cases c <;> rfl

/-- The row maximum. -/
theorem rowMax_apply (x : Vec Ideal S64x1024 .bf16) (r : Fin 64) :
    shapeCast S64x1 (multiReduction .maximumf [1] S64 (absf (k0_pay3 x)) 0xFF800000#32 reduces_S64x1024_S64 (.inl rfl) rfl) shapeCasts_S64_S64x1 (ix2 r 0)
      = amax (fun k => x (ix2 r k)) := by
  unfold k0_pay3
  rw [shapeCast_self]
  refine (shapeCast_apply _ _ (ix2 r 0) (ix1 r) ?_).trans ?_
  · revert r; decide
  refine (Ideal.multiReduction_maximumf_single _ _ _ _ _ _).trans ?_
  unfold amax
  rw [show (FloatOps.ofBits .f32 0xFF800000#32 : Ideal .f32) = ⊥ from ofBits_bot]
  refine Finset.fold_congr fun k _ => ?_
  exact congrArg (fun y => max (x y) (-x y)) (lift_row r k)

/-- The exponent of a row. -/
theorem pay4_apply (x : Vec Ideal S64x1024 .bf16) (r : Fin 64) : k0_pay4 x (ix2 r 0) = rexp (amax (fun k => x (ix2 r k))) := by
  rw [← rowMax_apply]
  unfold rexp k0_pay4
  rw [← ln2]
  generalize shapeCast S64x1 (multiReduction .maximumf [1] S64 (absf (k0_pay3 x)) 0xFF800000#32 reduces_S64x1024_S64 (.inl rfl) rfl) shapeCasts_S64_S64x1 = w
  rfl

theorem pay5_apply (x : Vec Ideal S64x1024 .bf16) (r : Fin 64) (k : Fin 1024) : k0_pay5 x (ix2 r k)
    = min (Ideal.ofBits .f32 0x43E00000#32) (max (Ideal.ofBits .f32 0xC3E00000#32)
        (x (ix2 r k) * Ideal.exp2 (Ideal.ofBits .f32 0x00000000#32 - rexp (amax (fun k => x (ix2 r k)))))) := by
  rw [← pay4_apply]
  unfold k0_pay5 k0_pay3
  generalize k0_pay4 x = e
  have h : broadcastTo S64x1024 (exp2 (subf (broadcast S64x1 (Scalar.ofBits (F := Ideal) .f32 0x00000000#32)) e)) broadcasts_S64x1_S64x1024 (ix2 r k)
      = Ideal.exp2 (Ideal.ofBits .f32 0x00000000#32 - e (ix2 r 0)) := by
    refine (broadcastTo_apply _ _ (ix2 r k) (ix2 r 0) ?_).trans rfl
    intro a; fin_cases a <;> rfl
  rw [← h]
  rw [shapeCast_self]
  rfl

theorem pay6_apply (x : Vec Ideal S64x1024 .bf16) (r : Fin 64) : k0_pay6 x (ix2 r 0) = Ideal.exp2 (rexp (amax (fun k => x (ix2 r k)))) := by
  unfold k0_pay6
  rw [← pay4_apply]
  generalize k0_pay4 x = e
  rfl

theorem pay2_apply (v : FVec Ideal S64x1 .f32) (r : Fin 64) : k0_pay2 v (ix2 0 r) = v (ix2 r 0) := by
  unfold k0_pay2
  refine transpose_apply _ _ _ (ix2 0 r) (ix2 r 0) ?_
  intro b; fin_cases b <;> rfl

/-! ## The target -/

theorem temp : Named.named (F := Ideal) κ "temp" (φ := .f32) 0x3F333333#32 = ((7 / 10 : ℝ) : EReal) :=
  IdealRules.named_const.ideal_named_scalar _ _ _ _ rfl

/-- A column spread over the row. -/
theorem spread (v : FVec Ideal S64x1 .f32) (i : Fin 64) (j : Fin 32000) : broadcastTo S64x32000 v broadcasts_S64x1_S64x32000 (ix2 i j) = v (ix2 i 0) := by
  refine broadcastTo_apply _ _ (ix2 i j) (ix2 i 0) ?_
  intro a; fin_cases a <;> rfl

theorem column (v : FVec Ideal S64 .f32) (i : Fin 64) : shapeCast S64x1 v shapeCasts_S64_S64x1 (ix2 i 0) = v (ix1 i) := by
  refine shapeCast_apply _ _ (ix2 i 0) (ix1 i) ?_
  revert i; decide

theorem lift_logit (i : Fin 64) (j : Fin 32000) : reduces_S64x32000_S64.lift (ix1 i) j = ix2 i j := by
  funext c; apply Fin.ext; fin_cases c <;> rfl

/-- The logit of row `i` in column `j`. -/
theorem pay7_apply (x : Vec Ideal S64x1024 .bf16) (w : Vec Ideal S1024x32000 .fp8e4m3) (ws : Vec Ideal S1x32000 .f32) (i : Fin 64) (j : Fin 32000) :
    k0_pay7 x w ws (ix2 i j) = (((∑ k : Fin 1024, k0_pay5 x (ix2 i k) * w (ix2 k j)) * k0_pay6 x (ix2 i 0)) * ws (ix2 0 j)) * (((7 / 10 : ℝ)⁻¹ : ℝ) : EReal) := by
  have h1 : matmul (φ₂ := .fp8e4m3) dot_S64x1024_S1024x32000_S64x32000_1_0_0_1_n_n none (k0_pay5 x) (w : FVec Ideal S1024x32000 .fp8e4m3) (constant S64x32000 .f32 0x00000000#32) (ix2 i j)
      = ∑ k : Fin 1024, k0_pay5 x (ix2 i k) * w (ix2 k j) := by
    refine (Ideal.matmul_plain_apply (M := 64) (K := 1024) (N := 32000) none (k0_pay5 x) w (constant S64x32000 .f32 0x00000000#32) i j).trans ?_
    have : (constant (F := Ideal) S64x32000 .f32 0x00000000#32 : S64x32000.Idx → EReal) (ix2 i j) = 0 := Ideal.ofBits_zero_f32
    rw [this, zero_add]
  have h2 : broadcastTo S64x32000 (shapeCast S1x32000 ws shapeCasts_S1x32000_S1x32000) broadcasts_S1x32000_S64x32000 (ix2 i j) = ws (ix2 0 j) := by
    rw [shapeCast_self]
    refine broadcastTo_apply _ _ (ix2 i j) (ix2 0 j) ?_
    intro a; fin_cases a <;> rfl
  rw [← h1, ← h2, ← spread (k0_pay6 x) i j]
  have h0 : ((7 / 10 : ℝ) : EReal) ≠ 0 := EReal.coe_ne_zero.mpr (by norm_num)
  have h3 : ∀ y : EReal, Ideal.div y (Named.named (F := Ideal) κ "temp" (φ := .f32) 0x3F333333#32) = y * (((7 / 10 : ℝ)⁻¹ : ℝ) : EReal) := fun y => by
    rw [temp, Ideal.div, if_neg h0, EReal.coe_inv]
  rw [← h3]
  unfold k0_pay7
  generalize k0_pay5 x = q
  generalize k0_pay6 x = sc
  rfl

/-- The softmax of row `i`. -/
theorem pay1_apply (x : Vec Ideal S64x1024 .bf16) (w : Vec Ideal S1024x32000 .fp8e4m3) (ws : Vec Ideal S1x32000 .f32) (i : Fin 64) (j : Fin 32000) :
    k0_pay1 (k0_pay7 x w ws) (k0_pay8 x w ws) (ix2 i j) = refRow (fun j => k0_pay7 x w ws (ix2 i j)) j := by
  have h8 : ∀ j, k0_pay8 x w ws (ix2 i j) = Finset.univ.fold max ⊥ (fun j : Fin 32000 => k0_pay7 x w ws (ix2 i j)) := fun j => by
    unfold k0_pay8
    refine ((spread _ i j).trans (column _ i)).trans ?_
    refine (Ideal.multiReduction_maximumf_single _ _ _ _ _ _).trans ?_
    rw [show (FloatOps.ofBits .f32 0xFF800000#32 : Ideal .f32) = ⊥ from ofBits_bot]
    exact Finset.fold_congr fun (a : Fin 32000) _ => congrArg (k0_pay7 x w ws) (lift_logit i a)
  generalize k0_pay8 x w ws = M at h8 ⊢
  generalize k0_pay7 x w ws = Z at h8 ⊢
  unfold refRow
  rw [← h8 j]
  have hs : multiReduction (F := Ideal) .add [1] S64 (exp (subf Z M)) 0x00000000#32 reduces_S64x32000_S64 (.inl rfl) rfl (ix1 i)
      = ∑ k : Fin 32000, Ideal.exp (Z (ix2 i k) - M (ix2 i j)) := by
    refine (Ideal.multiReduction_add_single _ _ _ _ _ _).trans ?_
    refine Finset.sum_congr rfl fun (a : Fin 32000) _ => ?_
    refine (congrArg (exp (subf Z M)) (lift_logit i a)).trans ?_
    rw [h8 j, ← h8 a]; rfl
  rw [← hs, ← Ideal.ofBits_one_f32]
  unfold k0_pay1
  clear hs
  generalize multiReduction (F := Ideal) .add [1] S64 (exp (subf Z M)) 0x00000000#32 reduces_S64x32000_S64 (.inl rfl) rfl = v
  rw [← column v i]
  generalize shapeCast S64x1 v shapeCasts_S64_S64x1 = u
  exact congrArg (Ideal.exp (Z (ix2 i j) - M (ix2 i j)) * ·) (spread (divf (broadcast S64x1 (Scalar.ofBits .f32 0x3F800000#32)) u) i j)

end Cert.ReferenceIdeal.Hand

end
-- ==== Proof.Tame.lean ====
module

public import proofs.«01_k».proof.Pre_tame
public import proofs.«01_k».proof.Proof.Gen.Pre_tame
public import proofs.«01_k».proof.Proof.Quant
public import Idealize.ShloMosaic.Lib.ValueIdxCoords
public import Idealize.ShloMosaic.Lib.ValueIdx
public import Idealize.ShloMosaic.Lib.ValueIdxRank1
public import Idealize.ShloMosaic.Lib.Pipeline.Value

/-! What the precondition says of each row of the input. -/

@[expose] public section

set_option maxRecDepth 16384

noncomputable section

namespace Cert.Pre_tame.Hand

open Cert.Pre_tame Cert.Pre_tame.Gen
open Idealize.ShloMosaic Idealize.ShloMosaic.ValueIdx
open Cert.Quant

theorem reduces_row : S64x1024.Reduces [1] S64 := by decide

theorem lift_row (r : Fin 64) (k : Fin 1024) : reduces_row.lift (ix1 r) k = ix2 r k := by
  funext c; apply Fin.ext; fin_cases c <;> rfl

/-- The row maxima of the predicate. -/
theorem rowMax_apply (x : FVec Ideal S64x1024 .bf16) (r : Fin 64) :
    Host.reduce FloatOps.maximumf (Host.absf (extf .f32 x bitsLt_bf16_f32)) (constant (F := Ideal) S_ .f32 0xFF800000#32) reducesTo_S64x1024_S64_d1 h_S_ (ix1 r)
      = amax (fun k => x (ix2 r k)) := by
  refine (Host.reduce_eq_fold_single (FloatOps.maximumf (F := Ideal) (φ := .f32)) _ _ _ reduces_row _ _).trans ?_
  unfold amax
  rw [show constant (F := Ideal) S_ .f32 0xFF800000#32 (Shape.Idx.first h_S_) = ⊥ from ofBits_bot]
  refine Finset.fold_congr fun k _ => ?_
  exact congrArg (fun y => max (x y) (-x y)) (lift_row r k)

/-- Where the predicate holds of every element, every row is tame. -/
theorem tame_of (a : FVec Ideal S64x1x1024 .bf16) (w : FVec Ideal S1024x32000 .fp8e4m3) (ws : FVec Ideal S32000 .f32) (h : ∀ j, fn (F := Ideal) a w ws j = 1) (r : Fin 64) :
    Tame (fun k => shapeCast S64x1024 a shapeCasts_S64x1x1024_S64x1024 (ix2 r k)) := by
  unfold fn at h
  simp only at h
  generalize shapeCast S64x1024 a shapeCasts_S64x1x1024_S64x1024 = x at h ⊢
  have hm := rowMax_apply x r
  generalize Host.reduce FloatOps.maximumf (Host.absf (extf .f32 x bitsLt_bf16_f32)) (constant (F := Ideal) S_ .f32 0xFF800000#32) reducesTo_S64x1024_S64_d1 h_S_ = M at h hm
  have hb : ∀ (v : IVec S64x1 1) (k : Fin 1024), broadcastInDim S64x1024 ![0, 1] bcast_S64x1_S64x1024_0_1 v (ix2 r k) = v (ix2 r 0) := fun v k =>
    broadcastInDim_apply _ _ _ (ix2 r k) (ix2 r 0) (by intro a; fin_cases a <;> rfl)
  have hM : broadcastInDim S64x1 ![0] bcast_S64_S64x1_0 M (ix2 r 0) = M (ix1 r) :=
    broadcastInDim_apply _ _ _ (ix2 r 0) (ix1 r) (by intro a; fin_cases a; rfl)
  have key : ∀ k : Fin 1024, IntOp.andi (Ideal.cmp .ole (max (x (ix2 r k)) (-x (ix2 r k))) (Ideal.ofBits .f32 0x7F7F0000#32))
      (IntOp.ori (Ideal.cmp .oeq (amax (fun k => x (ix2 r k)) * Ideal.ofBits .f32 0x3B124925#32) (Ideal.ofBits .f32 0x00000000#32))
        (Ideal.cmp .oge (amax (fun k => x (ix2 r k)) * Ideal.ofBits .f32 0x3B124925#32) (Ideal.ofBits .f32 0x00800000#32))) = 1#1 := by
    intro k
    rw [← hm, ← hM]
    exact (congrArg (IntOp.andi _) (hb _ k).symm).trans (h (ix2 r k))
  have two : ∀ p q s : Bool, IntOp.andi (BitVec.ofBool p) (IntOp.ori (BitVec.ofBool q) (BitVec.ofBool s)) = 1#1 → p = true ∧ (q = true ∨ s = true) := by decide
  refine ⟨fun k => ?_, ?_⟩
  · exact of_decide_eq_true (two _ _ _ (key k)).1
  · have := (two _ _ _ (key 0)).2
    rw [Ideal.ofBits_zero_f32] at this
    exact this.imp (fun h => of_decide_eq_true h) (fun h => of_decide_eq_true h)

end Cert.Pre_tame.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tame
public import proofs.«01_k».proof.Proof.Kernel.Launched
public import proofs.«01_k».proof.Proof.KernelIdeal.Launched
public import proofs.«01_k».proof.Proof.KernelIdeal.AtIdeal
public import proofs.«01_k».proof.Proof.ReferenceIdeal.AtIdeal
public import proofs.«01_k».proof.Proof.Tame

@[expose] public section

set_option maxRecDepth 16384

noncomputable section

namespace Cert.Proof

open Idealize.ShloMosaic Idealize.ShloMosaic.TcCoe Idealize.ShloMosaic.ValueIdx Idealize.SL.Sem
open Cert.Quant Cert.Softmax

/-- On tame rows the kernel's codes are the reference's. -/
theorem codes_eq (X : Vec Ideal Cert.KernelIdeal.S64x1024 .bf16) (h : ∀ r : Fin 64, Tame (fun k => X (ix2 r k))) :
    Cert.ReferenceIdeal.Gen.k0_pay5 X = Cert.KernelIdeal.Hand.codesOf X := by
  funext y
  obtain ⟨r, k, rfl⟩ : ∃ (r : Fin 64) (k : Fin 1024), y = ix2 r k := ⟨y 0, y 1, eq_ix2 y⟩
  rw [Cert.KernelIdeal.Hand.codesOf_apply, Cert.ReferenceIdeal.Hand.pay5_apply]
  unfold Cert.KernelIdeal.Hand.arrQ
  rw [(h _).inv]

/-- On tame rows the kernel's scales are the reference's. -/
theorem scales_eq (X : Vec Ideal Cert.KernelIdeal.S64x1024 .bf16) (h : ∀ r : Fin 64, Tame (fun k => X (ix2 r k))) :
    Cert.ReferenceIdeal.Gen.k0_pay2 (Cert.ReferenceIdeal.Gen.k0_pay6 X) = Cert.KernelIdeal.Hand.rowOf X := by
  funext y
  obtain ⟨z, r, rfl⟩ : ∃ (z : Fin 1) (r : Fin 64), y = ix2 z r := ⟨y 0, y 1, eq_ix2 y⟩
  obtain rfl : z = 0 := Subsingleton.elim _ _
  rw [Cert.KernelIdeal.Hand.rowOf_apply, Cert.ReferenceIdeal.Hand.pay2_apply, Cert.ReferenceIdeal.Hand.pay6_apply]
  unfold Cert.KernelIdeal.Hand.arrQ
  rw [(h _).scale]

/-- On tame rows the kernel's softmax is the reference's, whatever the weights and their scales. -/
theorem target_eq (X : Vec Ideal Cert.KernelIdeal.S64x1024 .bf16) (W : Vec Ideal Cert.KernelIdeal.S1024x32000 .fp8e4m3)
    (S : Vec Ideal Cert.ReferenceIdeal.S1x32000 .f32) (K : Vec Ideal Cert.KernelIdeal.S250x128 .f32)
    (hS : ∀ j : Fin 32000, S (ix2 0 j) = K (ix2 ⟨j.1 / 128, by omega⟩ ⟨j.1 % 128, by omega⟩)) (h : ∀ r : Fin 64, Tame (fun k => X (ix2 r k))) :
    Cert.ReferenceIdeal.Gen.k0_pay1 (Cert.ReferenceIdeal.Gen.k0_pay7 X W S) (Cert.ReferenceIdeal.Gen.k0_pay8 X W S) = Cert.KernelIdeal.Hand.targetE X W K := by
  funext y
  obtain ⟨i, j, rfl⟩ : ∃ (i : Fin 64) (j : Fin 32000), y = ix2 i j := ⟨y 0, y 1, eq_ix2 y⟩
  have hj := j.2
  have hn : j.val / 128 < 250 := by omega
  have ej : j = ⟨128 * (j.val / 128) + j.val % 128, by omega⟩ := Fin.ext (by show j.val = 128 * (j.val / 128) + j.val % 128; omega)
  have hs : Cert.ReferenceIdeal.Gen.k0_pay6 X (ix2 i 0) = kscale (Cert.KernelIdeal.Hand.arrQ X i) := by
    rw [Cert.ReferenceIdeal.Hand.pay6_apply]
    unfold Cert.KernelIdeal.Hand.arrQ
    rw [(h _).scale]
  have hL : ∀ j, Cert.KernelIdeal.Hand.rowLogits X W K i j = Cert.ReferenceIdeal.Gen.k0_pay7 X W S (ix2 i j) * (c2 : EReal) := fun j => by
    rw [Cert.ReferenceIdeal.Hand.pay7_apply, hS, codes_eq X h, hs]
    unfold Cert.KernelIdeal.Hand.rowLogits Cert.KernelIdeal.Hand.logitE c2
    rw [mul_comm (Real.log 2)⁻¹, EReal.coe_mul, ← mul_assoc, ← mul_assoc]
  rw [Cert.ReferenceIdeal.Hand.pay1_apply]
  refine (congrArg (refRow _) ej).trans ?_
  exact (row_eq (fun j => Cert.ReferenceIdeal.Gen.k0_pay7 X W S (ix2 i j)) (Cert.KernelIdeal.Hand.rowLogits X W K i) hL ⟨j.val % 128, by omega⟩ (j.val / 128) hn).symm

theorem frame_kernel : Cert.quiescent_Kernel := fun m ρ _ =>
  (θ_run Cert.Kernel.defs _ _).mono (fun _ h => h) (Cert.Kernel.Hand.run_frame m ρ)

theorem frame_kernelIdeal : Cert.quiescent_KernelIdeal := fun m ρ _ =>
  (θ_run Cert.KernelIdeal.defs _ _).mono (fun _ h => ⟨fun c => (h.1 c).1, h.2⟩) (Cert.KernelIdeal.Hand.run_value m ρ)

theorem frame_kernelIdeal_tame : Cert.quiescent_KernelIdeal_pre_tame := fun m ρ _ => frame_kernelIdeal m ρ trivial

theorem frame_reference : Cert.quiescent_ReferenceIdeal := fun m ρ _ => Cert.ReferenceIdeal.Gen.frame m ρ

theorem frame_reference_tame : Cert.quiescent_ReferenceIdeal_pre_tame := fun m ρ _ => Cert.ReferenceIdeal.Gen.frame m ρ

/-- The array the kernel reads: the argument reshaped. -/
theorem kernel_input (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0 = shapeCast Cert.KernelIdeal.S64x1024
      (m ((c : Thread Cert.KernelIdeal.nD Cert.KernelIdeal.τ).loc Cert.KernelIdeal.main_arg0)) Cert.Pre_tame.Gen.shapeCasts_S64x1x1024_S64x1024 := rfl

/-- The weights' scales as kernel and reference read them: one argument, two shapes. -/
theorem scales_input (a : Vec Ideal Cert.KernelIdeal.S32000 .f32) (j : Fin 32000) :
    shapeCast Cert.ReferenceIdeal.S1x32000 a Cert.ReferenceIdeal.Gen.shapeCasts_S32000_S1x32000 (ix2 0 j)
      = shapeCast Cert.KernelIdeal.S250x128 a Cert.KernelIdeal.Gen.shapeCasts_S32000_S250x128 (ix2 ⟨j.1 / 128, by omega⟩ ⟨j.1 % 128, by omega⟩) := by
  refine (shapeCast_apply _ _ (ix2 0 j) (ix1 j) ?_).trans (shapeCast_apply _ _ (ix2 ⟨j.1 / 128, by omega⟩ ⟨j.1 % 128, by omega⟩) (ix1 j) ?_).symm
  · rw [Shape.rowMajor_val_one, Shape.rowMajor_val_two]
    show j.val = 0 * 32000 + j.val
    omega
  · rw [Shape.rowMajor_val_one, Shape.rowMajor_val_two]
    show j.val = j.val / 128 * 128 + j.val % 128
    omega

theorem kernel_scales (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v1 = shapeCast Cert.KernelIdeal.S250x128
      (m ((c : Thread Cert.KernelIdeal.nD Cert.KernelIdeal.τ).loc Cert.KernelIdeal.main_arg2)) Cert.KernelIdeal.Gen.shapeCasts_S32000_S250x128 := rfl

theorem preserves : Cert.preserves_Kernel_KernelIdeal :=
  ⟨rfl, fun _ => IdealRules.named_const.ideal_named _ _ _ _ rfl, IdealRules.named_const.ideal_named_scalar _ _ _ _ rfl⟩

/-- Kernel and reference end with the same target, the same codes and the same scales. -/
theorem algebraic : Cert.algebraic_KernelIdeal_ReferenceIdeal_pre_tame := by
  intro m ρ m' ρ' hpre hagree
  refine ⟨fun c => Cert.KernelIdeal.Hand.targetE (Cert.KernelIdeal.Gen.V m c Cert.KernelIdeal.main_v0) (Cert.KernelIdeal.Gen.V m c Cert.KernelIdeal.main_arg1) (Cert.KernelIdeal.Gen.V m c Cert.KernelIdeal.main_v1),
    fun c => Cert.KernelIdeal.Hand.codesOf (F := Ideal) (Cert.KernelIdeal.Gen.V m c Cert.KernelIdeal.main_v0),
    fun c => Cert.KernelIdeal.Hand.rowOf (F := Ideal) (Cert.KernelIdeal.Gen.V m c Cert.KernelIdeal.main_v0), ?_, ?_⟩
  · exact (θ_run Cert.KernelIdeal.defs _ _).mono (fun _ h c => ⟨(h.1 c).2.1, (h.1 c).2.2.1, (h.1 c).2.2.2, (h.1 c).1⟩) (Cert.KernelIdeal.Hand.run_value m ρ)
  · have hv : ∀ c, Cert.ReferenceIdeal.Gen.V m' c Cert.ReferenceIdeal.main_v0 = Cert.KernelIdeal.Gen.V m c Cert.KernelIdeal.main_v0 := fun c => by
      rw [Cert.ReferenceIdeal.Hand.V_main_v0, (hagree c).1, kernel_input]
    have hw : ∀ c, Cert.ReferenceIdeal.Gen.V m' c Cert.ReferenceIdeal.main_arg1 = Cert.KernelIdeal.Gen.V m c Cert.KernelIdeal.main_arg1 := fun c =>
      (Cert.ReferenceIdeal.Gen.V_main_arg1 m' c).trans ((hagree c).2.1.trans (Cert.KernelIdeal.Gen.V_main_arg1 m c).symm)
    have hs : ∀ c (j : Fin 32000), Cert.ReferenceIdeal.Gen.V m' c Cert.ReferenceIdeal.main_v1 (ix2 0 j)
        = Cert.KernelIdeal.Gen.V m c Cert.KernelIdeal.main_v1 (ix2 ⟨j.1 / 128, by omega⟩ ⟨j.1 % 128, by omega⟩) := fun c j => by
      rw [Cert.ReferenceIdeal.Hand.V_main_v1, (hagree c).2.2, kernel_scales]
      exact scales_input _ j
    have ht : ∀ c (r : Fin 64), Tame (fun k => Cert.KernelIdeal.Gen.V m c Cert.KernelIdeal.main_v0 (ix2 r k)) := fun c r => by
      rw [kernel_input]
      exact Cert.Pre_tame.Hand.tame_of _ _ _ (fun j => congrFun (hpre c) j) r
    refine θ_run_and ((θ_run Cert.ReferenceIdeal.defs _ _).mono (fun _ h => h) (Cert.ReferenceIdeal.Hand.run_value (F := Ideal) m' ρ'))
      (Cert.ReferenceIdeal.Gen.unchanged (F := Ideal) m' ρ') |> (θ_run Cert.ReferenceIdeal.defs _ _).mono
        (fun _ h c => ⟨(h.1 c).1.trans ?_, (h.1 c).2.1.trans ?_, (h.1 c).2.2.trans ?_, h.2 c⟩)
    · rw [hv, hw]; exact target_eq _ _ _ _ (hs c) (ht c)
    · rw [hv]; exact codes_eq _ (ht c)
    · rw [hv]; exact scales_eq _ (ht c)

theorem claim : Cert.Claim :=
  ⟨Cert.Kernel.Gen.facts, Cert.KernelIdeal.Gen.facts, Cert.ReferenceIdeal.Gen.facts, Cert.Pre_tame.Gen.facts,
    frame_kernel, frame_kernelIdeal, frame_kernelIdeal_tame, frame_reference, frame_reference_tame, preserves, algebraic⟩

end Cert.Proof

end
